-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15)
      ∧ r.2.mem ((c.tc : Thread Cert.Tail.nD Cert.Tail.τ).loc Cert.Tail.main_arg16) = m ((c.tc : Thread Cert.Tail.nD Cert.Tail.τ).loc Cert.Tail.main_arg16)
      ∧ r.2.mem ((c.tc : Thread Cert.Tail.nD Cert.Tail.τ).loc Cert.Tail.main_arg17) = m ((c.tc : Thread Cert.Tail.nD Cert.Tail.τ).loc Cert.Tail.main_arg17)
      ∧ r.2.mem ((c.tc : Thread Cert.Tail.nD Cert.Tail.τ).loc Cert.Tail.main_arg18) = m ((c.tc : Thread Cert.Tail.nD Cert.Tail.τ).loc Cert.Tail.main_arg18)
      ∧ r.2.mem ((c.tc : Thread Cert.Tail.nD Cert.Tail.τ).loc Cert.Tail.main_arg19) = m ((c.tc : Thread Cert.Tail.nD Cert.Tail.τ).loc Cert.Tail.main_arg19)
      ∧ r.2.mem ((c.tc : Thread Cert.Tail.nD Cert.Tail.τ).loc Cert.Tail.main_arg20) = m ((c.tc : Thread Cert.Tail.nD Cert.Tail.τ).loc Cert.Tail.main_arg20)
      ∧ r.2.mem ((c.tc : Thread Cert.Tail.nD Cert.Tail.τ).loc Cert.Tail.main_arg21) = m ((c.tc : Thread Cert.Tail.nD Cert.Tail.τ).loc Cert.Tail.main_arg21))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
      ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
      ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
      ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
      ∧ r.2.mem ((c.tc : Thread Cert.TailIdeal.nD Cert.TailIdeal.τ).loc Cert.TailIdeal.main_arg19) = m ((c.tc : Thread Cert.TailIdeal.nD Cert.TailIdeal.τ).loc Cert.TailIdeal.main_arg19)
      ∧ r.2.mem ((c.tc : Thread Cert.TailIdeal.nD Cert.TailIdeal.τ).loc Cert.TailIdeal.main_arg20) = m ((c.tc : Thread Cert.TailIdeal.nD Cert.TailIdeal.τ).loc Cert.TailIdeal.main_arg20)
      ∧ r.2.mem ((c.tc : Thread Cert.TailIdeal.nD Cert.TailIdeal.τ).loc Cert.TailIdeal.main_arg21) = m ((c.tc : Thread Cert.TailIdeal.nD Cert.TailIdeal.τ).loc Cert.TailIdeal.main_arg21))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10)
      ∧ r.2.mem ((c.tc : Thread Cert.TailReferenceIdeal.nD Cert.TailReferenceIdeal.τ).loc Cert.TailReferenceIdeal.main_arg11) = m ((c.tc : Thread Cert.TailReferenceIdeal.nD Cert.TailReferenceIdeal.τ).loc Cert.TailReferenceIdeal.main_arg11)
      ∧ r.2.mem ((c.tc : Thread Cert.TailReferenceIdeal.nD Cert.TailReferenceIdeal.τ).loc Cert.TailReferenceIdeal.main_arg12) = m ((c.tc : Thread Cert.TailReferenceIdeal.nD Cert.TailReferenceIdeal.τ).loc Cert.TailReferenceIdeal.main_arg12)
      ∧ r.2.mem ((c.tc : Thread Cert.TailReferenceIdeal.nD Cert.TailReferenceIdeal.τ).loc Cert.TailReferenceIdeal.main_arg13) = m ((c.tc : Thread Cert.TailReferenceIdeal.nD Cert.TailReferenceIdeal.τ).loc Cert.TailReferenceIdeal.main_arg13)
      ∧ r.2.mem ((c.tc : Thread Cert.TailReferenceIdeal.nD Cert.TailReferenceIdeal.τ).loc Cert.TailReferenceIdeal.main_arg14) = m ((c.tc : Thread Cert.TailReferenceIdeal.nD Cert.TailReferenceIdeal.τ).loc Cert.TailReferenceIdeal.main_arg14)
      ∧ r.2.mem ((c.tc : Thread Cert.TailReferenceIdeal.nD Cert.TailReferenceIdeal.τ).loc Cert.TailReferenceIdeal.main_arg15) = m ((c.tc : Thread Cert.TailReferenceIdeal.nD Cert.TailReferenceIdeal.τ).loc Cert.TailReferenceIdeal.main_arg15)
      ∧ r.2.mem ((c.tc : Thread Cert.TailReferenceIdeal.nD Cert.TailReferenceIdeal.τ).loc Cert.TailReferenceIdeal.main_arg16) = m ((c.tc : Thread Cert.TailReferenceIdeal.nD Cert.TailReferenceIdeal.τ).loc Cert.TailReferenceIdeal.main_arg16)
      ∧ r.2.mem ((c.tc : Thread Cert.TailReferenceIdeal.nD Cert.TailReferenceIdeal.τ).loc Cert.TailReferenceIdeal.main_arg17) = m ((c.tc : Thread Cert.TailReferenceIdeal.nD Cert.TailReferenceIdeal.τ).loc Cert.TailReferenceIdeal.main_arg17)
      ∧ r.2.mem ((c.tc : Thread Cert.TailReferenceIdeal.nD Cert.TailReferenceIdeal.τ).loc Cert.TailReferenceIdeal.main_arg18) = m ((c.tc : Thread Cert.TailReferenceIdeal.nD Cert.TailReferenceIdeal.τ).loc Cert.TailReferenceIdeal.main_arg18)
      ∧ r.2.mem ((c.tc : Thread Cert.TailReferenceIdeal.nD Cert.TailReferenceIdeal.τ).loc Cert.TailReferenceIdeal.main_arg19) = m ((c.tc : Thread Cert.TailReferenceIdeal.nD Cert.TailReferenceIdeal.τ).loc Cert.TailReferenceIdeal.main_arg19)
      ∧ r.2.mem ((c.tc : Thread Cert.TailReferenceIdeal.nD Cert.TailReferenceIdeal.τ).loc Cert.TailReferenceIdeal.main_arg20) = m ((c.tc : Thread Cert.TailReferenceIdeal.nD Cert.TailReferenceIdeal.τ).loc Cert.TailReferenceIdeal.main_arg20)
      ∧ r.2.mem ((c.tc : Thread Cert.TailReferenceIdeal.nD Cert.TailReferenceIdeal.τ).loc Cert.TailReferenceIdeal.main_arg21) = m ((c.tc : Thread Cert.TailReferenceIdeal.nD Cert.TailReferenceIdeal.τ).loc Cert.TailReferenceIdeal.main_arg21))
      ∧ r.2.sem = fun _ => 0)

def preserves_Kernel_KernelIdeal : Prop :=
  IdealRules.named_const.Statement Cert.KernelIdeal.κ "qscale" .f32 0x3E16C740#32 (((Real.sqrt 96)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)
      ∧ m' ((c.tc : Thread Cert.TailReferenceIdeal.nD Cert.TailReferenceIdeal.τ).loc Cert.TailReferenceIdeal.main_arg11) = m ((c.tc : Thread Cert.TailIdeal.nD Cert.TailIdeal.τ).loc Cert.TailIdeal.main_arg11)
      ∧ m' ((c.tc : Thread Cert.TailReferenceIdeal.nD Cert.TailReferenceIdeal.τ).loc Cert.TailReferenceIdeal.main_arg12) = m ((c.tc : Thread Cert.TailIdeal.nD Cert.TailIdeal.τ).loc Cert.TailIdeal.main_arg12)
      ∧ m' ((c.tc : Thread Cert.TailReferenceIdeal.nD Cert.TailReferenceIdeal.τ).loc Cert.TailReferenceIdeal.main_arg13) = m ((c.tc : Thread Cert.TailIdeal.nD Cert.TailIdeal.τ).loc Cert.TailIdeal.main_arg13)
      ∧ m' ((c.tc : Thread Cert.TailReferenceIdeal.nD Cert.TailReferenceIdeal.τ).loc Cert.TailReferenceIdeal.main_arg14) = m ((c.tc : Thread Cert.TailIdeal.nD Cert.TailIdeal.τ).loc Cert.TailIdeal.main_arg14)
      ∧ m' ((c.tc : Thread Cert.TailReferenceIdeal.nD Cert.TailReferenceIdeal.τ).loc Cert.TailReferenceIdeal.main_arg15) = m ((c.tc : Thread Cert.TailIdeal.nD Cert.TailIdeal.τ).loc Cert.TailIdeal.main_arg15)
      ∧ m' ((c.tc : Thread Cert.TailReferenceIdeal.nD Cert.TailReferenceIdeal.τ).loc Cert.TailReferenceIdeal.main_arg16) = m ((c.tc : Thread Cert.TailIdeal.nD Cert.TailIdeal.τ).loc Cert.TailIdeal.main_arg16)
      ∧ m' ((c.tc : Thread Cert.TailReferenceIdeal.nD Cert.TailReferenceIdeal.τ).loc Cert.TailReferenceIdeal.main_arg17) = m ((c.tc : Thread Cert.TailIdeal.nD Cert.TailIdeal.τ).loc Cert.TailIdeal.main_arg17)
      ∧ m' ((c.tc : Thread Cert.TailReferenceIdeal.nD Cert.TailReferenceIdeal.τ).loc Cert.TailReferenceIdeal.main_arg18) = m ((c.tc : Thread Cert.TailIdeal.nD Cert.TailIdeal.τ).loc Cert.TailIdeal.main_arg18)
      ∧ m' ((c.tc : Thread Cert.TailReferenceIdeal.nD Cert.TailReferenceIdeal.τ).loc Cert.TailReferenceIdeal.main_arg19) = m ((c.tc : Thread Cert.TailIdeal.nD Cert.TailIdeal.τ).loc Cert.TailIdeal.main_arg19)
      ∧ m' ((c.tc : Thread Cert.TailReferenceIdeal.nD Cert.TailReferenceIdeal.τ).loc Cert.TailReferenceIdeal.main_arg20) = m ((c.tc : Thread Cert.TailIdeal.nD Cert.TailIdeal.τ).loc Cert.TailIdeal.main_arg20)
      ∧ m' ((c.tc : Thread Cert.TailReferenceIdeal.nD Cert.TailReferenceIdeal.τ).loc Cert.TailReferenceIdeal.main_arg21) = m ((c.tc : Thread Cert.TailIdeal.nD Cert.TailIdeal.τ).loc Cert.TailIdeal.main_arg21)) →
    ∃ (v0 : (c : Dev Cert.TailIdeal.nD) → Buf (Elt Ideal) ((c.tc : Thread Cert.TailIdeal.nD Cert.TailIdeal.τ).loc Cert.TailIdeal.main_v22)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v22) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15)
          ∧ r.2.mem ((c.tc : Thread Cert.TailIdeal.nD Cert.TailIdeal.τ).loc Cert.TailIdeal.main_arg16) = m ((c.tc : Thread Cert.TailIdeal.nD Cert.TailIdeal.τ).loc Cert.TailIdeal.main_arg16)
          ∧ r.2.mem ((c.tc : Thread Cert.TailIdeal.nD Cert.TailIdeal.τ).loc Cert.TailIdeal.main_arg17) = m ((c.tc : Thread Cert.TailIdeal.nD Cert.TailIdeal.τ).loc Cert.TailIdeal.main_arg17)
          ∧ r.2.mem ((c.tc : Thread Cert.TailIdeal.nD Cert.TailIdeal.τ).loc Cert.TailIdeal.main_arg18) = m ((c.tc : Thread Cert.TailIdeal.nD Cert.TailIdeal.τ).loc Cert.TailIdeal.main_arg18)
          ∧ r.2.mem ((c.tc : Thread Cert.TailIdeal.nD Cert.TailIdeal.τ).loc Cert.TailIdeal.main_arg19) = m ((c.tc : Thread Cert.TailIdeal.nD Cert.TailIdeal.τ).loc Cert.TailIdeal.main_arg19)
          ∧ r.2.mem ((c.tc : Thread Cert.TailIdeal.nD Cert.TailIdeal.τ).loc Cert.TailIdeal.main_arg20) = m ((c.tc : Thread Cert.TailIdeal.nD Cert.TailIdeal.τ).loc Cert.TailIdeal.main_arg20)
          ∧ r.2.mem ((c.tc : Thread Cert.TailIdeal.nD Cert.TailIdeal.τ).loc Cert.TailIdeal.main_arg21) = m ((c.tc : Thread Cert.TailIdeal.nD Cert.TailIdeal.τ).loc Cert.TailIdeal.main_arg21))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v141) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)
          ∧ r.2.mem ((c.tc : Thread Cert.TailReferenceIdeal.nD Cert.TailReferenceIdeal.τ).loc Cert.TailReferenceIdeal.main_arg11) = m' ((c.tc : Thread Cert.TailReferenceIdeal.nD Cert.TailReferenceIdeal.τ).loc Cert.TailReferenceIdeal.main_arg11)
          ∧ r.2.mem ((c.tc : Thread Cert.TailReferenceIdeal.nD Cert.TailReferenceIdeal.τ).loc Cert.TailReferenceIdeal.main_arg12) = m' ((c.tc : Thread Cert.TailReferenceIdeal.nD Cert.TailReferenceIdeal.τ).loc Cert.TailReferenceIdeal.main_arg12)
          ∧ r.2.mem ((c.tc : Thread Cert.TailReferenceIdeal.nD Cert.TailReferenceIdeal.τ).loc Cert.TailReferenceIdeal.main_arg13) = m' ((c.tc : Thread Cert.TailReferenceIdeal.nD Cert.TailReferenceIdeal.τ).loc Cert.TailReferenceIdeal.main_arg13)
          ∧ r.2.mem ((c.tc : Thread Cert.TailReferenceIdeal.nD Cert.TailReferenceIdeal.τ).loc Cert.TailReferenceIdeal.main_arg14) = m' ((c.tc : Thread Cert.TailReferenceIdeal.nD Cert.TailReferenceIdeal.τ).loc Cert.TailReferenceIdeal.main_arg14)
          ∧ r.2.mem ((c.tc : Thread Cert.TailReferenceIdeal.nD Cert.TailReferenceIdeal.τ).loc Cert.TailReferenceIdeal.main_arg15) = m' ((c.tc : Thread Cert.TailReferenceIdeal.nD Cert.TailReferenceIdeal.τ).loc Cert.TailReferenceIdeal.main_arg15)
          ∧ r.2.mem ((c.tc : Thread Cert.TailReferenceIdeal.nD Cert.TailReferenceIdeal.τ).loc Cert.TailReferenceIdeal.main_arg16) = m' ((c.tc : Thread Cert.TailReferenceIdeal.nD Cert.TailReferenceIdeal.τ).loc Cert.TailReferenceIdeal.main_arg16)
          ∧ r.2.mem ((c.tc : Thread Cert.TailReferenceIdeal.nD Cert.TailReferenceIdeal.τ).loc Cert.TailReferenceIdeal.main_arg17) = m' ((c.tc : Thread Cert.TailReferenceIdeal.nD Cert.TailReferenceIdeal.τ).loc Cert.TailReferenceIdeal.main_arg17)
          ∧ r.2.mem ((c.tc : Thread Cert.TailReferenceIdeal.nD Cert.TailReferenceIdeal.τ).loc Cert.TailReferenceIdeal.main_arg18) = m' ((c.tc : Thread Cert.TailReferenceIdeal.nD Cert.TailReferenceIdeal.τ).loc Cert.TailReferenceIdeal.main_arg18)
          ∧ r.2.mem ((c.tc : Thread Cert.TailReferenceIdeal.nD Cert.TailReferenceIdeal.τ).loc Cert.TailReferenceIdeal.main_arg19) = m' ((c.tc : Thread Cert.TailReferenceIdeal.nD Cert.TailReferenceIdeal.τ).loc Cert.TailReferenceIdeal.main_arg19)
          ∧ r.2.mem ((c.tc : Thread Cert.TailReferenceIdeal.nD Cert.TailReferenceIdeal.τ).loc Cert.TailReferenceIdeal.main_arg20) = m' ((c.tc : Thread Cert.TailReferenceIdeal.nD Cert.TailReferenceIdeal.τ).loc Cert.TailReferenceIdeal.main_arg20)
          ∧ r.2.mem ((c.tc : Thread Cert.TailReferenceIdeal.nD Cert.TailReferenceIdeal.τ).loc Cert.TailReferenceIdeal.main_arg21) = m' ((c.tc : Thread Cert.TailReferenceIdeal.nD Cert.TailReferenceIdeal.τ).loc Cert.TailReferenceIdeal.main_arg21))

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailReferenceIdeal : Cert.TailReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Tail (hTail := hTail)
    ∧ quiescent_TailIdeal (hTailIdeal := hTailIdeal)
    ∧ quiescent_TailReferenceIdeal (hTailReferenceIdeal := hTailReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Tail_TailIdeal
    ∧ algebraic_TailIdeal_TailReferenceIdeal (hTailIdeal := hTailIdeal) (hTailReferenceIdeal := hTailReferenceIdeal)
-- ==== Pre_finite.lean ====
abbrev S32x2048x256 : Shape := ⟨3, ![32, 2048, 256]⟩
abbrev S32x2048x128 : Shape := ⟨3, ![32, 2048, 128]⟩
abbrev S32x2048x32 : Shape := ⟨3, ![32, 2048, 32]⟩
abbrev S32x2048x8 : Shape := ⟨3, ![32, 2048, 8]⟩
abbrev S256 : Shape := ⟨1, ![256]⟩
abbrev S128 : Shape := ⟨1, ![128]⟩
abbrev S256x384 : Shape := ⟨2, ![256, 384]⟩
abbrev S128x512 : Shape := ⟨2, ![128, 512]⟩
abbrev S_ : Shape := ⟨0, ![]⟩

class Facts : Prop where
  bcast_S_S32x2048x32 : S_.BroadcastsInDim S32x2048x32 (![] : Fin 0 → Fin S32x2048x32.rank)
  reducesTo_S32x2048x32_S_d0_1_2 : S32x2048x32.ReducesTo [0, 1, 2] S_
  h_S_ : 0 < S_.numel
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_
  bcast_S_S256x384 : S_.BroadcastsInDim S256x384 (![] : Fin 0 → Fin S256x384.rank)
  reducesTo_S256x384_S_d0_1 : S256x384.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_arg7 : FVec F S128x512 .f32) (main_v13 : IVec S_ 1) (main_v16 : IVec S256x384 1) : IVec S_ 1 :=
  let main_c_5 : IVec S_ 1 := constantI S_ 1 1#1
  let main_v17 : IVec S_ 1 := (fun x v => Host.reduce IntOp.andi x v reducesTo_S256x384_S_d0_1 h_S_) main_v16 main_c_5
  let main_v18 : IVec S_ 1 := andi main_v13 main_v17
  let main_v19 : FVec F S128x512 .f32 := Host.absf main_arg7
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  main_v23

def fn {F : FTy → Type} [FloatOps F] (main_arg0 : FVec F S32x2048x256 .f32) (main_arg1 : FVec F S32x2048x128 .f32) (main_arg2 : FVec F S32x2048x32 .f32) (main_arg3 : FVec F S32x2048x8 .f32) (main_arg4 : FVec F S256 .f32) (main_arg5 : FVec F S128 .f32) (main_arg6 : FVec F S256x384 .f32) (main_arg7 : FVec F S128x512 .f32) : IVec S_ 1 :=
  let main_v0 : FVec F S32x2048x32 .f32 := Host.absf main_arg2
  let main_cst : FVec F S_ .f32 := constant S_ .f32 0x7F800000#32
  let main_v1 : FVec F S32x2048x32 .f32 := broadcastInDim S32x2048x32 ![] bcast_S_S32x2048x32 main_cst
  let main_v2 : IVec S32x2048x32 1 := cmpf .olt main_v0 main_v1
  let main_c : IVec S_ 1 := constantI S_ 1 1#1
  let main_v3 : IVec S_ 1 := (fun x v => Host.reduce IntOp.andi x v reducesTo_S32x2048x32_S_d0_1_2 h_S_) main_v2 main_c
  let main_v4 : FVec F S256 .f32 := Host.absf main_arg4
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x384 .f32 := Host.absf main_arg6
  let main_cst_4 : FVec F S_ .f32 := constant S_ .f32 0x7F800000#32
  let main_v15 : FVec F S256x384 .f32 := broadcastInDim S256x384 ![] bcast_S_S256x384 main_cst_4
  let main_v16 : IVec S256x384 1 := cmpf .olt main_v14 main_v15
  fn_part1 (F := F) main_arg7 main_v13 main_v16
-- ==== Kernel.lean ====
abbrev S32x2048x256 : Shape := ⟨3, ![32, 2048, 256]⟩
abbrev S32x2048x128 : Shape := ⟨3, ![32, 2048, 128]⟩
abbrev S32x2048x32 : Shape := ⟨3, ![32, 2048, 32]⟩
abbrev S32x2048x8 : Shape := ⟨3, ![32, 2048, 8]⟩
abbrev S256 : Shape := ⟨1, ![256]⟩
abbrev S128 : Shape := ⟨1, ![128]⟩
abbrev S256x384 : Shape := ⟨2, ![256, 384]⟩
abbrev S128x512 : Shape := ⟨2, ![128, 512]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x32 : Shape := ⟨2, ![2048, 32]⟩
abbrev S2048x128 : Shape := ⟨2, ![2048, 128]⟩
abbrev S32x2048x384 : Shape := ⟨3, ![32, 2048, 384]⟩
abbrev S32x2048x56 : Shape := ⟨3, ![32, 2048, 56]⟩
abbrev S32x2048x16 : Shape := ⟨3, ![32, 2048, 16]⟩
abbrev S256x4x96 : Shape := ⟨3, ![256, 4, 96]⟩
abbrev S256x4x16 : Shape := ⟨3, ![256, 4, 16]⟩
abbrev S256x4x128 : Shape := ⟨3, ![256, 4, 128]⟩
abbrev S256x512 : Shape := ⟨2, ![256, 512]⟩
abbrev S128x4x128 : Shape := ⟨3, ![128, 4, 128]⟩
abbrev S128x4x64 : Shape := ⟨3, ![128, 4, 64]⟩
abbrev S4 : Shape := ⟨1, ![4]⟩
abbrev S1x4x1 : Shape := ⟨3, ![1, 4, 1]⟩
abbrev S128x1024 : Shape := ⟨2, ![128, 1024]⟩
abbrev S1x256 : Shape := ⟨2, ![1, 256]⟩
abbrev S1x128 : Shape := ⟨2, ![1, 128]⟩
abbrev S1x2048x384 : Shape := ⟨3, ![1, 2048, 384]⟩
abbrev S1x2048x128 : Shape := ⟨3, ![1, 2048, 128]⟩
abbrev S1x2048x256 : Shape := ⟨3, ![1, 2048, 256]⟩
abbrev S2048x512 : Shape := ⟨2, ![2048, 512]⟩
abbrev S2x512x2048 : Shape := ⟨3, ![2, 512, 2048]⟩
abbrev S2x512x1 : Shape := ⟨3, ![2, 512, 1]⟩
abbrev S2048x256 : Shape := ⟨2, ![2048, 256]⟩
abbrev S256x128 : Shape := ⟨2, ![256, 128]⟩
abbrev S128x128 : Shape := ⟨2, ![128, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1x512x2048 : Shape := ⟨3, ![1, 512, 2048]⟩
abbrev S1x512x128 : Shape := ⟨3, ![1, 512, 128]⟩

abbrev nBuf : Space → Nat
  | .hbm => 102
  | .vmem => 17
  | .smem => 0
  | _ => 0

abbrev bufTy : (tb : Table) → Fin (tcTables nBuf tb) → BufTy
  | .hbm, ⟨0, _⟩ => ⟨S32x2048x256, .f32⟩
  | .hbm, ⟨1, _⟩ => ⟨S32x2048x128, .f32⟩
  | .hbm, ⟨2, _⟩ => ⟨S32x2048x32, .f32⟩
  | .hbm, ⟨3, _⟩ => ⟨S32x2048x8, .f32⟩
  | .hbm, ⟨4, _⟩ => ⟨S256, .f32⟩
  | .hbm, ⟨5, _⟩ => ⟨S128, .f32⟩
  | .hbm, ⟨6, _⟩ => ⟨S256x384, .f32⟩
  | .hbm, ⟨7, _⟩ => ⟨S128x512, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S2048, .f32⟩
  | .hbm, ⟨23, _⟩ => ⟨S2048x1, .f32⟩
  | .hbm, ⟨24, _⟩ => ⟨S1x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x16, .f32⟩
  | .hbm, ⟨30, _⟩ => ⟨S_, .f32⟩
  | .hbm, ⟨31, _⟩ => ⟨S2048x64, .f32⟩
  | .hbm, ⟨32, _⟩ => ⟨S_, .f32⟩
  | .hbm, ⟨33, _⟩ => ⟨S2048x32, .f32⟩
  | .hbm, ⟨34, _⟩ => ⟨S2048x128, .f32⟩
  | .hbm, ⟨35, _⟩ => ⟨S_, .f32⟩
  | .hbm, ⟨36, _⟩ => ⟨S2048x64, .f32⟩
  | .hbm, ⟨37, _⟩ => ⟨S2048x16, .f32⟩
  | .hbm, ⟨38, _⟩ => ⟨S_, .f32⟩
  | .hbm, ⟨39, _⟩ => ⟨S2048x32, .f32⟩
  | .hbm, ⟨40, _⟩ => ⟨S2048x128, .f32⟩
  | .hbm, ⟨41, _⟩ => ⟨S32x2048x384, .f32⟩
  | .hbm, ⟨42, _⟩ => ⟨S_, .f32⟩
  | .hbm, ⟨43, _⟩ => ⟨S32x2048x56, .f32⟩
  | .hbm, ⟨44, _⟩ => ⟨S32x2048x16, .f32⟩
  | .hbm, ⟨45, _⟩ => ⟨S_, .f32⟩
  | .hbm, ⟨46, _⟩ => ⟨S32x2048x16, .f32⟩
  | .hbm, ⟨47, _⟩ => ⟨S32x2048x128, .f32⟩
  | .hbm, ⟨48, _⟩ => ⟨S256x4x96, .f32⟩
  | .hbm, ⟨49, _⟩ => ⟨S_, .f32⟩
  | .hbm, ⟨50, _⟩ => ⟨S256x4x16, .f32⟩
  | .hbm, ⟨51, _⟩ => ⟨S256x4x16, .f32⟩
  | .hbm, ⟨52, _⟩ => ⟨S256x4x128, .f32⟩
  | .hbm, ⟨53, _⟩ => ⟨S256x512, .f32⟩
  | .hbm, ⟨54, _⟩ => ⟨S128x4x128, .f32⟩
  | .hbm, ⟨55, _⟩ => ⟨S_, .f32⟩
  | .hbm, ⟨56, _⟩ => ⟨S128x4x64, .f32⟩
  | .hbm, ⟨57, _⟩ => ⟨S128x4x64, .f32⟩
  | .hbm, ⟨58, _⟩ => ⟨S128x4x128, .f32⟩
  | .hbm, ⟨59, _⟩ => ⟨S128x512, .f32⟩
  | .hbm, ⟨60, _⟩ => ⟨S128x4x64, .f32⟩
  | .hbm, ⟨61, _⟩ => ⟨S_, .f32⟩
  | .hbm, ⟨62, _⟩ => ⟨S128x4x64, .f32⟩
  | .hbm, ⟨63, _⟩ => ⟨S4, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S4, .i32⟩
  | .hbm, ⟨71, _⟩ => ⟨S4, .i32⟩
  | .hbm, ⟨72, _⟩ => ⟨S_, .i32⟩
  | .hbm, ⟨73, _⟩ => ⟨S4, .i32⟩
  | .hbm, ⟨74, _⟩ => ⟨S4, .i1⟩
  | .hbm, ⟨75, _⟩ => ⟨S_, .i32⟩
  | .hbm, ⟨76, _⟩ => ⟨S4, .i32⟩
  | .hbm, ⟨77, _⟩ => ⟨S4, .i1⟩
  | .hbm, ⟨78, _⟩ => ⟨S_, .i32⟩
  | .hbm, ⟨79, _⟩ => ⟨S_, .i1⟩
  | .hbm, ⟨80, _⟩ => ⟨S4, .i1⟩
  | .hbm, ⟨81, _⟩ => ⟨S4, .i1⟩
  | .hbm, ⟨82, _⟩ => ⟨S4, .i1⟩
  | .hbm, ⟨83, _⟩ => ⟨S4, .i32⟩
  | .hbm, ⟨84, _⟩ => ⟨S4, .i32⟩
  | .hbm, ⟨85, _⟩ => ⟨S4, .i32⟩
  | .hbm, ⟨86, _⟩ => ⟨S_, .i32⟩
  | .hbm, ⟨87, _⟩ => ⟨S4, .i32⟩
  | .hbm, ⟨88, _⟩ => ⟨S4, .i1⟩
  | .hbm, ⟨89, _⟩ => ⟨S1x4x1, .i1⟩
  | .hbm, ⟨90, _⟩ => ⟨S128x4x64, .i1⟩
  | .hbm, ⟨91, _⟩ => ⟨S128x4x64, .f32⟩
  | .hbm, ⟨92, _⟩ => ⟨S128x4x64, .i1⟩
  | .hbm, ⟨93, _⟩ => ⟨S128x4x64, .f32⟩
  | .hbm, ⟨94, _⟩ => ⟨S128x4x128, .f32⟩
  | .hbm, ⟨95, _⟩ => ⟨S128x512, .f32⟩
  | .hbm, ⟨96, _⟩ => ⟨S256x512, .bf16⟩
  | .hbm, ⟨97, _⟩ => ⟨S128x1024, .f32⟩
  | .hbm, ⟨98, _⟩ => ⟨S128x1024, .bf16⟩
  | .hbm, ⟨99, _⟩ => ⟨S1x256, .f32⟩
  | .hbm, ⟨100, _⟩ => ⟨S1x128, .f32⟩
  | .hbm, ⟨101, _⟩ => ⟨S32x2048x256, .f32⟩
  | .local _ .vmem, ⟨0, _⟩ => ⟨S1x2048x384, .f32⟩
  | .local _ .vmem, ⟨1, _⟩ => ⟨S1x2048x384, .f32⟩
  | .local _ .vmem, ⟨2, _⟩ => ⟨S1x2048x128, .f32⟩
  | .local _ .vmem, ⟨3, _⟩ => ⟨S1x2048x128, .f32⟩
  | .local _ .vmem, ⟨4, _⟩ => ⟨S2048x128, .f32⟩
  | .local _ .vmem, ⟨5, _⟩ => ⟨S2048x128, .f32⟩
  | .local _ .vmem, ⟨6, _⟩ => ⟨S1x256, .f32⟩
  | .local _ .vmem, ⟨7, _⟩ => ⟨S1x128, .f32⟩
  | .local _ .vmem, ⟨8, _⟩ => ⟨S256x512, .bf16⟩
  | .local _ .vmem, ⟨9, _⟩ => ⟨S128x1024, .bf16⟩
  | .local _ .vmem, ⟨10, _⟩ => ⟨S1x2048x256, .f32⟩
  | .local _ .vmem, ⟨11, _⟩ => ⟨S1x2048x256, .f32⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2x512x2048, .bf16⟩
  | .local _ .vmem, ⟨16, _⟩ => ⟨S2x512x1, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_c : Ref sig .tc := ⟨.hbm, 64, rfl⟩
abbrev main_call0_v0 : Ref sig .tc := ⟨.hbm, 65, rfl⟩
abbrev main_call0_c : Ref sig .tc := ⟨.hbm, 66, rfl⟩
abbrev main_call0_v1 : Ref sig .tc := ⟨.hbm, 67, rfl⟩
abbrev main_call0_c_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_c_1 : Ref sig .tc := ⟨.hbm, 72, rfl⟩
abbrev main_call0_v5 : Ref sig .tc := ⟨.hbm, 73, rfl⟩
abbrev main_call0_v6 : Ref sig .tc := ⟨.hbm, 74, rfl⟩
abbrev main_call0_c_2 : Ref sig .tc := ⟨.hbm, 75, rfl⟩
abbrev main_call0_v7 : Ref sig .tc := ⟨.hbm, 76, rfl⟩
abbrev main_call0_v8 : Ref sig .tc := ⟨.hbm, 77, rfl⟩
abbrev main_call0_c_3 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_v12 : Ref sig .tc := ⟨.hbm, 82, rfl⟩
abbrev main_call0_v13 : Ref sig .tc := ⟨.hbm, 83, rfl⟩
abbrev main_call0_v14 : Ref sig .tc := ⟨.hbm, 84, rfl⟩
abbrev main_v43 : Ref sig .tc := ⟨.hbm, 85, rfl⟩
abbrev main_c_12 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_call1_v0 : Ref sig .tc := ⟨.hbm, 90, rfl⟩
abbrev main_v47 : Ref sig .tc := ⟨.hbm, 91, rfl⟩
abbrev main_call2_v0 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c3_i32 : BitVec 32 := 3#32
  let v183 : BitVec 32 := Scalar.addi c0_i32 c3_i32
  let c1_i32 : BitVec 32 := 1#32
  ⟨c0_i32, v183, c1_i32⟩
def k0_mult1 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32 : BitVec 32 := 512#32
  let v293 : BitVec 32 := Scalar.muli arg15 c512_i32
  v293
def k0_off1 (k0_t1 : Fin k0_t1_loop.trips) : Fin 3 → Nat :=
  let c0_197 : Index := 0#32
  let c0_i32 : BitVec 32 := 0#32
  let c1_i32 : BitVec 32 := 1#32
  let arg15 : BitVec 32 := Scf.iv c0_i32 c1_i32 k0_t1
  let c512_i32 : BitVec 32 := 512#32
  let v293 : BitVec 32 := Scalar.muli arg15 c512_i32
  let v294 : BitVec 32 := v293
  let v295 : Index := Scalar.indexCast v294
  let c0_198 : Index := 0#32
  ![0, v295.toNat, 0]
def k0_mult2 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32_199 : BitVec 32 := 512#32
  let v299 : BitVec 32 := Scalar.muli arg15 c512_i32_199
  v299
def k0_off2 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32_199 : BitVec 32 := 512#32
  let v299 : BitVec 32 := Scalar.muli arg15 c512_i32_199
  let v300 : BitVec 32 := v299
  let v301 : Index := Scalar.indexCast v300
  let c128_200 : Index := 128#32
  ![v301.toNat, 128]
def k0_mult3 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32_221 : BitVec 32 := 512#32
  let v327 : BitVec 32 := Scalar.muli arg15 c512_i32_221
  v327
def k0_mult4 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32_226 : BitVec 32 := 512#32
  let v337 : BitVec 32 := Scalar.muli arg15 c512_i32_226
  v337
def k0_off3 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32_226 : BitVec 32 := 512#32
  let v337 : BitVec 32 := Scalar.muli arg15 c512_i32_226
  let v338 : BitVec 32 := v337
  let v339 : Index := Scalar.indexCast v338
  let c256_227 : Index := 256#32
  ![v339.toNat, 256]
def k0_mult5 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32_248 : BitVec 32 := 512#32
  let v365 : BitVec 32 := Scalar.muli arg15 c512_i32_248
  v365
def k0_off4 (k0_t1 : Fin k0_t1_loop.trips) : Fin 3 → Nat :=
  let c0_249 : Index := 0#32
  let c0_i32 : BitVec 32 := 0#32
  let c1_i32 : BitVec 32 := 1#32
  let arg15 : BitVec 32 := Scf.iv c0_i32 c1_i32 k0_t1
  let c512_i32_248 : BitVec 32 := 512#32
  let v365 : BitVec 32 := Scalar.muli arg15 c512_i32_248
  let v366 : BitVec 32 := v365
  let v367 : Index := Scalar.indexCast v366
  let c128_250 : Index := 128#32
  ![0, v367.toNat, 128]
def k0_mult6 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32_251 : BitVec 32 := 512#32
  let v371 : BitVec 32 := Scalar.muli arg15 c512_i32_251
  v371
def k0_off5 (k0_t1 : Fin k0_t1_loop.trips) : Fin 2 → Nat :=
  let c0_i32 : BitVec 32 := 0#32
  let c1_i32 : BitVec 32 := 1#32
  let arg15 : BitVec 32 := Scf.iv c0_i32 c1_i32 k0_t1
  let c512_i32_251 : BitVec 32 := 512#32
  let v371 : BitVec 32 := Scalar.muli arg15 c512_i32_251
  let v372 : BitVec 32 := v371
  let v373 : Index := Scalar.indexCast v372
  let c384_252 : Index := 384#32
  ![v373.toNat, 384]
def k0_mult7 (k0_t1 : Fin k0_t1_loop.trips) : BitVec 32 :=
  let c0_i32 : BitVec 32 := 0#32
  let c1_i32 : BitVec 32 := 1#32
  let arg15 : BitVec 32 := Scf.iv c0_i32 c1_i32 k0_t1
  let c512_i32_273 : BitVec 32 := 512#32
  let v399 : BitVec 32 := Scalar.muli arg15 c512_i32_273
  v399
def k0_mult8 (k0_t1 : Fin k0_t1_loop.trips) : BitVec 32 :=
  let c0_i32 : BitVec 32 := 0#32
  let c1_i32 : BitVec 32 := 1#32
  let arg15 : BitVec 32 := Scf.iv c0_i32 c1_i32 k0_t1
  let c1_i32_278 : BitVec 32 := 1#32
  let v409 : BitVec 32 := Scalar.addi arg15 c1_i32_278
  let c512_i32_279 : BitVec 32 := 512#32
  let v410 : BitVec 32 := Scalar.muli v409 c512_i32_279
  v410
def k0_off6 (k0_t1 : Fin k0_t1_loop.trips) : Fin 2 → Nat :=
  let c0_i32 : BitVec 32 := 0#32
  let c1_i32 : BitVec 32 := 1#32
  let arg15 : BitVec 32 := Scf.iv c0_i32 c1_i32 k0_t1
  let c1_i32_278 : BitVec 32 := 1#32
  let v409 : BitVec 32 := Scalar.addi arg15 c1_i32_278
  let c512_i32_279 : BitVec 32 := 512#32
  let v410 : BitVec 32 := Scalar.muli v409 c512_i32_279
  let v411 : BitVec 32 := v410
  let v412 : Index := Scalar.indexCast v411
  let c0_280 : Index := 0#32
  ![v412.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "qscale" => some (((Real.sqrt 96)⁻¹ * (Real.log 2)⁻¹ : ℝ) : EReal)
  | _ => none
-- ==== ReferenceIdeal.lean ====
abbrev S32x2048x256 : Shape := ⟨3, ![32, 2048, 256]⟩
abbrev S32x2048x128 : Shape := ⟨3, ![32, 2048, 128]⟩
abbrev S32x2048x32 : Shape := ⟨3, ![32, 2048, 32]⟩
abbrev S32x2048x8 : Shape := ⟨3, ![32, 2048, 8]⟩
abbrev S256 : Shape := ⟨1, ![256]⟩
abbrev S128 : Shape := ⟨1, ![128]⟩
abbrev S256x384 : Shape := ⟨2, ![256, 384]⟩
abbrev S128x512 : Shape := ⟨2, ![128, 512]⟩
abbrev S16 : Shape := ⟨1, ![16]⟩
abbrev S_ : Shape := ⟨0, ![]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S32x2048 : Shape := ⟨2, ![32, 2048]⟩
abbrev S32x2048x1 : Shape := ⟨3, ![32, 2048, 1]⟩
abbrev S1x1x256 : Shape := ⟨3, ![1, 1, 256]⟩
abbrev S32x2048x384 : Shape := ⟨3, ![32, 2048, 384]⟩
abbrev S32x2048x4x96 : Shape := ⟨4, ![32, 2048, 4, 96]⟩
abbrev S32x2048x4x64 : Shape := ⟨4, ![32, 2048, 4, 64]⟩
abbrev S32x2048x4x32 : Shape := ⟨4, ![32, 2048, 4, 32]⟩
abbrev S2048x1x16 : Shape := ⟨3, ![2048, 1, 16]⟩
abbrev S32x2048x4x16 : Shape := ⟨4, ![32, 2048, 4, 16]⟩
abbrev S1x2048x1x16 : Shape := ⟨4, ![1, 2048, 1, 16]⟩
abbrev S1x1x128 : Shape := ⟨3, ![1, 1, 128]⟩
abbrev S32x2048x512 : Shape := ⟨3, ![32, 2048, 512]⟩
abbrev S32x2048x4x128 : Shape := ⟨4, ![32, 2048, 4, 128]⟩
abbrev S32x2048x16 : Shape := ⟨3, ![32, 2048, 16]⟩
abbrev S1x2048x16 : Shape := ⟨3, ![1, 2048, 16]⟩
abbrev S32x4x2048x2048 : Shape := ⟨4, ![32, 4, 2048, 2048]⟩
abbrev S32x2048x2048x4 : Shape := ⟨4, ![32, 2048, 2048, 4]⟩
abbrev S32x4x2048 : Shape := ⟨3, ![32, 4, 2048]⟩
abbrev S32x4x2048x1 : Shape := ⟨4, ![32, 4, 2048, 1]⟩
abbrev S32x4x64x2048 : Shape := ⟨4, ![32, 4, 64, 2048]⟩

abbrev nBuf : Space → Nat
  | .hbm => 133
  | .vmem => 0
  | .smem => 0
  | _ => 0

abbrev hbmTy0_0 (i : Nat) : BufTy := match i % 128 with
  | 0 => ⟨S32x2048x256, .f32⟩
  | 1 => ⟨S32x2048x128, .f32⟩
  | 2 => ⟨S32x2048x32, .f32⟩
  | 3 => ⟨S32x2048x8, .f32⟩
  | 4 => ⟨S256, .f32⟩
  | 5 => ⟨S128, .f32⟩
  | 6 => ⟨S256x384, .f32⟩
  | 7 => ⟨S128x512, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S2048, .f32⟩
  | 23 => ⟨S2048x1, .f32⟩
  | 24 => ⟨S1x16, .f32⟩
  | 25 => ⟨S2048x16, .f32⟩
  | 26 => ⟨S2048x16, .f32⟩
  | 27 => ⟨S2048x16, .f32⟩
  | 28 => ⟨S2048x16, .f32⟩
  | 29 => ⟨S2048x16, .f32⟩
  | 30 => ⟨S32x2048x256, .f32⟩
  | 31 => ⟨S_, .f32⟩
  | 32 => ⟨S32x2048, .f32⟩
  | 33 => ⟨S32x2048x1, .f32⟩
  | 34 => ⟨S_, .f32⟩
  | 35 => ⟨S32x2048x1, .f32⟩
  | 36 => ⟨S32x2048x1, .f32⟩
  | 37 => ⟨S_, .f32⟩
  | 38 => ⟨S32x2048x1, .f32⟩
  | 39 => ⟨S32x2048x1, .f32⟩
  | 40 => ⟨S32x2048x1, .f32⟩
  | 41 => ⟨S32x2048x256, .f32⟩
  | 42 => ⟨S32x2048x256, .f32⟩
  | 43 => ⟨S1x1x256, .f32⟩
  | 44 => ⟨S32x2048x256, .f32⟩
  | 45 => ⟨S32x2048x256, .f32⟩
  | 46 => ⟨S32x2048x384, .f32⟩
  | 47 => ⟨S32x2048x4x96, .f32⟩
  | 48 => ⟨S32x2048x4x64, .f32⟩
  | 49 => ⟨S32x2048x4x32, .f32⟩
  | 50 => ⟨S2048x1x16, .f32⟩
  | 51 => ⟨S2048x1x16, .f32⟩
  | 52 => ⟨S32x2048x4x16, .f32⟩
  | 53 => ⟨S32x2048x4x16, .f32⟩
  | 54 => ⟨S1x2048x1x16, .f32⟩
  | 55 => ⟨S32x2048x4x16, .f32⟩
  | 56 => ⟨S32x2048x4x16, .f32⟩
  | 57 => ⟨S1x2048x1x16, .f32⟩
  | 58 => ⟨S32x2048x4x16, .f32⟩
  | 59 => ⟨S32x2048x4x16, .f32⟩
  | 60 => ⟨S32x2048x4x16, .f32⟩
  | 61 => ⟨S1x2048x1x16, .f32⟩
  | 62 => ⟨S32x2048x4x16, .f32⟩
  | 63 => ⟨S32x2048x4x16, .f32⟩
  | 64 => ⟨S1x2048x1x16, .f32⟩
  | 65 => ⟨S32x2048x4x16, .f32⟩
  | 66 => ⟨S32x2048x4x16, .f32⟩
  | 67 => ⟨S32x2048x4x16, .f32⟩
  | 68 => ⟨S32x2048x4x32, .f32⟩
  | 69 => ⟨S32x2048x128, .f32⟩
  | 70 => ⟨S_, .f32⟩
  | 71 => ⟨S32x2048, .f32⟩
  | 72 => ⟨S32x2048x1, .f32⟩
  | 73 => ⟨S_, .f32⟩
  | 74 => ⟨S32x2048x1, .f32⟩
  | 75 => ⟨S32x2048x1, .f32⟩
  | 76 => ⟨S_, .f32⟩
  | 77 => ⟨S32x2048x1, .f32⟩
  | 78 => ⟨S32x2048x1, .f32⟩
  | 79 => ⟨S32x2048x1, .f32⟩
  | 80 => ⟨S32x2048x128, .f32⟩
  | 81 => ⟨S32x2048x128, .f32⟩
  | 82 => ⟨S1x1x128, .f32⟩
  | 83 => ⟨S32x2048x128, .f32⟩
  | 84 => ⟨S32x2048x128, .f32⟩
  | 85 => ⟨S32x2048x512, .f32⟩
  | 86 => ⟨S32x2048x4x128, .f32⟩
  | 87 => ⟨S32x2048x4x64, .f32⟩
  | 88 => ⟨S32x2048x4x64, .f32⟩
  | 89 => ⟨S32x2048x16, .f32⟩
  | 90 => ⟨S32x2048x16, .f32⟩
  | 91 => ⟨S1x2048x16, .f32⟩
  | 92 => ⟨S32x2048x16, .f32⟩
  | 93 => ⟨S32x2048x16, .f32⟩
  | 94 => ⟨S1x2048x16, .f32⟩
  | 95 => ⟨S32x2048x16, .f32⟩
  | 96 => ⟨S32x2048x16, .f32⟩
  | 97 => ⟨S32x2048x16, .f32⟩
  | 98 => ⟨S1x2048x16, .f32⟩
  | 99 => ⟨S32x2048x16, .f32⟩
  | 100 => ⟨S32x2048x16, .f32⟩
  | 101 => ⟨S1x2048x16, .f32⟩
  | 102 => ⟨S32x2048x16, .f32⟩
  | 103 => ⟨S32x2048x16, .f32⟩
  | 104 => ⟨S32x2048x16, .f32⟩
  | 105 => ⟨S32x2048x32, .f32⟩
  | 106 => ⟨S_, .f32⟩
  | 107 => ⟨S_, .f32⟩
  | 108 => ⟨S_, .f32⟩
  | 109 => ⟨S_, .f32⟩
  | 110 => ⟨S32x4x2048x2048, .f32⟩
  | 111 => ⟨S32x2048x2048x4, .f32⟩
  | 112 => ⟨S32x4x2048x2048, .f32⟩
  | 113 => ⟨S32x4x2048x2048, .f32⟩
  | 114 => ⟨S32x4x2048x2048, .f32⟩
  | 115 => ⟨S32x4x2048x2048, .f32⟩
  | 116 => ⟨S_, .f32⟩
  | 117 => ⟨S32x4x2048, .f32⟩
  | 118 => ⟨S_, .f32⟩
  | 119 => ⟨S32x4x2048, .f32⟩
  | 120 => ⟨S32x4x2048, .f32⟩
  | 121 => ⟨S32x4x2048x1, .f32⟩
  | 122 => ⟨S32x4x2048x2048, .f32⟩
  | 123 => ⟨S32x4x2048x2048, .f32⟩
  | 124 => ⟨S32x4x2048x2048, .f32⟩
  | 125 => ⟨S_, .f32⟩
  | 126 => ⟨S32x4x2048, .f32⟩
  | 127 => ⟨S32x4x2048x1, .f32⟩
  | _ => ⟨S32x2048x256, .f32⟩

abbrev hbmTy0_1 (i : Nat) : BufTy := match i % 128 with
  | 0 => ⟨S32x4x2048x2048, .f32⟩
  | 1 => ⟨S32x4x2048x2048, .f32⟩
  | 2 => ⟨S32x4x64x2048, .f32⟩
  | 3 => ⟨S32x2048x4x64, .f32⟩
  | 4 => ⟨S32x2048x256, .f32⟩
  | _ => ⟨S32x2048x256, .f32⟩

abbrev hbmTy (i : Nat) : BufTy := match i / 128 with
  | 0 => hbmTy0_0 i
  | 1 => hbmTy0_1 i
  | _ => ⟨S32x2048x256, .f32⟩

abbrev bufTy : (tb : Table) → Fin (tcTables nBuf tb) → BufTy
  | .hbm, ⟨i, _⟩ => hbmTy i
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_6 : Ref sig .tc := ⟨.hbm, 70, rfl⟩
abbrev main_v55 : Ref sig .tc := ⟨.hbm, 71, rfl⟩
abbrev main_v56 : Ref sig .tc := ⟨.hbm, 72, rfl⟩
abbrev main_cst_7 : Ref sig .tc := ⟨.hbm, 73, rfl⟩
abbrev main_v57 : Ref sig .tc := ⟨.hbm, 74, rfl⟩
abbrev main_v58 : Ref sig .tc := ⟨.hbm, 75, rfl⟩
abbrev main_cst_8 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_9 : Ref sig .tc := ⟨.hbm, 106, rfl⟩
abbrev main_v88 : Ref sig .tc := ⟨.hbm, 107, rfl⟩
abbrev main_cst_10 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_cst_11 : Ref sig .tc := ⟨.hbm, 116, rfl⟩
abbrev main_v96 : Ref sig .tc := ⟨.hbm, 117, rfl⟩
abbrev main_cst_12 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_13 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩

abbrev nD : Nat := 1
abbrev τ : Topo := Topo.v7x

variable {F : FTy → Type} [FloatOps F]
-- ==== Tail.lean ====
abbrev S32x2048x256 : Shape := ⟨3, ![32, 2048, 256]⟩
abbrev S32x2048x1024 : Shape := ⟨3, ![32, 2048, 1024]⟩
abbrev S2x32x2048x256 : Shape := ⟨4, ![2, 32, 2048, 256]⟩
abbrev S1024 : Shape := ⟨1, ![1024]⟩
abbrev S1024x1024 : Shape := ⟨2, ![1024, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S1x1024 : Shape := ⟨2, ![1, 1024]⟩
abbrev S1x2816 : Shape := ⟨2, ![1, 2816]⟩
abbrev S65536x256 : Shape := ⟨2, ![65536, 256]⟩
abbrev S256x65536 : Shape := ⟨2, ![256, 65536]⟩
abbrev S65536x1024 : Shape := ⟨2, ![65536, 1024]⟩
abbrev S2x65536x256 : Shape := ⟨3, ![2, 65536, 256]⟩
abbrev S16x256 : Shape := ⟨2, ![16, 256]⟩
abbrev S512x256 : Shape := ⟨2, ![512, 256]⟩
abbrev S256x128 : Shape := ⟨2, ![256, 128]⟩
abbrev S256x512 : Shape := ⟨2, ![256, 512]⟩
abbrev S16x1024 : Shape := ⟨2, ![16, 1024]⟩
abbrev S512x1024 : Shape := ⟨2, ![512, 1024]⟩
abbrev S1x512x256 : Shape := ⟨3, ![1, 512, 256]⟩
abbrev S544x256 : Shape := ⟨2, ![544, 256]⟩
abbrev S1x256 : Shape := ⟨2, ![1, 256]⟩
abbrev S544 : Shape := ⟨1, ![544]⟩
abbrev S544x1 : Shape := ⟨2, ![544, 1]⟩
abbrev S128x256 : Shape := ⟨2, ![128, 256]⟩
abbrev S544x1024 : Shape := ⟨2, ![544, 1024]⟩
abbrev S512x1 : Shape := ⟨2, ![512, 1]⟩
abbrev S1024x1408 : Shape := ⟨2, ![1024, 1408]⟩
abbrev S544x1408 : Shape := ⟨2, ![544, 1408]⟩
abbrev S512x1408 : Shape := ⟨2, ![512, 1408]⟩
abbrev S1x1408 : Shape := ⟨2, ![1, 1408]⟩
abbrev S1408x1024 : Shape := ⟨2, ![1408, 1024]⟩
abbrev S512 : Shape := ⟨1, ![512]⟩

abbrev nBuf : Space → Nat
  | .hbm => 45
  | .vmem => 50
  | .smem => 0
  | _ => 0

abbrev bufTy : (tb : Table) → Fin (tcTables nBuf tb) → BufTy
  | .hbm, ⟨0, _⟩ => ⟨S32x2048x256, .f32⟩
  | .hbm, ⟨1, _⟩ => ⟨S32x2048x256, .f32⟩
  | .hbm, ⟨2, _⟩ => ⟨S32x2048x256, .f32⟩
  | .hbm, ⟨3, _⟩ => ⟨S32x2048x256, .f32⟩
  | .hbm, ⟨4, _⟩ => ⟨S32x2048x1024, .f32⟩
  | .hbm, ⟨5, _⟩ => ⟨S2x32x2048x256, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S3x2816, .f32⟩
  | .hbm, ⟨13, _⟩ => ⟨S2816, .f32⟩
  | .hbm, ⟨14, _⟩ => ⟨S2816x1024, .f32⟩
  | .hbm, ⟨15, _⟩ => ⟨S1024, .f32⟩
  | .hbm, ⟨16, _⟩ => ⟨S1024, .f32⟩
  | .hbm, ⟨17, _⟩ => ⟨S256x1024, .f32⟩
  | .hbm, ⟨18, _⟩ => ⟨S1024x1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S1024x1024, .bf16⟩
  | .hbm, ⟨24, _⟩ => ⟨S1x1024, .f32⟩
  | .hbm, ⟨25, _⟩ => ⟨S1x1024, .f32⟩
  | .hbm, ⟨26, _⟩ => ⟨S1024x2816, .bf16⟩
  | .hbm, ⟨27, _⟩ => ⟨S1024x2816, .bf16⟩
  | .hbm, ⟨28, _⟩ => ⟨S1x2816, .f32⟩
  | .hbm, ⟨29, _⟩ => ⟨S2816x1024, .bf16⟩
  | .hbm, ⟨30, _⟩ => ⟨S1x1024, .f32⟩
  | .hbm, ⟨31, _⟩ => ⟨S1x1024, .f32⟩
  | .hbm, ⟨32, _⟩ => ⟨S256x1024, .bf16⟩
  | .hbm, ⟨33, _⟩ => ⟨S1024x1024, .bf16⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S65536x256, .f32⟩
  | .hbm, ⟨38, _⟩ => ⟨S65536x256, .f32⟩
  | .hbm, ⟨39, _⟩ => ⟨S256x65536, .f32⟩
  | .hbm, ⟨40, _⟩ => ⟨S65536x256, .f32⟩
  | .hbm, ⟨41, _⟩ => ⟨S65536x256, .f32⟩
  | .hbm, ⟨42, _⟩ => ⟨S65536x1024, .f32⟩
  | .hbm, ⟨43, _⟩ => ⟨S2x65536x256, .f32⟩
  | .hbm, ⟨44, _⟩ => ⟨S65536x1024, .f32⟩
  | .local _ .vmem, ⟨0, _⟩ => ⟨S16x256, .f32⟩
  | .local _ .vmem, ⟨1, _⟩ => ⟨S16x256, .f32⟩
  | .local _ .vmem, ⟨2, _⟩ => ⟨S512x256, .f32⟩
  | .local _ .vmem, ⟨3, _⟩ => ⟨S512x256, .f32⟩
  | .local _ .vmem, ⟨4, _⟩ => ⟨S16x256, .f32⟩
  | .local _ .vmem, ⟨5, _⟩ => ⟨S16x256, .f32⟩
  | .local _ .vmem, ⟨6, _⟩ => ⟨S256x128, .f32⟩
  | .local _ .vmem, ⟨7, _⟩ => ⟨S256x128, .f32⟩
  | .local _ .vmem, ⟨8, _⟩ => ⟨S256x512, .f32⟩
  | .local _ .vmem, ⟨9, _⟩ => ⟨S256x512, .f32⟩
  | .local _ .vmem, ⟨10, _⟩ => ⟨S256x128, .f32⟩
  | .local _ .vmem, ⟨11, _⟩ => ⟨S256x128, .f32⟩
  | .local _ .vmem, ⟨12, _⟩ => ⟨S16x256, .f32⟩
  | .local _ .vmem, ⟨13, _⟩ => ⟨S16x256, .f32⟩
  | .local _ .vmem, ⟨14, _⟩ => ⟨S512x256, .f32⟩
  | .local _ .vmem, ⟨15, _⟩ => ⟨S512x256, .f32⟩
  | .local _ .vmem, ⟨16, _⟩ => ⟨S16x256, .f32⟩
  | .local _ .vmem, ⟨17, _⟩ => ⟨S16x256, .f32⟩
  | .local _ .vmem, ⟨18, _⟩ => ⟨S16x256, .f32⟩
  | .local _ .vmem, ⟨19, _⟩ => ⟨S16x256, .f32⟩
  | .local _ .vmem, ⟨20, _⟩ => ⟨S512x256, .f32⟩
  | .local _ .vmem, ⟨21, _⟩ => ⟨S512x256, .f32⟩
  | .local _ .vmem, ⟨22, _⟩ => ⟨S16x256, .f32⟩
  | .local _ .vmem, ⟨23, _⟩ => ⟨S16x256, .f32⟩
  | .local _ .vmem, ⟨24, _⟩ => ⟨S16x1024, .f32⟩
  | .local _ .vmem, ⟨25, _⟩ => ⟨S16x1024, .f32⟩
  | .local _ .vmem, ⟨26, _⟩ => ⟨S512x1024, .f32⟩
  | .local _ .vmem, ⟨27, _⟩ => ⟨S512x1024, .f32⟩
  | .local _ .vmem, ⟨28, _⟩ => ⟨S16x1024, .f32⟩
  | .local _ .vmem, ⟨29, _⟩ => ⟨S16x1024, .f32⟩
  | .local _ .vmem, ⟨30, _⟩ => ⟨S1x512x256, .f32⟩
  | .local _ .vmem, ⟨31, _⟩ => ⟨S1x512x256, .f32⟩
  | .local _ .vmem, ⟨32, _⟩ => ⟨S1x1024, .f32⟩
  | .local _ .vmem, ⟨33, _⟩ => ⟨S1024x1024, .bf16⟩
  | .local _ .vmem, ⟨34, _⟩ => ⟨S1x1024, .f32⟩
  | .local _ .vmem, ⟨35, _⟩ => ⟨S1x1024, .f32⟩
  | .local _ .vmem, ⟨36, _⟩ => ⟨S1024x2816, .bf16⟩
  | .local _ .vmem, ⟨37, _⟩ => ⟨S1024x2816, .bf16⟩
  | .local _ .vmem, ⟨38, _⟩ => ⟨S3x2816, .f32⟩
  | .local _ .vmem, ⟨39, _⟩ => ⟨S1x2816, .f32⟩
  | .local _ .vmem, ⟨40, _⟩ => ⟨S2816x1024, .bf16⟩
  | .local _ .vmem, ⟨41, _⟩ => ⟨S1x1024, .f32⟩
  | .local _ .vmem, ⟨42, _⟩ => ⟨S1x1024, .f32⟩
  | .local _ .vmem, ⟨43, _⟩ => ⟨S256x1024, .bf16⟩
  | .local _ .vmem, ⟨44, _⟩ => ⟨S1024x1024, .bf16⟩
  | .local _ .vmem, ⟨45, _⟩ => ⟨S1x1024, .f32⟩
  | .local _ .vmem, ⟨46, _⟩ => ⟨S1x1024, .f32⟩
  | .local _ .vmem, ⟨47, _⟩ => ⟨S1x1024, .f32⟩
  | .local _ .vmem, ⟨48, _⟩ => ⟨S512x1024, .f32⟩
  | .local _ .vmem, ⟨49, _⟩ => ⟨S512x1024, .f32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg17_0 : Ref sig .tc := ⟨.vmem, 33, rfl⟩
abbrev cc0_stg18_0 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg24_0 : Ref sig .tc := ⟨.vmem, 40, rfl⟩
abbrev cc0_stg25_0 : Ref sig .tc := ⟨.vmem, 41, rfl⟩
abbrev cc0_stg26_0 : Ref sig .tc := ⟨.vmem, 42, rfl⟩
abbrev cc0_stg27_0 : Ref sig .tc := ⟨.vmem, 43, rfl⟩
abbrev cc0_stg28_0 : Ref sig .tc := ⟨.vmem, 44, rfl⟩
abbrev cc0_stg29_0 : Ref sig .tc := ⟨.vmem, 45, rfl⟩
abbrev cc0_stg30_0 : Ref sig .tc := ⟨.vmem, 46, rfl⟩
abbrev cc0_stg31_0 : Ref sig .tc := ⟨.vmem, 47, rfl⟩
abbrev cc0_stg32_0 : Ref sig .tc := ⟨.vmem, 48, rfl⟩
abbrev cc0_stg32_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem17_0 : DmaSem sig := 33
abbrev cc0_sem18_0 : DmaSem sig := 34
abbrev cc0_sem19_0 : DmaSem sig := 35
abbrev cc0_sem20_0 : DmaSem sig := 36
abbrev cc0_sem21_0 : DmaSem sig := 37
abbrev cc0_sem22_0 : DmaSem sig := 38
abbrev cc0_sem23_0 : DmaSem sig := 39
abbrev cc0_sem24_0 : DmaSem sig := 40
abbrev cc0_sem25_0 : DmaSem sig := 41
abbrev cc0_sem26_0 : DmaSem sig := 42
abbrev cc0_sem27_0 : DmaSem sig := 43
abbrev cc0_sem28_0 : DmaSem sig := 44
abbrev cc0_sem29_0 : DmaSem sig := 45
abbrev cc0_sem30_0 : DmaSem sig := 46
abbrev cc0_sem31_0 : DmaSem sig := 47
abbrev cc0_sem32_0 : DmaSem sig := 48
abbrev cc0_sem32_1 : DmaSem sig := 49

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c511_i32 : BitVec 32 := 511#32
  let v2 : BitVec 32 := Scalar.minsi v1 c511_i32
  let c0_i32 : BitVec 32 := 0#32
  let c0_i32_0 : BitVec 32 := 0#32
  ![c0_i32.toNat, v2.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_12 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_15 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x2816 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x2816 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S3x2816 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x2816 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S2816x1024 .bf16 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S256x1024 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1024x1024 .bf16 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 2 → Memref sig .tc .vmem S512x1024 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]
-- ==== TailReferenceIdeal.lean ====
abbrev S32x2048x256 : Shape := ⟨3, ![32, 2048, 256]⟩
abbrev S32x2048x1024 : Shape := ⟨3, ![32, 2048, 1024]⟩
abbrev S2x32x2048x256 : Shape := ⟨4, ![2, 32, 2048, 256]⟩
abbrev S1024 : Shape := ⟨1, ![1024]⟩
abbrev S1024x1024 : Shape := ⟨2, ![1024, 1024]⟩
abbrev S1024x2816 : Shape := ⟨2, ![1024, 2816]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S32x2048x4x256 : Shape := ⟨4, ![32, 2048, 4, 256]⟩
abbrev S_ : Shape := ⟨0, ![]⟩
abbrev S32x2048x4 : Shape := ⟨3, ![32, 2048, 4]⟩
abbrev S32x2048x4x1 : Shape := ⟨4, ![32, 2048, 4, 1]⟩
abbrev S1x1x1024 : Shape := ⟨3, ![1, 1, 1024]⟩
abbrev S32x2048 : Shape := ⟨2, ![32, 2048]⟩
abbrev S32x2048x1 : Shape := ⟨3, ![32, 2048, 1]⟩
abbrev S32x2048x2816 : Shape := ⟨3, ![32, 2048, 2816]⟩
abbrev S32x2050x2816 : Shape := ⟨3, ![32, 2050, 2816]⟩
abbrev S1x2816 : Shape := ⟨2, ![1, 2816]⟩
abbrev S1x1x2816 : Shape := ⟨3, ![1, 1, 2816]⟩
abbrev S1x32x2048x256 : Shape := ⟨4, ![1, 32, 2048, 256]⟩
abbrev S65536x1024 : Shape := ⟨2, ![65536, 1024]⟩

abbrev nBuf : Space → Nat
  | .hbm => 197
  | .vmem => 0
  | .smem => 0
  | _ => 0

abbrev hbmTy0_0 (i : Nat) : BufTy := match i % 128 with
  | 0 => ⟨S32x2048x256, .f32⟩
  | 1 => ⟨S32x2048x256, .f32⟩
  | 2 => ⟨S32x2048x256, .f32⟩
  | 3 => ⟨S32x2048x256, .f32⟩
  | 4 => ⟨S32x2048x1024, .f32⟩
  | 5 => ⟨S2x32x2048x256, .f32⟩
  | 6 => ⟨S1024, .f32⟩
  | 7 => ⟨S1024x1024, .f32⟩
  | 8 => ⟨S1024, .f32⟩
  | 9 => ⟨S1024, .f32⟩
  | 10 => ⟨S1024x2816, .f32⟩
  | 11 => ⟨S1024x2816, .f32⟩
  | 12 => ⟨S3x2816, .f32⟩
  | 13 => ⟨S2816, .f32⟩
  | 14 => ⟨S2816x1024, .f32⟩
  | 15 => ⟨S1024, .f32⟩
  | 16 => ⟨S1024, .f32⟩
  | 17 => ⟨S256x1024, .f32⟩
  | 18 => ⟨S1024x1024, .f32⟩
  | 19 => ⟨S1024, .f32⟩
  | 20 => ⟨S1024, .f32⟩
  | 21 => ⟨S1024, .f32⟩
  | 22 => ⟨S32x2048x1024, .f32⟩
  | 23 => ⟨S32x2048x4x256, .f32⟩
  | 24 => ⟨S32x2048x4x256, .f32⟩
  | 25 => ⟨S_, .f32⟩
  | 26 => ⟨S32x2048x4, .f32⟩
  | 27 => ⟨S32x2048x4x1, .f32⟩
  | 28 => ⟨S_, .f32⟩
  | 29 => ⟨S32x2048x4x1, .f32⟩
  | 30 => ⟨S32x2048x4x1, .f32⟩
  | 31 => ⟨S_, .f32⟩
  | 32 => ⟨S32x2048x4x1, .f32⟩
  | 33 => ⟨S32x2048x4x1, .f32⟩
  | 34 => ⟨S32x2048x4x1, .f32⟩
  | 35 => ⟨S32x2048x4x256, .f32⟩
  | 36 => ⟨S32x2048x4x256, .f32⟩
  | 37 => ⟨S32x2048x1024, .f32⟩
  | 38 => ⟨S1x1x1024, .f32⟩
  | 39 => ⟨S32x2048x1024, .f32⟩
  | 40 => ⟨S32x2048x1024, .f32⟩
  | 41 => ⟨S_, .f32⟩
  | 42 => ⟨S32x2048x1024, .f32⟩
  | 43 => ⟨S32x2048x1024, .f32⟩
  | 44 => ⟨S32x2048x1024, .f32⟩
  | 45 => ⟨S32x2048x1024, .f32⟩
  | 46 => ⟨S_, .f32⟩
  | 47 => ⟨S32x2048, .f32⟩
  | 48 => ⟨S32x2048x1, .f32⟩
  | 49 => ⟨S_, .f32⟩
  | 50 => ⟨S32x2048x1, .f32⟩
  | 51 => ⟨S32x2048x1, .f32⟩
  | 52 => ⟨S32x2048x1024, .f32⟩
  | 53 => ⟨S32x2048x1024, .f32⟩
  | 54 => ⟨S32x2048x1024, .f32⟩
  | 55 => ⟨S_, .f32⟩
  | 56 => ⟨S32x2048, .f32⟩
  | 57 => ⟨S32x2048x1, .f32⟩
  | 58 => ⟨S_, .f32⟩
  | 59 => ⟨S32x2048x1, .f32⟩
  | 60 => ⟨S32x2048x1, .f32⟩
  | 61 => ⟨S32x2048x1024, .f32⟩
  | 62 => ⟨S32x2048x1024, .f32⟩
  | 63 => ⟨S_, .f32⟩
  | 64 => ⟨S32x2048x1, .f32⟩
  | 65 => ⟨S32x2048x1, .f32⟩
  | 66 => ⟨S32x2048x1, .f32⟩
  | 67 => ⟨S32x2048x1024, .f32⟩
  | 68 => ⟨S32x2048x1024, .f32⟩
  | 69 => ⟨S1x1x1024, .f32⟩
  | 70 => ⟨S32x2048x1024, .f32⟩
  | 71 => ⟨S32x2048x1024, .f32⟩
  | 72 => ⟨S1x1x1024, .f32⟩
  | 73 => ⟨S32x2048x1024, .f32⟩
  | 74 => ⟨S32x2048x1024, .f32⟩
  | 75 => ⟨S32x2048x2816, .f32⟩
  | 76 => ⟨S_, .i32⟩
  | 77 => ⟨S_, .f32⟩
  | 78 => ⟨S32x2050x2816, .f32⟩
  | 79 => ⟨S32x2048x2816, .f32⟩
  | 80 => ⟨S1x2816, .f32⟩
  | 81 => ⟨S2816, .f32⟩
  | 82 => ⟨S1x1x2816, .f32⟩
  | 83 => ⟨S32x2048x2816, .f32⟩
  | 84 => ⟨S32x2048x2816, .f32⟩
  | 85 => ⟨S32x2048x2816, .f32⟩
  | 86 => ⟨S1x2816, .f32⟩
  | 87 => ⟨S2816, .f32⟩
  | 88 => ⟨S1x1x2816, .f32⟩
  | 89 => ⟨S32x2048x2816, .f32⟩
  | 90 => ⟨S32x2048x2816, .f32⟩
  | 91 => ⟨S32x2048x2816, .f32⟩
  | 92 => ⟨S32x2048x2816, .f32⟩
  | 93 => ⟨S1x2816, .f32⟩
  | 94 => ⟨S2816, .f32⟩
  | 95 => ⟨S1x1x2816, .f32⟩
  | 96 => ⟨S32x2048x2816, .f32⟩
  | 97 => ⟨S32x2048x2816, .f32⟩
  | 98 => ⟨S32x2048x2816, .f32⟩
  | 99 => ⟨S1x1x2816, .f32⟩
  | 100 => ⟨S32x2048x2816, .f32⟩
  | 101 => ⟨S32x2048x2816, .f32⟩
  | 102 => ⟨S32x2048x2816, .f32⟩
  | 103 => ⟨S32x2048x2816, .f32⟩
  | 104 => ⟨S_, .f32⟩
  | 105 => ⟨S32x2048x2816, .f32⟩
  | 106 => ⟨S32x2048x2816, .f32⟩
  | 107 => ⟨S_, .f32⟩
  | 108 => ⟨S32x2048x2816, .f32⟩
  | 109 => ⟨S32x2048x2816, .f32⟩
  | 110 => ⟨S32x2048x2816, .f32⟩
  | 111 => ⟨S32x2048x2816, .f32⟩
  | 112 => ⟨S32x2048x2816, .f32⟩
  | 113 => ⟨S32x2048x1024, .f32⟩
  | 114 => ⟨S_, .f32⟩
  | 115 => ⟨S32x2048x1024, .f32⟩
  | 116 => ⟨S32x2048x1024, .f32⟩
  | 117 => ⟨S32x2048x1024, .f32⟩
  | 118 => ⟨S_, .f32⟩
  | 119 => ⟨S32x2048, .f32⟩
  | 120 => ⟨S32x2048x1, .f32⟩
  | 121 => ⟨S_, .f32⟩
  | 122 => ⟨S32x2048x1, .f32⟩
  | 123 => ⟨S32x2048x1, .f32⟩
  | 124 => ⟨S32x2048x1024, .f32⟩
  | 125 => ⟨S32x2048x1024, .f32⟩
  | 126 => ⟨S32x2048x1024, .f32⟩
  | 127 => ⟨S_, .f32⟩
  | _ => ⟨S32x2048x256, .f32⟩

abbrev hbmTy0_1 (i : Nat) : BufTy := match i % 128 with
  | 0 => ⟨S32x2048, .f32⟩
  | 1 => ⟨S32x2048x1, .f32⟩
  | 2 => ⟨S_, .f32⟩
  | 3 => ⟨S32x2048x1, .f32⟩
  | 4 => ⟨S32x2048x1, .f32⟩
  | 5 => ⟨S32x2048x1024, .f32⟩
  | 6 => ⟨S32x2048x1024, .f32⟩
  | 7 => ⟨S_, .f32⟩
  | 8 => ⟨S32x2048x1, .f32⟩
  | 9 => ⟨S32x2048x1, .f32⟩
  | 10 => ⟨S32x2048x1, .f32⟩
  | 11 => ⟨S32x2048x1024, .f32⟩
  | 12 => ⟨S32x2048x1024, .f32⟩
  | 13 => ⟨S1x1x1024, .f32⟩
  | 14 => ⟨S32x2048x1024, .f32⟩
  | 15 => ⟨S32x2048x1024, .f32⟩
  | 16 => ⟨S1x1x1024, .f32⟩
  | 17 => ⟨S32x2048x1024, .f32⟩
  | 18 => ⟨S32x2048x1024, .f32⟩
  | 19 => ⟨S1x32x2048x256, .f32⟩
  | 20 => ⟨S32x2048x256, .f32⟩
  | 21 => ⟨S32x2048x1024, .f32⟩
  | 22 => ⟨S32x2048x1024, .f32⟩
  | 23 => ⟨S1x1x1024, .f32⟩
  | 24 => ⟨S32x2048x1024, .f32⟩
  | 25 => ⟨S32x2048x1024, .f32⟩
  | 26 => ⟨S32x2048x1024, .f32⟩
  | 27 => ⟨S32x2048x1024, .f32⟩
  | 28 => ⟨S_, .f32⟩
  | 29 => ⟨S32x2048x1024, .f32⟩
  | 30 => ⟨S32x2048x1024, .f32⟩
  | 31 => ⟨S_, .f32⟩
  | 32 => ⟨S32x2048x1024, .f32⟩
  | 33 => ⟨S32x2048x1024, .f32⟩
  | 34 => ⟨S32x2048x1024, .f32⟩
  | 35 => ⟨S_, .f32⟩
  | 36 => ⟨S32x2048x1024, .f32⟩
  | 37 => ⟨S32x2048x1024, .f32⟩
  | 38 => ⟨S32x2048x1024, .f32⟩
  | 39 => ⟨S_, .f32⟩
  | 40 => ⟨S32x2048, .f32⟩
  | 41 => ⟨S32x2048x1, .f32⟩
  | 42 => ⟨S_, .f32⟩
  | 43 => ⟨S32x2048x1, .f32⟩
  | 44 => ⟨S32x2048x1, .f32⟩
  | 45 => ⟨S32x2048x1024, .f32⟩
  | 46 => ⟨S32x2048x1024, .f32⟩
  | 47 => ⟨S32x2048x1024, .f32⟩
  | 48 => ⟨S_, .f32⟩
  | 49 => ⟨S32x2048, .f32⟩
  | 50 => ⟨S32x2048x1, .f32⟩
  | 51 => ⟨S_, .f32⟩
  | 52 => ⟨S32x2048x1, .f32⟩
  | 53 => ⟨S32x2048x1, .f32⟩
  | 54 => ⟨S32x2048x1024, .f32⟩
  | 55 => ⟨S32x2048x1024, .f32⟩
  | 56 => ⟨S_, .f32⟩
  | 57 => ⟨S32x2048x1, .f32⟩
  | 58 => ⟨S32x2048x1, .f32⟩
  | 59 => ⟨S32x2048x1, .f32⟩
  | 60 => ⟨S32x2048x1024, .f32⟩
  | 61 => ⟨S32x2048x1024, .f32⟩
  | 62 => ⟨S1x1x1024, .f32⟩
  | 63 => ⟨S32x2048x1024, .f32⟩
  | 64 => ⟨S32x2048x1024, .f32⟩
  | 65 => ⟨S1x1x1024, .f32⟩
  | 66 => ⟨S32x2048x1024, .f32⟩
  | 67 => ⟨S32x2048x1024, .f32⟩
  | 68 => ⟨S65536x1024, .f32⟩
  | _ => ⟨S32x2048x256, .f32⟩

abbrev hbmTy (i : Nat) : BufTy := match i / 128 with
  | 0 => hbmTy0_0 i
  | 1 => hbmTy0_1 i
  | _ => ⟨S32x2048x256, .f32⟩

abbrev bufTy : (tb : Table) → Fin (tcTables nBuf tb) → BufTy
  | .hbm, ⟨i, _⟩ => hbmTy i
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_cst : Ref sig .tc := ⟨.hbm, 25, rfl⟩
abbrev main_v3 : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_cst_1 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_2 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_3 : Ref sig .tc := ⟨.hbm, 46, rfl⟩
abbrev main_v20 : Ref sig .tc := ⟨.hbm, 47, rfl⟩
abbrev main_v21 : Ref sig .tc := ⟨.hbm, 48, rfl⟩
abbrev main_cst_4 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_cst_6 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_7 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c : Ref sig .tc := ⟨.hbm, 76, rfl⟩
abbrev main_call0_v0 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_8 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_9 : Ref sig .tc := ⟨.hbm, 118, rfl⟩
abbrev main_v76 : Ref sig .tc := ⟨.hbm, 119, rfl⟩
abbrev main_v77 : Ref sig .tc := ⟨.hbm, 120, rfl⟩
abbrev main_cst_10 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_11 : Ref sig .tc := ⟨.hbm, 127, rfl⟩
abbrev main_v83 : Ref sig .tc := ⟨.hbm, 128, rfl⟩
abbrev main_v84 : Ref sig .tc := ⟨.hbm, 129, rfl⟩
abbrev main_cst_12 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_13 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_14 : Ref sig .tc := ⟨.hbm, 156, rfl⟩
abbrev main_v109 : Ref sig .tc := ⟨.hbm, 157, rfl⟩
abbrev main_v110 : Ref sig .tc := ⟨.hbm, 158, rfl⟩
abbrev main_cst_15 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_16 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_17 : Ref sig .tc := ⟨.hbm, 167, rfl⟩
abbrev main_v117 : Ref sig .tc := ⟨.hbm, 168, rfl⟩
abbrev main_v118 : Ref sig .tc := ⟨.hbm, 169, rfl⟩
abbrev main_cst_18 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_cst_19 : Ref sig .tc := ⟨.hbm, 176, rfl⟩
abbrev main_v124 : Ref sig .tc := ⟨.hbm, 177, rfl⟩
abbrev main_v125 : Ref sig .tc := ⟨.hbm, 178, rfl⟩
abbrev main_cst_20 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_21 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩

abbrev nD : Nat := 1
abbrev τ : Topo := Topo.v7x

variable {F : FTy → Type} [FloatOps F]
-- ==== Proof.Tail.Body.lean ====
/- The launch of the layer's tail, up to its grid: what the arrays hold when the grid starts, what each window's
   block holds at a point, what the kernel body leaves in the output's buffer (`out0_32`), and the body's triple. -/
module

public import proofs.«01_k».proof.Proof.Gen.TailIdeal.Launch
public import proofs.«01_k».proof.Proof.Gen.TailIdeal.Skeleton
public import proofs.«01_k».proof.Proof.Gen.TailIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.TailIdeal.Hand

open Cert.TailIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg4` as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg5` as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg6` as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg7` as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg8` as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg9` as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg10` as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg11` as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg12` as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg13` as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg14` as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg15` as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg16` as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg17` as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg18` as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg19` as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg20` as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- The region finds `main_arg21` as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's staging buffer holds its block at every point. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's staging buffer holds its block at every point. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's staging buffer holds its block at every point. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's staging buffer holds its block at every point. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's staging buffer holds its block at every point. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's staging buffer holds its block at every point. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Input window 17's staging buffer holds its block at every point. -/
theorem before0_17_of {c : Dev nD} (dat : Dat τ (Elt F) Unit ℕ (UR sig nD τ) ℕ cfg0 c) (hA : dat.A 17 = V m c (Pipeline.arrRef spec0 17))
    (hafter : ∀ t, dat.after 17 t = iblk m c 17 t) (t : Fin cfg0.N) (d) : dat.before 17 t d = iblk m c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Input window 18's staging buffer holds its block at every point. -/
theorem before0_18_of {c : Dev nD} (dat : Dat τ (Elt F) Unit ℕ (UR sig nD τ) ℕ cfg0 c) (hA : dat.A 18 = V m c (Pipeline.arrRef spec0 18))
    (hafter : ∀ t, dat.after 18 t = iblk m c 18 t) (t : Fin cfg0.N) (d) : dat.before 18 t d = iblk m c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Input window 19's staging buffer holds its block at every point. -/
theorem before0_19_of {c : Dev nD} (dat : Dat τ (Elt F) Unit ℕ (UR sig nD τ) ℕ cfg0 c) (hA : dat.A 19 = V m c (Pipeline.arrRef spec0 19))
    (hafter : ∀ t, dat.after 19 t = iblk m c 19 t) (t : Fin cfg0.N) (d) : dat.before 19 t d = iblk m c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Input window 20's staging buffer holds its block at every point. -/
theorem before0_20_of {c : Dev nD} (dat : Dat τ (Elt F) Unit ℕ (UR sig nD τ) ℕ cfg0 c) (hA : dat.A 20 = V m c (Pipeline.arrRef spec0 20))
    (hafter : ∀ t, dat.after 20 t = iblk m c 20 t) (t : Fin cfg0.N) (d) : dat.before 20 t d = iblk m c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Input window 21's staging buffer holds its block at every point. -/
theorem before0_21_of {c : Dev nD} (dat : Dat τ (Elt F) Unit ℕ (UR sig nD τ) ℕ cfg0 c) (hA : dat.A 21 = V m c (Pipeline.arrRef spec0 21))
    (hafter : ∀ t, dat.after 21 t = iblk m c 21 t) (t : Fin cfg0.N) (d) : dat.before 21 t d = iblk m c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Input window 22's staging buffer holds its block at every point. -/
theorem before0_22_of {c : Dev nD} (dat : Dat τ (Elt F) Unit ℕ (UR sig nD τ) ℕ cfg0 c) (hA : dat.A 22 = V m c (Pipeline.arrRef spec0 22))
    (hafter : ∀ t, dat.after 22 t = iblk m c 22 t) (t : Fin cfg0.N) (d) : dat.before 22 t d = iblk m c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Input window 23's staging buffer holds its block at every point. -/
theorem before0_23_of {c : Dev nD} (dat : Dat τ (Elt F) Unit ℕ (UR sig nD τ) ℕ cfg0 c) (hA : dat.A 23 = V m c (Pipeline.arrRef spec0 23))
    (hafter : ∀ t, dat.after 23 t = iblk m c 23 t) (t : Fin cfg0.N) (d) : dat.before 23 t d = iblk m c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Input window 24's staging buffer holds its block at every point. -/
theorem before0_24_of {c : Dev nD} (dat : Dat τ (Elt F) Unit ℕ (UR sig nD τ) ℕ cfg0 c) (hA : dat.A 24 = V m c (Pipeline.arrRef spec0 24))
    (hafter : ∀ t, dat.after 24 t = iblk m c 24 t) (t : Fin cfg0.N) (d) : dat.before 24 t d = iblk m c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Input window 25's staging buffer holds its block at every point. -/
theorem before0_25_of {c : Dev nD} (dat : Dat τ (Elt F) Unit ℕ (UR sig nD τ) ℕ cfg0 c) (hA : dat.A 25 = V m c (Pipeline.arrRef spec0 25))
    (hafter : ∀ t, dat.after 25 t = iblk m c 25 t) (t : Fin cfg0.N) (d) : dat.before 25 t d = iblk m c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Input window 26's staging buffer holds its block at every point. -/
theorem before0_26_of {c : Dev nD} (dat : Dat τ (Elt F) Unit ℕ (UR sig nD τ) ℕ cfg0 c) (hA : dat.A 26 = V m c (Pipeline.arrRef spec0 26))
    (hafter : ∀ t, dat.after 26 t = iblk m c 26 t) (t : Fin cfg0.N) (d) : dat.before 26 t d = iblk m c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Input window 27's staging buffer holds its block at every point. -/
theorem before0_27_of {c : Dev nD} (dat : Dat τ (Elt F) Unit ℕ (UR sig nD τ) ℕ cfg0 c) (hA : dat.A 27 = V m c (Pipeline.arrRef spec0 27))
    (hafter : ∀ t, dat.after 27 t = iblk m c 27 t) (t : Fin cfg0.N) (d) : dat.before 27 t d = iblk m c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
/-- Input window 28's staging buffer holds its block at every point. -/
theorem before0_28_of {c : Dev nD} (dat : Dat τ (Elt F) Unit ℕ (UR sig nD τ) ℕ cfg0 c) (hA : dat.A 28 = V m c (Pipeline.arrRef spec0 28))
    (hafter : ∀ t, dat.after 28 t = iblk m c 28 t) (t : Fin cfg0.N) (d) : dat.before 28 t d = iblk m c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
/-- Input window 29's staging buffer holds its block at every point. -/
theorem before0_29_of {c : Dev nD} (dat : Dat τ (Elt F) Unit ℕ (UR sig nD τ) ℕ cfg0 c) (hA : dat.A 29 = V m c (Pipeline.arrRef spec0 29))
    (hafter : ∀ t, dat.after 29 t = iblk m c 29 t) (t : Fin cfg0.N) (d) : dat.before 29 t d = iblk m c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
/-- Input window 30's staging buffer holds its block at every point. -/
theorem before0_30_of {c : Dev nD} (dat : Dat τ (Elt F) Unit ℕ (UR sig nD τ) ℕ cfg0 c) (hA : dat.A 30 = V m c (Pipeline.arrRef spec0 30))
    (hafter : ∀ t, dat.after 30 t = iblk m c 30 t) (t : Fin cfg0.N) (d) : dat.before 30 t d = iblk m c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)
/-- Input window 31's staging buffer holds its block at every point. -/
theorem before0_31_of {c : Dev nD} (dat : Dat τ (Elt F) Unit ℕ (UR sig nD τ) ℕ cfg0 c) (hA : dat.A 31 = V m c (Pipeline.arrRef spec0 31))
    (hafter : ∀ t, dat.after 31 t = iblk m c 31 t) (t : Fin cfg0.N) (d) : dat.before 31 t d = iblk m c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1980000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_TailIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).1 22).trans (((dats 0 c).arrAt_in 22 rfl _).trans ((hA c 22).trans (V_main_arg12 m c))),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c)⟩) h

/-! ## The body's accesses -/

abbrev r0_0 : Rect S16x256 := Rect.unit (s := S16x256) ![0, 0] S16x256.size inb_S16x256_S16x256_0_0
abbrev r0_1 : Rect S512x256 := Rect.unit (s := S512x256) ![0, 0] S512x256.size inb_S512x256_S512x256_0_0
abbrev r0_2 : Rect S1x1024 := Rect.unit (s := S1x1024) ![0, 0] S1x256.size inb_S1x1024_S1x256_0_0
abbrev r0_3 : Rect S256x128 := Rect.unit (s := S256x128) ![0, 0] S256x128.size inb_S256x128_S256x128_0_0
abbrev r0_4 : Rect S256x512 := Rect.unit (s := S256x512) ![0, 0] S256x512.size inb_S256x512_S256x512_0_0
abbrev r0_5 : Rect S1x1024 := Rect.unit (s := S1x1024) ![0, 256] S1x256.size inb_S1x1024_S1x256_0_256
abbrev r0_6 : Rect S1x1024 := Rect.unit (s := S1x1024) ![0, 512] S1x256.size inb_S1x1024_S1x256_0_512
abbrev r0_7 : Rect S1x1024 := Rect.unit (s := S1x1024) ![0, 768] S1x256.size inb_S1x1024_S1x256_0_768
abbrev r0_8 : Rect S16x1024 := Rect.unit (s := S16x1024) ![0, 0] S16x1024.size inb_S16x1024_S16x1024_0_0
abbrev r0_9 : Rect S512x1024 := Rect.unit (s := S512x1024) ![0, 0] S512x1024.size inb_S512x1024_S512x1024_0_0
abbrev r0_10 : Rect S1024x1024 := Rect.unit (s := S1024x1024) ![0, 0] S1024x1024.size inb_S1024x1024_S1024x1024_0_0
abbrev r0_11 : Rect S1x1024 := Rect.unit (s := S1x1024) ![0, 0] S1x1024.size inb_S1x1024_S1x1024_0_0
abbrev r0_12 : Rect S1024x2816 := Rect.unit (s := S1024x2816) ![0, 0] S1024x1408.size inb_S1024x2816_S1024x1408_0_0
abbrev r0_13 : Rect S3x2816 := Rect.unit (s := S3x2816) ![0, 0] S1x1408.size inb_S3x2816_S1x1408_0_0
abbrev r0_14 : Rect S3x2816 := Rect.unit (s := S3x2816) ![1, 0] S1x1408.size inb_S3x2816_S1x1408_1_0
abbrev r0_15 : Rect S3x2816 := Rect.unit (s := S3x2816) ![2, 0] S1x1408.size inb_S3x2816_S1x1408_2_0
abbrev r0_16 : Rect S1x2816 := Rect.unit (s := S1x2816) ![0, 0] S1x1408.size inb_S1x2816_S1x1408_0_0
abbrev r0_17 : Rect S2816x1024 := Rect.unit (s := S2816x1024) ![0, 0] S1408x1024.size inb_S2816x1024_S1408x1024_0_0
abbrev r0_18 : Rect S1024x2816 := Rect.unit (s := S1024x2816) ![0, 1408] S1024x1408.size inb_S1024x2816_S1024x1408_0_1408
abbrev r0_19 : Rect S3x2816 := Rect.unit (s := S3x2816) ![0, 1408] S1x1408.size inb_S3x2816_S1x1408_0_1408
abbrev r0_20 : Rect S3x2816 := Rect.unit (s := S3x2816) ![1, 1408] S1x1408.size inb_S3x2816_S1x1408_1_1408
abbrev r0_21 : Rect S3x2816 := Rect.unit (s := S3x2816) ![2, 1408] S1x1408.size inb_S3x2816_S1x1408_2_1408
abbrev r0_22 : Rect S1x2816 := Rect.unit (s := S1x2816) ![0, 1408] S1x1408.size inb_S1x2816_S1x1408_0_1408
abbrev r0_23 : Rect S2816x1024 := Rect.unit (s := S2816x1024) ![1408, 0] S1408x1024.size inb_S2816x1024_S1408x1024_1408_0
abbrev r0_24 : Rect S1x512x256 := Rect.unit (s := S1x512x256) ![0, 0, 0] S1x512x256.size inb_S1x512x256_S1x512x256_0_0_0
abbrev r0_25 : Rect S256x1024 := Rect.unit (s := S256x1024) ![0, 0] S256x1024.size inb_S256x1024_S256x1024_0_0

/-! ## What the body leaves in each output window's buffer -/

/-! ### Values of the body that the stores' payloads, spelt out, would write more than once

    Each is a vector the body binds (often a part call's result), stated over the input windows' blocks and
    numbered on from the skeleton's payload functions (`k0_pay31` …, after `k0_pay30`), so that
    `out0_W` and the values after it name it instead of spelling it out (`unfold_out out0_W` opens a canon
    with them, `unfold_payloads` opens them with the payloads); the comment after each is the printed function's
    name for the value (a count appended where that name is bound again). -/

def k0_pay31 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S544x256 .bf16 :=
  k0_pay2 (View.ld x0 r0_0) (View.ld x1 r0_1) (View.ld x2 r0_0) (View.ld x16 r0_2) -- `v21`
def k0_pay32 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S544x256 .bf16 :=
  k0_pay6 (k0_pay3 (View.ld x3 r0_3) (View.ld x4 r0_4) (View.ld x5 r0_3)) (k0_pay4 (View.ld x16 r0_5)) (k0_pay5 (View.ld x3 r0_3) (View.ld x4 r0_4) (View.ld x5 r0_3)) -- `v48`
def k0_pay33 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S544x256 .bf16 :=
  k0_pay7 (View.ld x6 r0_0) (View.ld x7 r0_1) (View.ld x8 r0_0) (View.ld x16 r0_6) -- `v70`
def k0_pay34 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S544x256 .f32 :=
  k0_pay8 (View.ld x9 r0_0) (View.ld x10 r0_1) (View.ld x11 r0_0) -- `v77`
def k0_pay35 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S1x1024 .f32 :=
  k0_pay9 (View.ld x18 r0_11) -- `v108`
def k0_pay36 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S1x1024 .f32 :=
  k0_pay10 (View.ld x19 r0_11) -- `v110`
def k0_pay37 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S544x1024 .f32 :=
  k0_pay11 (k0_pay31 i x0 x1 x2 x3 x4 x5 x6 x7 x8 x9 x10 x11 x12 x13 x14 x15 x16 x17 x18 x19 x20 x21 x22 x23 x24 x25 x26 x27 x28 x29 x30 x31) (k0_pay32 i x0 x1 x2 x3 x4 x5 x6 x7 x8 x9 x10 x11 x12 x13 x14 x15 x16 x17 x18 x19 x20 x21 x22 x23 x24 x25 x26 x27 x28 x29 x30 x31) (k0_pay33 i x0 x1 x2 x3 x4 x5 x6 x7 x8 x9 x10 x11 x12 x13 x14 x15 x16 x17 x18 x19 x20 x21 x22 x23 x24 x25 x26 x27 x28 x29 x30 x31) (k0_pay34 i x0 x1 x2 x3 x4 x5 x6 x7 x8 x9 x10 x11 x12 x13 x14 x15 x16 x17 x18 x19 x20 x21 x22 x23 x24 x25 x26 x27 x28 x29 x30 x31) (View.ld x16 r0_7) (View.ld x12 r0_8) (View.ld x13 r0_9) (View.ld x14 r0_8) (View.ld x17 r0_10) -- `v116`
def k0_pay38 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S544x1024 .f32 :=
  k0_pay12 (k0_pay31 i x0 x1 x2 x3 x4 x5 x6 x7 x8 x9 x10 x11 x12 x13 x14 x15 x16 x17 x18 x19 x20 x21 x22 x23 x24 x25 x26 x27 x28 x29 x30 x31) (k0_pay32 i x0 x1 x2 x3 x4 x5 x6 x7 x8 x9 x10 x11 x12 x13 x14 x15 x16 x17 x18 x19 x20 x21 x22 x23 x24 x25 x26 x27 x28 x29 x30 x31) (k0_pay33 i x0 x1 x2 x3 x4 x5 x6 x7 x8 x9 x10 x11 x12 x13 x14 x15 x16 x17 x18 x19 x20 x21 x22 x23 x24 x25 x26 x27 x28 x29 x30 x31) (k0_pay34 i x0 x1 x2 x3 x4 x5 x6 x7 x8 x9 x10 x11 x12 x13 x14 x15 x16 x17 x18 x19 x20 x21 x22 x23 x24 x25 x26 x27 x28 x29 x30 x31) (View.ld x16 r0_7) (View.ld x12 r0_8) (View.ld x13 r0_9) (View.ld x14 r0_8) (View.ld x17 r0_10) -- `v117`
def k0_pay39 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S544x1024 .bf16 :=
  k0_pay14 (k0_pay35 i x0 x1 x2 x3 x4 x5 x6 x7 x8 x9 x10 x11 x12 x13 x14 x15 x16 x17 x18 x19 x20 x21 x22 x23 x24 x25 x26 x27 x28 x29 x30 x31) (k0_pay36 i x0 x1 x2 x3 x4 x5 x6 x7 x8 x9 x10 x11 x12 x13 x14 x15 x16 x17 x18 x19 x20 x21 x22 x23 x24 x25 x26 x27 x28 x29 x30 x31) (k0_pay37 i x0 x1 x2 x3 x4 x5 x6 x7 x8 x9 x10 x11 x12 x13 x14 x15 x16 x17 x18 x19 x20 x21 x22 x23 x24 x25 x26 x27 x28 x29 x30 x31) (k0_pay38 i x0 x1 x2 x3 x4 x5 x6 x7 x8 x9 x10 x11 x12 x13 x14 x15 x16 x17 x18 x19 x20 x21 x22 x23 x24 x25 x26 x27 x28 x29 x30 x31) -- `v131`
def k0_pay40 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S512x1024 .f32 :=
  k0_pay15 (k0_pay35 i x0 x1 x2 x3 x4 x5 x6 x7 x8 x9 x10 x11 x12 x13 x14 x15 x16 x17 x18 x19 x20 x21 x22 x23 x24 x25 x26 x27 x28 x29 x30 x31) (k0_pay36 i x0 x1 x2 x3 x4 x5 x6 x7 x8 x9 x10 x11 x12 x13 x14 x15 x16 x17 x18 x19 x20 x21 x22 x23 x24 x25 x26 x27 x28 x29 x30 x31) (k0_pay37 i x0 x1 x2 x3 x4 x5 x6 x7 x8 x9 x10 x11 x12 x13 x14 x15 x16 x17 x18 x19 x20 x21 x22 x23 x24 x25 x26 x27 x28 x29 x30 x31) (k0_pay38 i x0 x1 x2 x3 x4 x5 x6 x7 x8 x9 x10 x11 x12 x13 x14 x15 x16 x17 x18 x19 x20 x21 x22 x23 x24 x25 x26 x27 x28 x29 x30 x31) -- `v132`
def k0_pay41 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S512x1024 .bf16 :=
  k0_pay16 (k0_pay35 i x0 x1 x2 x3 x4 x5 x6 x7 x8 x9 x10 x11 x12 x13 x14 x15 x16 x17 x18 x19 x20 x21 x22 x23 x24 x25 x26 x27 x28 x29 x30 x31) (k0_pay36 i x0 x1 x2 x3 x4 x5 x6 x7 x8 x9 x10 x11 x12 x13 x14 x15 x16 x17 x18 x19 x20 x21 x22 x23 x24 x25 x26 x27 x28 x29 x30 x31) (k0_pay37 i x0 x1 x2 x3 x4 x5 x6 x7 x8 x9 x10 x11 x12 x13 x14 x15 x16 x17 x18 x19 x20 x21 x22 x23 x24 x25 x26 x27 x28 x29 x30 x31) (k0_pay38 i x0 x1 x2 x3 x4 x5 x6 x7 x8 x9 x10 x11 x12 x13 x14 x15 x16 x17 x18 x19 x20 x21 x22 x23 x24 x25 x26 x27 x28 x29 x30 x31) -- `v133`
def k0_pay42 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S512x1 .f32 :=
  k0_pay17 (F := F) (BitVec.ofNat 32 (i 0).val) -- `v152`
def k0_pay43 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : IVec S512x1 1 :=
  k0_pay18 -- `v154`
def k0_pay44 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S512x1 .f32 :=
  k0_pay19 (F := F) (k0_pay43 i x0 x1 x2 x3 x4 x5 x6 x7 x8 x9 x10 x11 x12 x13 x14 x15 x16 x17 x18 x19 x20 x21 x22 x23 x24 x25 x26 x27 x28 x29 x30 x31) (Scalar.select (Scalar.cmpi .eq 4#32 0#32) 1#32 4#32) (Scalar.remsi (BitVec.ofNat 32 (i 0).val) (Scalar.select (Scalar.cmpi .eq 4#32 0#32) 1#32 4#32)) (Scalar.cmpi .ne (Scalar.remsi (BitVec.ofNat 32 (i 0).val) (Scalar.select (Scalar.cmpi .eq 4#32 0#32) 1#32 4#32)) 0#32) (Scalar.cmpi .slt (Scalar.remsi (BitVec.ofNat 32 (i 0).val) (Scalar.select (Scalar.cmpi .eq 4#32 0#32) 1#32 4#32)) 0#32) -- `v170`
def k0_pay45 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S512x1024 .f32 :=
  k0_pay22 (k0_pay41 i x0 x1 x2 x3 x4 x5 x6 x7 x8 x9 x10 x11 x12 x13 x14 x15 x16 x17 x18 x19 x20 x21 x22 x23 x24 x25 x26 x27 x28 x29 x30 x31) (k0_pay20 (k0_pay39 i x0 x1 x2 x3 x4 x5 x6 x7 x8 x9 x10 x11 x12 x13 x14 x15 x16 x17 x18 x19 x20 x21 x22 x23 x24 x25 x26 x27 x28 x29 x30 x31) (k0_pay42 i x0 x1 x2 x3 x4 x5 x6 x7 x8 x9 x10 x11 x12 x13 x14 x15 x16 x17 x18 x19 x20 x21 x22 x23 x24 x25 x26 x27 x28 x29 x30 x31) (k0_pay43 i x0 x1 x2 x3 x4 x5 x6 x7 x8 x9 x10 x11 x12 x13 x14 x15 x16 x17 x18 x19 x20 x21 x22 x23 x24 x25 x26 x27 x28 x29 x30 x31) (Scalar.select (Scalar.cmpi .eq 4#32 0#32) 1#32 4#32) (Scalar.remsi (BitVec.ofNat 32 (i 0).val) (Scalar.select (Scalar.cmpi .eq 4#32 0#32) 1#32 4#32)) (Scalar.cmpi .ne (Scalar.remsi (BitVec.ofNat 32 (i 0).val) (Scalar.select (Scalar.cmpi .eq 4#32 0#32) 1#32 4#32)) 0#32) (Scalar.cmpi .slt (Scalar.remsi (BitVec.ofNat 32 (i 0).val) (Scalar.select (Scalar.cmpi .eq 4#32 0#32) 1#32 4#32)) 0#32) (View.ld x20 r0_12) (View.ld x22 r0_13) (View.ld x22 r0_14) (View.ld x22 r0_15) (View.ld x23 r0_16)) (k0_pay21 (k0_pay39 i x0 x1 x2 x3 x4 x5 x6 x7 x8 x9 x10 x11 x12 x13 x14 x15 x16 x17 x18 x19 x20 x21 x22 x23 x24 x25 x26 x27 x28 x29 x30 x31) (k0_pay42 i x0 x1 x2 x3 x4 x5 x6 x7 x8 x9 x10 x11 x12 x13 x14 x15 x16 x17 x18 x19 x20 x21 x22 x23 x24 x25 x26 x27 x28 x29 x30 x31) (k0_pay43 i x0 x1 x2 x3 x4 x5 x6 x7 x8 x9 x10 x11 x12 x13 x14 x15 x16 x17 x18 x19 x20 x21 x22 x23 x24 x25 x26 x27 x28 x29 x30 x31) (Scalar.select (Scalar.cmpi .eq 4#32 0#32) 1#32 4#32) (Scalar.remsi (BitVec.ofNat 32 (i 0).val) (Scalar.select (Scalar.cmpi .eq 4#32 0#32) 1#32 4#32)) (Scalar.cmpi .ne (Scalar.remsi (BitVec.ofNat 32 (i 0).val) (Scalar.select (Scalar.cmpi .eq 4#32 0#32) 1#32 4#32)) 0#32) (Scalar.cmpi .slt (Scalar.remsi (BitVec.ofNat 32 (i 0).val) (Scalar.select (Scalar.cmpi .eq 4#32 0#32) 1#32 4#32)) 0#32) (View.ld x20 r0_12) (View.ld x22 r0_13) (View.ld x22 r0_14) (View.ld x22 r0_15) (View.ld x23 r0_16)) (Scalar.ofBits .f32 0x3F800000#32) (View.ld x21 r0_12) (View.ld x24 r0_17) -- `v211`
def k0_pay46 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S512x1408 .f32 :=
  k0_pay23 (k0_pay39 i x0 x1 x2 x3 x4 x5 x6 x7 x8 x9 x10 x11 x12 x13 x14 x15 x16 x17 x18 x19 x20 x21 x22 x23 x24 x25 x26 x27 x28 x29 x30 x31) (k0_pay42 i x0 x1 x2 x3 x4 x5 x6 x7 x8 x9 x10 x11 x12 x13 x14 x15 x16 x17 x18 x19 x20 x21 x22 x23 x24 x25 x26 x27 x28 x29 x30 x31) (k0_pay44 i x0 x1 x2 x3 x4 x5 x6 x7 x8 x9 x10 x11 x12 x13 x14 x15 x16 x17 x18 x19 x20 x21 x22 x23 x24 x25 x26 x27 x28 x29 x30 x31) (View.ld x20 r0_18) (View.ld x22 r0_19) (View.ld x22 r0_20) (View.ld x22 r0_21) (View.ld x23 r0_22) -- `v238`
def k0_pay47 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S512x1408 .f32 :=
  k0_pay24 (k0_pay39 i x0 x1 x2 x3 x4 x5 x6 x7 x8 x9 x10 x11 x12 x13 x14 x15 x16 x17 x18 x19 x20 x21 x22 x23 x24 x25 x26 x27 x28 x29 x30 x31) (k0_pay42 i x0 x1 x2 x3 x4 x5 x6 x7 x8 x9 x10 x11 x12 x13 x14 x15 x16 x17 x18 x19 x20 x21 x22 x23 x24 x25 x26 x27 x28 x29 x30 x31) (k0_pay44 i x0 x1 x2 x3 x4 x5 x6 x7 x8 x9 x10 x11 x12 x13 x14 x15 x16 x17 x18 x19 x20 x21 x22 x23 x24 x25 x26 x27 x28 x29 x30 x31) (View.ld x20 r0_18) (View.ld x22 r0_19) (View.ld x22 r0_20) (View.ld x22 r0_21) (View.ld x23 r0_22) -- `v240`
def k0_pay48 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S512x1024 .f32 :=
  k0_pay25 (k0_pay40 i x0 x1 x2 x3 x4 x5 x6 x7 x8 x9 x10 x11 x12 x13 x14 x15 x16 x17 x18 x19 x20 x21 x22 x23 x24 x25 x26 x27 x28 x29 x30 x31) (k0_pay41 i x0 x1 x2 x3 x4 x5 x6 x7 x8 x9 x10 x11 x12 x13 x14 x15 x16 x17 x18 x19 x20 x21 x22 x23 x24 x25 x26 x27 x28 x29 x30 x31) (k0_pay45 i x0 x1 x2 x3 x4 x5 x6 x7 x8 x9 x10 x11 x12 x13 x14 x15 x16 x17 x18 x19 x20 x21 x22 x23 x24 x25 x26 x27 x28 x29 x30 x31) (k0_pay46 i x0 x1 x2 x3 x4 x5 x6 x7 x8 x9 x10 x11 x12 x13 x14 x15 x16 x17 x18 x19 x20 x21 x22 x23 x24 x25 x26 x27 x28 x29 x30 x31) (k0_pay47 i x0 x1 x2 x3 x4 x5 x6 x7 x8 x9 x10 x11 x12 x13 x14 x15 x16 x17 x18 x19 x20 x21 x22 x23 x24 x25 x26 x27 x28 x29 x30 x31) (View.ld x21 r0_18) (View.ld x24 r0_23) (View.ld x25 r0_11) (View.ld x26 r0_11) -- `v280`
def k0_pay49 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : FVec F S512x1024 .bf16 :=
  k0_pay26 (k0_pay40 i x0 x1 x2 x3 x4 x5 x6 x7 x8 x9 x10 x11 x12 x13 x14 x15 x16 x17 x18 x19 x20 x21 x22 x23 x24 x25 x26 x27 x28 x29 x30 x31) (k0_pay41 i x0 x1 x2 x3 x4 x5 x6 x7 x8 x9 x10 x11 x12 x13 x14 x15 x16 x17 x18 x19 x20 x21 x22 x23 x24 x25 x26 x27 x28 x29 x30 x31) (k0_pay45 i x0 x1 x2 x3 x4 x5 x6 x7 x8 x9 x10 x11 x12 x13 x14 x15 x16 x17 x18 x19 x20 x21 x22 x23 x24 x25 x26 x27 x28 x29 x30 x31) (k0_pay46 i x0 x1 x2 x3 x4 x5 x6 x7 x8 x9 x10 x11 x12 x13 x14 x15 x16 x17 x18 x19 x20 x21 x22 x23 x24 x25 x26 x27 x28 x29 x30 x31) (k0_pay47 i x0 x1 x2 x3 x4 x5 x6 x7 x8 x9 x10 x11 x12 x13 x14 x15 x16 x17 x18 x19 x20 x21 x22 x23 x24 x25 x26 x27 x28 x29 x30 x31) (View.ld x21 r0_18) (View.ld x24 r0_23) (View.ld x25 r0_11) (View.ld x26 r0_11) -- `v281`

/-- Window 32's staging buffer after the body, from the input windows' blocks: its 1 store as pieces, LAST
    FIRST (Lib/Pipeline/FrameBody.lean `View.canon`; the payloads are the skeleton's and the values stated above). -/
def out0_32 (i : grid0.Coords) (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) : Vec F S512x1024 .f32 :=
  View.canon [⟨r0_9, k0_pay1 (k0_pay27 (View.ld x30 r0_11)) (k0_pay28 (View.ld x31 r0_11)) (k0_pay29 (k0_pay48 i x0 x1 x2 x3 x4 x5 x6 x7 x8 x9 x10 x11 x12 x13 x14 x15 x16 x17 x18 x19 x20 x21 x22 x23 x24 x25 x26 x27 x28 x29 x30 x31) (k0_pay49 i x0 x1 x2 x3 x4 x5 x6 x7 x8 x9 x10 x11 x12 x13 x14 x15 x16 x17 x18 x19 x20 x21 x22 x23 x24 x25 x26 x27 x28 x29 x30 x31) (View.ld x28 r0_10) (View.ld x29 r0_11) (View.ld x15 r0_24) (View.ld x27 r0_25)) (k0_pay30 (k0_pay48 i x0 x1 x2 x3 x4 x5 x6 x7 x8 x9 x10 x11 x12 x13 x14 x15 x16 x17 x18 x19 x20 x21 x22 x23 x24 x25 x26 x27 x28 x29 x30 x31) (k0_pay49 i x0 x1 x2 x3 x4 x5 x6 x7 x8 x9 x10 x11 x12 x13 x14 x15 x16 x17 x18 x19 x20 x21 x22 x23 x24 x25 x26 x27 x28 x29 x30 x31) (View.ld x28 r0_10) (View.ld x29 r0_11) (View.ld x15 r0_24) (View.ld x27 r0_25))⟩]

/-- Its stores tile the buffer (checked by evaluation), so they cover it. -/
theorem cover0_32 (p0 : Vec F S512x1024 .f32) (y : S512x1024.Idx) :
    ∃ pc ∈ ([⟨r0_9, p0⟩] : List (View.Piece (Elt F) S512x1024 .f32)), y ∈ pc.1.set :=
  View.cover_of_tiled [⟨r0_9, p0⟩] S512x1024.size (by rfl) y

/-! ## The body's triple -/

set_option maxHeartbeats 2021650 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg1 : Memref sig .tc .vmem S16x256 .f32) (harg1 : arg1.IsWhole) (arg2 : Memref sig .tc .vmem S512x256 .f32) (harg2 : arg2.IsWhole) (arg3 : Memref sig .tc .vmem S16x256 .f32) (harg3 : arg3.IsWhole) (arg4 : Memref sig .tc .vmem S256x128 .f32) (harg4 : arg4.IsWhole) (arg5 : Memref sig .tc .vmem S256x512 .f32) (harg5 : arg5.IsWhole) (arg6 : Memref sig .tc .vmem S256x128 .f32) (harg6 : arg6.IsWhole) (arg7 : Memref sig .tc .vmem S16x256 .f32) (harg7 : arg7.IsWhole) (arg8 : Memref sig .tc .vmem S512x256 .f32) (harg8 : arg8.IsWhole) (arg9 : Memref sig .tc .vmem S16x256 .f32) (harg9 : arg9.IsWhole) (arg10 : Memref sig .tc .vmem S16x256 .f32) (harg10 : arg10.IsWhole) (arg11 : Memref sig .tc .vmem S512x256 .f32) (harg11 : arg11.IsWhole) (arg12 : Memref sig .tc .vmem S16x256 .f32) (harg12 : arg12.IsWhole) (arg13 : Memref sig .tc .vmem S16x1024 .f32) (harg13 : arg13.IsWhole) (arg14 : Memref sig .tc .vmem S512x1024 .f32) (harg14 : arg14.IsWhole) (arg15 : Memref sig .tc .vmem S16x1024 .f32) (harg15 : arg15.IsWhole) (arg16 : Memref sig .tc .vmem S1x512x256 .f32) (harg16 : arg16.IsWhole) (arg17 : Memref sig .tc .vmem S1x1024 .f32) (harg17 : arg17.IsWhole) (arg18 : Memref sig .tc .vmem S1024x1024 .bf16) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1024x2816 .bf16) (harg21 : arg21.IsWhole) (arg22 : Memref sig .tc .vmem S1024x2816 .bf16) (harg22 : arg22.IsWhole) (arg23 : Memref sig .tc .vmem S3x2816 .f32) (harg23 : arg23.IsWhole) (arg24 : Memref sig .tc .vmem S1x2816 .f32) (harg24 : arg24.IsWhole) (arg25 : Memref sig .tc .vmem S2816x1024 .bf16) (harg25 : arg25.IsWhole) (arg26 : Memref sig .tc .vmem S1x1024 .f32) (harg26 : arg26.IsWhole) (arg27 : Memref sig .tc .vmem S1x1024 .f32) (harg27 : arg27.IsWhole) (arg28 : Memref sig .tc .vmem S256x1024 .bf16) (harg28 : arg28.IsWhole) (arg29 : Memref sig .tc .vmem S1024x1024 .bf16) (harg29 : arg29.IsWhole) (arg30 : Memref sig .tc .vmem S1x1024 .f32) (harg30 : arg30.IsWhole) (arg31 : Memref sig .tc .vmem S1x1024 .f32) (harg31 : arg31.IsWhole) (arg32 : Memref sig .tc .vmem S1x1024 .f32) (harg32 : arg32.IsWhole) (arg33 : Memref sig .tc .vmem S512x1024 .f32) (harg33 : arg33.IsWhole)
    (x0 : Vec F S16x256 .f32) (x1 : Vec F S512x256 .f32) (x2 : Vec F S16x256 .f32) (x3 : Vec F S256x128 .f32) (x4 : Vec F S256x512 .f32) (x5 : Vec F S256x128 .f32) (x6 : Vec F S16x256 .f32) (x7 : Vec F S512x256 .f32) (x8 : Vec F S16x256 .f32) (x9 : Vec F S16x256 .f32) (x10 : Vec F S512x256 .f32) (x11 : Vec F S16x256 .f32) (x12 : Vec F S16x1024 .f32) (x13 : Vec F S512x1024 .f32) (x14 : Vec F S16x1024 .f32) (x15 : Vec F S1x512x256 .f32) (x16 : Vec F S1x1024 .f32) (x17 : Vec F S1024x1024 .bf16) (x18 : Vec F S1x1024 .f32) (x19 : Vec F S1x1024 .f32) (x20 : Vec F S1024x2816 .bf16) (x21 : Vec F S1024x2816 .bf16) (x22 : Vec F S3x2816 .f32) (x23 : Vec F S1x2816 .f32) (x24 : Vec F S2816x1024 .bf16) (x25 : Vec F S1x1024 .f32) (x26 : Vec F S1x1024 .f32) (x27 : Vec F S256x1024 .bf16) (x28 : Vec F S1024x1024 .bf16) (x29 : Vec F S1x1024 .f32) (x30 : Vec F S1x1024 .f32) (x31 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ (∃ d, owns (c : Thread nD τ) arg33 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare (out0_32 i x0 x1 x2 x3 x4 x5 x6 x7 x8 x9 x10 x11 x12 x13 x14 x15 x16 x17 x18 x19 x20 x21 x22 x23 x24 x25 x26 x27 x28 x29 x30 x31)) -∗ K ⟨⟩))
      ⊢ wp frame (wpE (defs₀ (F := F)) Variants.none c none) E (cc0_tail i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_tail_eq_skeleton]; unfold cc0_tail_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%d32, %f32, -, H32⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  iexists _; isplitr
  swap; · iexact H32
  ipureintro
  refine (View.read_writes_eq_canon _ _ _ (cover0_32 _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => out0_32 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t)
    | ⟨_ + 33, h⟩ => absurd h (Nat.not_lt.2 (Nat.le_add_left _ _))
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = out0_32 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t))

end Cert.TailIdeal.Hand

end
-- ==== Proof.Math.Rows.lean ====
module

public import Idealize.ShloMosaic.Lib.Pointwise

@[expose] public section

noncomputable section

namespace Cert.Rows

open Idealize.ShloMosaic

/-- One group of 256 columns, scaled to mean square one, times its gains. -/
def rms (u g : Fin 256 → EReal) (k : Fin 256) : EReal :=
  u k * Ideal.rsqrt (Ideal.div (∑ x : Fin 256, u x * u x) (Ideal.ofBits .f32 1132462080#32) + Ideal.ofBits .f32 897988541#32) * g k

/-- Four groups of 256 columns side by side. -/
def cat (a b c d : Fin 256 → EReal) (j : Fin 1024) : EReal :=
  if h0 : j.val < 256 then a ⟨j.val, h0⟩ else if h1 : j.val - 256 < 256 then b ⟨j.val - 256, h1⟩
    else if h2 : j.val - 256 - 256 < 256 then c ⟨j.val - 256 - 256, h2⟩ else d ⟨j.val - 256 - 256 - 256, by omega⟩

/-- A column's group and place in it, put together again. -/
def col (p : Fin 4) (x : Fin 256) : Fin 1024 := ⟨p.val * 256 + x.val, by omega⟩

/-- The four groups of a row, each scaled to mean square one, times their gains. -/
def grp (u g : Fin 1024 → EReal) (j : Fin 1024) : EReal :=
  u j * Ideal.rsqrt (Ideal.div (∑ x : Fin 256, u (col ⟨j.val / 256, by omega⟩ x) * u (col ⟨j.val / 256, by omega⟩ x)) (Ideal.ofBits .f32 1132462080#32)
    + Ideal.ofBits .f32 897988541#32) * g j

/-- The mean of a row of 1024. -/
def mean (u : Fin 1024 → EReal) : EReal := Ideal.div (∑ x : Fin 1024, u x) (Ideal.ofBits .f32 1149239296#32)

/-- A row less its mean, scaled to variance one, times its gains, plus its biases. -/
def ln (u g b : Fin 1024 → EReal) (j : Fin 1024) : EReal :=
  (u j - mean u) * Ideal.rsqrt (Ideal.div (∑ x : Fin 1024, (u x - mean u) * (u x - mean u)) (Ideal.ofBits .f32 1149239296#32) + Ideal.ofBits .f32 925353388#32) * g j + b j

/-- The residual's factor. -/
def al : EReal := Ideal.ofBits .f32 1068827891#32

/-- A row after the mixers: their outputs normalised and projected, added to the row, and normalised. -/
def first (y h g : Fin 1024 → EReal) (w : Fin 1024 → Fin 1024 → EReal) (lg lb : Fin 1024 → EReal) : Fin 1024 → EReal :=
  ln (fun j => al * h j + ∑ k : Fin 1024, grp y g k * w k j) lg lb

/-- The logistic function, as both programs write it. -/
def sig (x : EReal) : EReal := Ideal.div 1 (1 + Ideal.exp (-x))

/-- A row after the feed-forward part: its gate's columns `q`, its own columns through `wu`, the product through `wd`. -/
def second (h : Fin 1024 → EReal) (q : Fin 2816 → EReal) (wu : Fin 1024 → Fin 2816 → EReal) (wd : Fin 2816 → Fin 1024 → EReal) (lg lb : Fin 1024 → EReal) : Fin 1024 → EReal :=
  ln (fun j => al * h j + ∑ x : Fin 2816, q x * sig (q x) * (∑ k : Fin 1024, h k * wu k x) * wd x j) lg lb

/-- A row at the layer's end: the per-layer embedding, projected, gated by the row, added and normalised. -/
def third (h : Fin 1024 → EReal) (p : Fin 256 → EReal) (wp : Fin 256 → Fin 1024 → EReal) (wg : Fin 1024 → Fin 1024 → EReal) (bg lg lb : Fin 1024 → EReal) : Fin 1024 → EReal :=
  ln (fun j => al * h j + (∑ k : Fin 256, p k * wp k j) * sig ((∑ k : Fin 1024, h k * wg k j) + bg j)) lg lb

/-- The exponential is never negative. -/
theorem exp_nonneg : ∀ x : EReal, 0 ≤ Ideal.exp x
  | ⊥ => le_rfl
  | ⊤ => le_top
  | (r : ℝ) => by
    show (0 : EReal) ≤ Ideal.exp (r : EReal)
    rw [Ideal.exp_coe]
    exact EReal.coe_nonneg.mpr (Real.exp_pos r).le

/-- A quotient by a logistic denominator is the product with the logistic function. -/
theorem div_sig (y x : EReal) : Ideal.div y (1 + Ideal.exp (-x)) = y * sig x := by
  unfold sig Ideal.div
  have h : (1 + Ideal.exp (-x) : EReal) ≠ 0 :=
    (lt_of_lt_of_le zero_lt_one (le_add_of_nonneg_right (exp_nonneg _))).ne'
  rw [if_neg h, if_neg h, one_mul]

/-- Side by side groups, read at a column of each. -/
theorem cat_0 (a b c d : Fin 256 → EReal) {j : Fin 1024} {x : Fin 256} (h : j.val = x.val) : cat a b c d j = a x := by
  have hx := x.isLt
  unfold cat
  rw [dif_pos (by omega)]
  exact congrArg a (Fin.ext h)

theorem cat_1 (a b c d : Fin 256 → EReal) {j : Fin 1024} {x : Fin 256} (h : j.val = 256 + x.val) : cat a b c d j = b x := by
  have hx := x.isLt
  unfold cat
  rw [dif_neg (by omega), dif_pos (by omega)]
  exact congrArg b (Fin.ext (show j.val - 256 = x.val by omega))

theorem cat_2 (a b c d : Fin 256 → EReal) {j : Fin 1024} {x : Fin 256} (h : j.val = 512 + x.val) : cat a b c d j = c x := by
  have hx := x.isLt
  unfold cat
  rw [dif_neg (by omega), dif_neg (by omega), dif_pos (by omega)]
  exact congrArg c (Fin.ext (show j.val - 256 - 256 = x.val by omega))

theorem cat_3 (a b c d : Fin 256 → EReal) {j : Fin 1024} {x : Fin 256} (h : j.val = 768 + x.val) : cat a b c d j = d x := by
  have hx := x.isLt
  unfold cat
  rw [dif_neg (by omega), dif_neg (by omega), dif_neg (by omega)]
  exact congrArg d (Fin.ext (show j.val - 256 - 256 - 256 = x.val by omega))

/-- A column is in one of the four groups. -/
theorem cases4 (j : Fin 1024) : ∃ x : Fin 256, j.val = x.val ∨ j.val = 256 + x.val ∨ j.val = 512 + x.val ∨ j.val = 768 + x.val :=
  ⟨⟨j.val % 256, Nat.mod_lt _ (by decide)⟩, by have := j.isLt; simp only []; omega⟩

/-- Normalising side by side groups is normalising each. -/
theorem grp_cat (a b c d : Fin 256 → EReal) (g : Fin 1024 → EReal) (j : Fin 1024) :
    grp (cat a b c d) g j = cat (rms a fun k => g ⟨k.val, by omega⟩) (rms b fun k => g ⟨256 + k.val, by omega⟩)
      (rms c fun k => g ⟨512 + k.val, by omega⟩) (rms d fun k => g ⟨768 + k.val, by omega⟩) j := by
  obtain ⟨x, h⟩ := cases4 j
  have hx := x.isLt
  rcases h with h | h | h | h
  · have e : ∀ y : Fin 256, cat a b c d (col ⟨j.val / 256, by omega⟩ y) = a y := fun y =>
      cat_0 a b c d (show j.val / 256 * 256 + y.val = y.val by omega)
    rw [cat_0 _ _ _ _ h]
    simp only [grp, e, rms]
    rw [cat_0 _ _ _ _ h]
    exact congrArg (_ * ·) (congrArg g (Fin.ext h))
  · have e : ∀ y : Fin 256, cat a b c d (col ⟨j.val / 256, by omega⟩ y) = b y := fun y =>
      cat_1 a b c d (show j.val / 256 * 256 + y.val = 256 + y.val by omega)
    rw [cat_1 _ _ _ _ h]
    simp only [grp, e, rms]
    rw [cat_1 _ _ _ _ h]
    exact congrArg (_ * ·) (congrArg g (Fin.ext h))
  · have e : ∀ y : Fin 256, cat a b c d (col ⟨j.val / 256, by omega⟩ y) = c y := fun y =>
      cat_2 a b c d (show j.val / 256 * 256 + y.val = 512 + y.val by omega)
    rw [cat_2 _ _ _ _ h]
    simp only [grp, e, rms]
    rw [cat_2 _ _ _ _ h]
    exact congrArg (_ * ·) (congrArg g (Fin.ext h))
  · have e : ∀ y : Fin 256, cat a b c d (col ⟨j.val / 256, by omega⟩ y) = d y := fun y =>
      cat_3 a b c d (show j.val / 256 * 256 + y.val = 768 + y.val by omega)
    rw [cat_3 _ _ _ _ h]
    simp only [grp, e, rms]
    rw [cat_3 _ _ _ _ h]
    exact congrArg (_ * ·) (congrArg g (Fin.ext h))

/-- A sum over the 2816 inner columns, as the two halves that the kernel takes in turn. -/
theorem sum2816 (f : Fin 2816 → EReal) :
    ∑ x : Fin 2816, f x = ∑ x : Fin 1408, f ⟨x.val, by omega⟩ + ∑ x : Fin 1408, f ⟨1408 + x.val, by omega⟩ :=
  Fin.sum_univ_add (a := 1408) (b := 1408) f

end Cert.Rows

end

end
-- ==== Proof.Math.Layer.lean ====
module

public import proofs.«01_k».proof.Proof.Math.Rows

@[expose] public section

noncomputable section

namespace Cert.Rows

/-- The arrays the layer's tail reads, by sequence, position and column. -/
structure Args where
  ya : Fin 32 → Fin 2048 → Fin 256 → EReal
  yb : Fin 32 → Fin 2048 → Fin 256 → EReal
  yc : Fin 32 → Fin 2048 → Fin 256 → EReal
  yd : Fin 32 → Fin 2048 → Fin 256 → EReal
  h : Fin 32 → Fin 2048 → Fin 1024 → EReal
  p : Fin 32 → Fin 2048 → Fin 256 → EReal
  mg : Fin 1024 → EReal
  wo : Fin 1024 → Fin 1024 → EReal
  g1 : Fin 1024 → EReal
  b1 : Fin 1024 → EReal
  wg : Fin 1024 → Fin 2816 → EReal
  wu : Fin 1024 → Fin 2816 → EReal
  cw : Fin 3 → Fin 2816 → EReal
  cb : Fin 2816 → EReal
  wd : Fin 2816 → Fin 1024 → EReal
  g2 : Fin 1024 → EReal
  b2 : Fin 1024 → EReal
  pp : Fin 256 → Fin 1024 → EReal
  pg : Fin 1024 → Fin 1024 → EReal
  pb : Fin 1024 → EReal
  g3 : Fin 1024 → EReal
  b3 : Fin 1024 → EReal

/-- The sequence of the row numbered `n` when the sequences lie one after another. -/
def bq (n : ℕ) : Fin 32 := ⟨n / 2048 % 32, Nat.mod_lt _ (by decide)⟩

/-- Its position in the sequence. -/
def sq (n : ℕ) : Fin 2048 := ⟨n % 2048, Nat.mod_lt _ (by decide)⟩

theorem bq_row (b : Fin 32) (s : Fin 2048) : bq (b.val * 2048 + s.val) = b :=
  Fin.ext (show (b.val * 2048 + s.val) / 2048 % 32 = b.val by omega)

theorem sq_row (b : Fin 32) (s : Fin 2048) : sq (b.val * 2048 + s.val) = s :=
  Fin.ext (show (b.val * 2048 + s.val) % 2048 = s.val by omega)

namespace Args

variable (A : Args)

/-- A row after the mixers. -/
def h1 (n : ℕ) : Fin 1024 → EReal :=
  first (cat (A.ya (bq n) (sq n)) (A.yb (bq n) (sq n)) (A.yc (bq n) (sq n)) (A.yd (bq n) (sq n))) (A.h (bq n) (sq n)) A.mg A.wo A.g1 A.b1

/-- A row's gate columns, before the convolution. -/
def gate (n : ℕ) (x : Fin 2816) : EReal := ∑ k : Fin 1024, A.h1 n k * A.wg k x

/-- A row's gate columns after the convolution along the sequence, which is padded with a zero row at each end. -/
def conv (n : ℕ) (x : Fin 2816) : EReal :=
  (if n % 2048 = 0 then 0 else A.gate (n - 1) x) * A.cw 0 x + A.gate n x * A.cw 1 x
    + (if n % 2048 = 2047 then 0 else A.gate (n + 1) x) * A.cw 2 x + A.cb x

/-- A row after the feed-forward part. -/
def h2 (n : ℕ) : Fin 1024 → EReal := second (A.h1 n) (A.conv n) A.wu A.wd A.g2 A.b2

/-- A row at the layer's end. -/
def out (n : ℕ) : Fin 1024 → EReal := third (A.h2 n) (A.p (bq n) (sq n)) A.pp A.pg A.pb A.g3 A.b3

end Args

end Cert.Rows

end

end
-- ==== Proof.Tail.Host.lean ====
module

public import proofs.«01_k».proof.Proof.Tail.Body
public import proofs.«01_k».proof.Proof.Math.Layer
public import Idealize.ShloMosaic.Lib.Pointwise
public import Idealize.ShloMosaic.Lib.MatmulPlain

@[expose] public section

set_option maxRecDepth 16384

noncomputable section

namespace Cert.TailIdeal.Hand

open Cert.TailIdeal Cert.TailIdeal.Gen
open Idealize.ShloMosaic
open Idealize.ShloMosaic.StableHlo Idealize.ShloMosaic.TcCoe

variable (m : (ℓ : Loc nD τ sig) → Buf (Elt Ideal) ℓ) (c : Dev nD)

/-! ## Reshapes, entry by entry -/

theorem row1024_apply (x : FVec Ideal S1024 .f32) (k : Fin 1024) : shapeCast S1x1024 x shapeCasts_S1024_S1x1024 (ix2 0 k) = x (ix1 k) := by
  pointwise []

theorem row2816_apply (x : FVec Ideal S2816 .f32) (k : Fin 2816) : shapeCast S1x2816 x shapeCasts_S2816_S1x2816 (ix2 0 k) = x (ix1 k) := by
  pointwise []

theorem bq_fin (n : Fin 65536) : (⟨n.val / 2048, by omega⟩ : Fin 32) = Cert.Rows.bq n.val := Fin.ext (show n.val / 2048 = n.val / 2048 % 32 by omega)

theorem flat256_apply (x : FVec Ideal S32x2048x256 .f32) (n : Fin 65536) (k : Fin 256) :
    shapeCast S65536x256 x shapeCasts_S32x2048x256_S65536x256 (ix2 n k) = x (ix3 (Cert.Rows.bq n.val) (Cert.Rows.sq n.val) k) := by
  rw [← bq_fin, Cert.Rows.sq]
  pointwise []

theorem flat1024_apply (x : FVec Ideal S32x2048x1024 .f32) (n : Fin 65536) (k : Fin 1024) :
    shapeCast S65536x1024 x shapeCasts_S32x2048x1024_S65536x1024 (ix2 n k) = x (ix3 (Cert.Rows.bq n.val) (Cert.Rows.sq n.val) k) := by
  rw [← bq_fin, Cert.Rows.sq]
  pointwise []

theorem flatP_apply (x : FVec Ideal S2x32x2048x256 .f32) (l : Fin 2) (n : Fin 65536) (k : Fin 256) :
    shapeCast S2x65536x256 x shapeCasts_S2x32x2048x256_S2x65536x256 (ix3 l n k) = x (ix4 l (Cert.Rows.bq n.val) (Cert.Rows.sq n.val) k) := by
  rw [← bq_fin, Cert.Rows.sq]
  pointwise []

theorem transp_apply (x : FVec Ideal S65536x256 .f32) (k : Fin 256) (n : Fin 65536) :
    transpose S256x65536 [1, 0] x transposes_S65536x256_S256x65536_1_0 (ix2 k n) = x (ix2 n k) := by
  pointwise []

/-! ## The arrays that the grid starts from -/

theorem V_v0 : V m c main_v0 = shapeCast S1x1024 (m ((c.tc : Thread nD τ).loc main_arg6)) shapeCasts_S1024_S1x1024 := by
  simp only [V, hostOps0, List.flatten_cons, List.flatten_nil, List.append_nil, List.cons_append, List.nil_append]
  after_results_simp <;> rfl

theorem V_v2 : V m c main_v2 = shapeCast S1x1024 (m ((c.tc : Thread nD τ).loc main_arg8)) shapeCasts_S1024_S1x1024 := by
  simp only [V, hostOps0, List.flatten_cons, List.flatten_nil, List.append_nil, List.cons_append, List.nil_append]
  after_results_simp <;> rfl

theorem V_v3 : V m c main_v3 = shapeCast S1x1024 (m ((c.tc : Thread nD τ).loc main_arg9)) shapeCasts_S1024_S1x1024 := by
  simp only [V, hostOps0, List.flatten_cons, List.flatten_nil, List.append_nil, List.cons_append, List.nil_append]
  after_results_simp <;> rfl

theorem V_v8 : V m c main_v8 = shapeCast S1x1024 (m ((c.tc : Thread nD τ).loc main_arg15)) shapeCasts_S1024_S1x1024 := by
  simp only [V, hostOps0, List.flatten_cons, List.flatten_nil, List.append_nil, List.cons_append, List.nil_append]
  after_results_simp <;> rfl

theorem V_v9 : V m c main_v9 = shapeCast S1x1024 (m ((c.tc : Thread nD τ).loc main_arg16)) shapeCasts_S1024_S1x1024 := by
  simp only [V, hostOps0, List.flatten_cons, List.flatten_nil, List.append_nil, List.cons_append, List.nil_append]
  after_results_simp <;> rfl

theorem V_v12 : V m c main_v12 = shapeCast S1x1024 (m ((c.tc : Thread nD τ).loc main_arg19)) shapeCasts_S1024_S1x1024 := by
  simp only [V, hostOps0, List.flatten_cons, List.flatten_nil, List.append_nil, List.cons_append, List.nil_append]
  after_results_simp <;> rfl

theorem V_v13 : V m c main_v13 = shapeCast S1x1024 (m ((c.tc : Thread nD τ).loc main_arg20)) shapeCasts_S1024_S1x1024 := by
  simp only [V, hostOps0, List.flatten_cons, List.flatten_nil, List.append_nil, List.cons_append, List.nil_append]
  after_results_simp <;> rfl

theorem V_v14 : V m c main_v14 = shapeCast S1x1024 (m ((c.tc : Thread nD τ).loc main_arg21)) shapeCasts_S1024_S1x1024 := by
  simp only [V, hostOps0, List.flatten_cons, List.flatten_nil, List.append_nil, List.cons_append, List.nil_append]
  after_results_simp <;> rfl

theorem V_v6 : V m c main_v6 = shapeCast S1x2816 (m ((c.tc : Thread nD τ).loc main_arg13)) shapeCasts_S2816_S1x2816 := by
  simp only [V, hostOps0, List.flatten_cons, List.flatten_nil, List.append_nil, List.cons_append, List.nil_append]
  after_results_simp <;> rfl

theorem V_v1 : V m c main_v1 = (truncf .bf16 ((m ((c.tc : Thread nD τ).loc main_arg7)) : FVec Ideal S1024x1024 .f32) bitsLt_bf16_f32 : FVec Ideal S1024x1024 .bf16) := by
  simp only [V, hostOps0, List.flatten_cons, List.flatten_nil, List.append_nil, List.cons_append, List.nil_append]
  after_results_simp <;> rfl

theorem V_v4 : V m c main_v4 = (truncf .bf16 ((m ((c.tc : Thread nD τ).loc main_arg10)) : FVec Ideal S1024x2816 .f32) bitsLt_bf16_f32 : FVec Ideal S1024x2816 .bf16) := by
  simp only [V, hostOps0, List.flatten_cons, List.flatten_nil, List.append_nil, List.cons_append, List.nil_append]
  after_results_simp <;> rfl

theorem V_v5 : V m c main_v5 = (truncf .bf16 ((m ((c.tc : Thread nD τ).loc main_arg11)) : FVec Ideal S1024x2816 .f32) bitsLt_bf16_f32 : FVec Ideal S1024x2816 .bf16) := by
  simp only [V, hostOps0, List.flatten_cons, List.flatten_nil, List.append_nil, List.cons_append, List.nil_append]
  after_results_simp <;> rfl

theorem V_v7 : V m c main_v7 = (truncf .bf16 ((m ((c.tc : Thread nD τ).loc main_arg14)) : FVec Ideal S2816x1024 .f32) bitsLt_bf16_f32 : FVec Ideal S2816x1024 .bf16) := by
  simp only [V, hostOps0, List.flatten_cons, List.flatten_nil, List.append_nil, List.cons_append, List.nil_append]
  after_results_simp <;> rfl

theorem V_v10 : V m c main_v10 = (truncf .bf16 ((m ((c.tc : Thread nD τ).loc main_arg17)) : FVec Ideal S256x1024 .f32) bitsLt_bf16_f32 : FVec Ideal S256x1024 .bf16) := by
  simp only [V, hostOps0, List.flatten_cons, List.flatten_nil, List.append_nil, List.cons_append, List.nil_append]
  after_results_simp <;> rfl

theorem V_v11 : V m c main_v11 = (truncf .bf16 ((m ((c.tc : Thread nD τ).loc main_arg18)) : FVec Ideal S1024x1024 .f32) bitsLt_bf16_f32 : FVec Ideal S1024x1024 .bf16) := by
  simp only [V, hostOps0, List.flatten_cons, List.flatten_nil, List.append_nil, List.cons_append, List.nil_append]
  after_results_simp <;> rfl

theorem V_v15 : V m c main_v15 = shapeCast S65536x256 (m ((c.tc : Thread nD τ).loc main_arg0)) shapeCasts_S32x2048x256_S65536x256 := by
  simp only [V, hostOps0, List.flatten_cons, List.flatten_nil, List.append_nil, List.cons_append, List.nil_append]
  after_results_simp <;> rfl

theorem V_v18 : V m c main_v18 = shapeCast S65536x256 (m ((c.tc : Thread nD τ).loc main_arg2)) shapeCasts_S32x2048x256_S65536x256 := by
  simp only [V, hostOps0, List.flatten_cons, List.flatten_nil, List.append_nil, List.cons_append, List.nil_append]
  after_results_simp <;> rfl

theorem V_v19 : V m c main_v19 = shapeCast S65536x256 (m ((c.tc : Thread nD τ).loc main_arg3)) shapeCasts_S32x2048x256_S65536x256 := by
  simp only [V, hostOps0, List.flatten_cons, List.flatten_nil, List.append_nil, List.cons_append, List.nil_append]
  after_results_simp <;> rfl

theorem V_v17 : V m c main_v17 = transpose S256x65536 [1, 0] (shapeCast S65536x256 (m ((c.tc : Thread nD τ).loc main_arg1)) shapeCasts_S32x2048x256_S65536x256) transposes_S65536x256_S256x65536_1_0 := by
  simp only [V, hostOps0, List.flatten_cons, List.flatten_nil, List.append_nil, List.cons_append, List.nil_append]
  after_results_simp <;> rfl

theorem V_v20 : V m c main_v20 = shapeCast S65536x1024 (m ((c.tc : Thread nD τ).loc main_arg4)) shapeCasts_S32x2048x1024_S65536x1024 := by
  simp only [V, hostOps0, List.flatten_cons, List.flatten_nil, List.append_nil, List.cons_append, List.nil_append]
  after_results_simp <;> rfl

theorem V_v21 : V m c main_v21 = shapeCast S2x65536x256 (m ((c.tc : Thread nD τ).loc main_arg5)) shapeCasts_S2x32x2048x256_S2x65536x256 := by
  simp only [V, hostOps0, List.flatten_cons, List.flatten_nil, List.append_nil, List.cons_append, List.nil_append]
  after_results_simp <;> rfl

/-- The arrays that the kernel reads. -/
def args : Cert.Rows.Args where
  ya := fun b s k => ((m ((c.tc : Thread nD τ).loc main_arg0)) : FVec Ideal S32x2048x256 .f32) (ix3 b s k)
  yb := fun b s k => ((m ((c.tc : Thread nD τ).loc main_arg1)) : FVec Ideal S32x2048x256 .f32) (ix3 b s k)
  yc := fun b s k => ((m ((c.tc : Thread nD τ).loc main_arg2)) : FVec Ideal S32x2048x256 .f32) (ix3 b s k)
  yd := fun b s k => ((m ((c.tc : Thread nD τ).loc main_arg3)) : FVec Ideal S32x2048x256 .f32) (ix3 b s k)
  h := fun b s k => ((m ((c.tc : Thread nD τ).loc main_arg4)) : FVec Ideal S32x2048x1024 .f32) (ix3 b s k)
  p := fun b s k => ((m ((c.tc : Thread nD τ).loc main_arg5)) : FVec Ideal S2x32x2048x256 .f32) (ix4 1 b s k)
  mg := fun k => ((m ((c.tc : Thread nD τ).loc main_arg6)) : FVec Ideal S1024 .f32) (ix1 k)
  wo := fun k j => ((m ((c.tc : Thread nD τ).loc main_arg7)) : FVec Ideal S1024x1024 .f32) (ix2 k j)
  g1 := fun k => ((m ((c.tc : Thread nD τ).loc main_arg8)) : FVec Ideal S1024 .f32) (ix1 k)
  b1 := fun k => ((m ((c.tc : Thread nD τ).loc main_arg9)) : FVec Ideal S1024 .f32) (ix1 k)
  wg := fun k j => ((m ((c.tc : Thread nD τ).loc main_arg10)) : FVec Ideal S1024x2816 .f32) (ix2 k j)
  wu := fun k j => ((m ((c.tc : Thread nD τ).loc main_arg11)) : FVec Ideal S1024x2816 .f32) (ix2 k j)
  cw := fun k j => ((m ((c.tc : Thread nD τ).loc main_arg12)) : FVec Ideal S3x2816 .f32) (ix2 k j)
  cb := fun k => ((m ((c.tc : Thread nD τ).loc main_arg13)) : FVec Ideal S2816 .f32) (ix1 k)
  wd := fun k j => ((m ((c.tc : Thread nD τ).loc main_arg14)) : FVec Ideal S2816x1024 .f32) (ix2 k j)
  g2 := fun k => ((m ((c.tc : Thread nD τ).loc main_arg15)) : FVec Ideal S1024 .f32) (ix1 k)
  b2 := fun k => ((m ((c.tc : Thread nD τ).loc main_arg16)) : FVec Ideal S1024 .f32) (ix1 k)
  pp := fun k j => ((m ((c.tc : Thread nD τ).loc main_arg17)) : FVec Ideal S256x1024 .f32) (ix2 k j)
  pg := fun k j => ((m ((c.tc : Thread nD τ).loc main_arg18)) : FVec Ideal S1024x1024 .f32) (ix2 k j)
  pb := fun k => ((m ((c.tc : Thread nD τ).loc main_arg19)) : FVec Ideal S1024 .f32) (ix1 k)
  g3 := fun k => ((m ((c.tc : Thread nD τ).loc main_arg20)) : FVec Ideal S1024 .f32) (ix1 k)
  b3 := fun k => ((m ((c.tc : Thread nD τ).loc main_arg21)) : FVec Ideal S1024 .f32) (ix1 k)

theorem in_v0 (k : Fin 1024) : (V m c main_v0 : FVec Ideal S1x1024 .f32) (ix2 0 k) = (args m c).mg k := by
  rw [V_v0]; exact row1024_apply _ k
theorem in_v2 (k : Fin 1024) : (V m c main_v2 : FVec Ideal S1x1024 .f32) (ix2 0 k) = (args m c).g1 k := by
  rw [V_v2]; exact row1024_apply _ k
theorem in_v3 (k : Fin 1024) : (V m c main_v3 : FVec Ideal S1x1024 .f32) (ix2 0 k) = (args m c).b1 k := by
  rw [V_v3]; exact row1024_apply _ k
theorem in_v8 (k : Fin 1024) : (V m c main_v8 : FVec Ideal S1x1024 .f32) (ix2 0 k) = (args m c).g2 k := by
  rw [V_v8]; exact row1024_apply _ k
theorem in_v9 (k : Fin 1024) : (V m c main_v9 : FVec Ideal S1x1024 .f32) (ix2 0 k) = (args m c).b2 k := by
  rw [V_v9]; exact row1024_apply _ k
theorem in_v12 (k : Fin 1024) : (V m c main_v12 : FVec Ideal S1x1024 .f32) (ix2 0 k) = (args m c).pb k := by
  rw [V_v12]; exact row1024_apply _ k
theorem in_v13 (k : Fin 1024) : (V m c main_v13 : FVec Ideal S1x1024 .f32) (ix2 0 k) = (args m c).g3 k := by
  rw [V_v13]; exact row1024_apply _ k
theorem in_v14 (k : Fin 1024) : (V m c main_v14 : FVec Ideal S1x1024 .f32) (ix2 0 k) = (args m c).b3 k := by
  rw [V_v14]; exact row1024_apply _ k
theorem in_v6 (k : Fin 2816) : (V m c main_v6 : FVec Ideal S1x2816 .f32) (ix2 0 k) = (args m c).cb k := by
  rw [V_v6]; exact row2816_apply _ k
theorem in_v1 (k : Fin 1024) (j : Fin 1024) : (V m c main_v1 : FVec Ideal S1024x1024 .bf16) (ix2 k j) = (args m c).wo k j := by
  rw [V_v1]; rfl
theorem in_v4 (k : Fin 1024) (j : Fin 2816) : (V m c main_v4 : FVec Ideal S1024x2816 .bf16) (ix2 k j) = (args m c).wg k j := by
  rw [V_v4]; rfl
theorem in_v5 (k : Fin 1024) (j : Fin 2816) : (V m c main_v5 : FVec Ideal S1024x2816 .bf16) (ix2 k j) = (args m c).wu k j := by
  rw [V_v5]; rfl
theorem in_v7 (k : Fin 2816) (j : Fin 1024) : (V m c main_v7 : FVec Ideal S2816x1024 .bf16) (ix2 k j) = (args m c).wd k j := by
  rw [V_v7]; rfl
theorem in_v10 (k : Fin 256) (j : Fin 1024) : (V m c main_v10 : FVec Ideal S256x1024 .bf16) (ix2 k j) = (args m c).pp k j := by
  rw [V_v10]; rfl
theorem in_v11 (k : Fin 1024) (j : Fin 1024) : (V m c main_v11 : FVec Ideal S1024x1024 .bf16) (ix2 k j) = (args m c).pg k j := by
  rw [V_v11]; rfl
theorem in_cw (k : Fin 3) (j : Fin 2816) : (V m c main_arg12 : FVec Ideal S3x2816 .f32) (ix2 k j) = (args m c).cw k j := by
  rw [V_main_arg12]; rfl
theorem in_v15 (n : Fin 65536) (k : Fin 256) : (V m c main_v15 : FVec Ideal S65536x256 .f32) (ix2 n k) = (args m c).ya (Cert.Rows.bq n.val) (Cert.Rows.sq n.val) k := by
  rw [V_v15]; exact flat256_apply _ n k
theorem in_v18 (n : Fin 65536) (k : Fin 256) : (V m c main_v18 : FVec Ideal S65536x256 .f32) (ix2 n k) = (args m c).yc (Cert.Rows.bq n.val) (Cert.Rows.sq n.val) k := by
  rw [V_v18]; exact flat256_apply _ n k
theorem in_v19 (n : Fin 65536) (k : Fin 256) : (V m c main_v19 : FVec Ideal S65536x256 .f32) (ix2 n k) = (args m c).yd (Cert.Rows.bq n.val) (Cert.Rows.sq n.val) k := by
  rw [V_v19]; exact flat256_apply _ n k
theorem in_v17 (k : Fin 256) (n : Fin 65536) : (V m c main_v17 : FVec Ideal S256x65536 .f32) (ix2 k n) = (args m c).yb (Cert.Rows.bq n.val) (Cert.Rows.sq n.val) k := by
  rw [V_v17]; exact (transp_apply _ k n).trans (flat256_apply _ n k)
theorem in_v20 (n : Fin 65536) (k : Fin 1024) : (V m c main_v20 : FVec Ideal S65536x1024 .f32) (ix2 n k) = (args m c).h (Cert.Rows.bq n.val) (Cert.Rows.sq n.val) k := by
  rw [V_v20]; exact flat1024_apply _ n k
theorem in_v21 (n : Fin 65536) (k : Fin 256) : (V m c main_v21 : FVec Ideal S2x65536x256 .f32) (ix3 1 n k) = (args m c).p (Cert.Rows.bq n.val) (Cert.Rows.sq n.val) k := by
  rw [V_v21]; exact flatP_apply _ 1 n k

end Cert.TailIdeal.Hand

end

end
-- ==== Proof.Tail.Val.lean ====
module

public import proofs.«01_k».proof.Proof.Gen.TailIdeal.Skeleton
public import proofs.«01_k».proof.Proof.Math.Rows
public import Idealize.ShloMosaic.Lib.Pointwise
public import Idealize.ShloMosaic.Lib.MatmulPlain

@[expose] public section

set_option maxRecDepth 16384

noncomputable section

namespace Cert.TailIdeal.Hand

open Cert.TailIdeal Cert.TailIdeal.Gen
open Idealize.ShloMosaic

/-- Sixteen rows, 512 rows and sixteen rows, one under another: a row of the result by its place. -/
def rows3 {w : ℕ} (p : Fin 16 → Fin w → EReal) (x : Fin 512 → Fin w → EReal) (n : Fin 16 → Fin w → EReal) (e : Fin 544) (k : Fin w) : EReal :=
  if h0 : e.val < 16 then p ⟨e.val, h0⟩ k else if h1 : e.val - 16 < 512 then x ⟨e.val - 16, h1⟩ k else n ⟨e.val - 16 - 512, by omega⟩ k

/-- The rows of a mixer's output with those just before and just after. -/
theorem ext_apply (p : Vec Ideal S16x256 .f32) (x : Vec Ideal S512x256 .f32) (n : Vec Ideal S16x256 .f32) (e : Fin 544) (k : Fin 256) :
    k0_pay8 p x n (ix2 e k) = rows3 (fun r k => p (ix2 r k)) (fun r k => x (ix2 r k)) (fun r k => n (ix2 r k)) e k := by
  simp only [rows3]
  pointwise [k0_pay8]

/-- The same of an output whose columns are the rows. -/
theorem extT_apply (p : Vec Ideal S256x128 .f32) (x : Vec Ideal S256x512 .f32) (n : Vec Ideal S256x128 .f32) (e : Fin 544) (k : Fin 256) :
    k0_pay3 p x n (ix2 e k) = rows3 (fun r k => p (ix2 k ⟨112 + r.val, by omega⟩)) (fun r k => x (ix2 k r)) (fun r k => n (ix2 k ⟨r.val, by omega⟩)) e k := by
  simp only [rows3]
  pointwise [k0_pay3]

/-- The layer's input rows with those just before and just after. -/
def extH (p : Vec Ideal S16x1024 .f32) (x : Vec Ideal S512x1024 .f32) (n : Vec Ideal S16x1024 .f32) : FVec Ideal S544x1024 .f32 :=
  concatenate S544x1024 0 [⟨S16x1024, shapeCast S16x1024 p shapeCasts_S16x1024_S16x1024⟩, ⟨S512x1024, shapeCast S512x1024 x shapeCasts_S512x1024_S512x1024⟩,
    ⟨S16x1024, shapeCast S16x1024 n shapeCasts_S16x1024_S16x1024⟩] concatenates_S16x1024_S512x1024_S16x1024_S544x1024_d0

theorem extH_apply (p : Vec Ideal S16x1024 .f32) (x : Vec Ideal S512x1024 .f32) (n : Vec Ideal S16x1024 .f32) (e : Fin 544) (k : Fin 1024) :
    extH p x n (ix2 e k) = rows3 (fun r k => p (ix2 r k)) (fun r k => x (ix2 r k)) (fun r k => n (ix2 r k)) e k := by
  simp only [rows3]
  pointwise [extH]

/-- A mixer's rows normalised. -/
def rmsV (X : FVec Ideal S544x256 .f32) (g : Vec Ideal S1x256 .f32) : FVec Ideal S544x256 .bf16 :=
  k0_pay6 X (k0_pay4 g) (shapeCast S544x1 (multiReduction .add [1] S544 (mulf X X) 0x00000000#32 reduces_S544x256_S544 (.inl rfl) rfl) shapeCasts_S544_S544x1)

theorem rmsV_apply (X : FVec Ideal S544x256 .f32) (g : Vec Ideal S1x256 .f32) (e : Fin 544) (k : Fin 256) :
    rmsV X g (ix2 e k) = Cert.Rows.rms (fun x => X (ix2 e x)) (fun x => g (ix2 0 x)) k := by
  simp only [Cert.Rows.rms]
  pointwise [rmsV, k0_pay6, k0_pay4]

theorem pay2_eq (p : Vec Ideal S16x256 .f32) (x : Vec Ideal S512x256 .f32) (n : Vec Ideal S16x256 .f32) (g : Vec Ideal S1x256 .f32) :
    k0_pay2 p x n g = rmsV (k0_pay8 p x n) g := rfl

theorem pay7_eq (p : Vec Ideal S16x256 .f32) (x : Vec Ideal S512x256 .f32) (n : Vec Ideal S16x256 .f32) (g : Vec Ideal S1x256 .f32) :
    k0_pay7 p x n g = rmsV (k0_pay8 p x n) g := rfl

theorem pay6_eq (p : Vec Ideal S256x128 .f32) (x : Vec Ideal S256x512 .f32) (n : Vec Ideal S256x128 .f32) (g : Vec Ideal S1x256 .f32) :
    k0_pay6 (k0_pay3 p x n) (k0_pay4 g) (k0_pay5 p x n) = rmsV (k0_pay3 p x n) g := rfl

/-- The four mixers' rows side by side. -/
def catV (a b c d : FVec Ideal S544x256 .bf16) : FVec Ideal S544x1024 .bf16 :=
  concatenate S544x1024 1 [⟨S544x256, a⟩, ⟨S544x256, b⟩, ⟨S544x256, c⟩, ⟨S544x256, d⟩] concatenates_S544x256_S544x256_S544x256_S544x256_S544x1024_d1

theorem catV_apply (a b c d : FVec Ideal S544x256 .bf16) (e : Fin 544) (j : Fin 1024) :
    catV a b c d (ix2 e j) = Cert.Rows.cat (fun k => a (ix2 e k)) (fun k => b (ix2 e k)) (fun k => c (ix2 e k)) (fun k => d (ix2 e k)) j := by
  simp only [Cert.Rows.cat]
  pointwise [catV]

/-- The projected mixers' rows, added to the layer's input. -/
def preV (M : FVec Ideal S544x1024 .bf16) (H : FVec Ideal S544x1024 .f32) (w : Vec Ideal S1024x1024 .bf16) : FVec Ideal S544x1024 .f32 :=
  addf (mulf (broadcast S544x1024 (Scalar.ofBits .f32 0x3FB504F3#32)) H)
    (matmul (φ₁ := .bf16) (φ₂ := .bf16) dot_S544x1024_S1024x1024_S544x1024_1_0_0_1_n_n none M (shapeCast S1024x1024 w shapeCasts_S1024x1024_S1024x1024) (constant S544x1024 .f32 0x00000000#32))

theorem preV_apply (M : FVec Ideal S544x1024 .bf16) (H : FVec Ideal S544x1024 .f32) (w : Vec Ideal S1024x1024 .bf16) (e : Fin 544) (j : Fin 1024) :
    preV M H w (ix2 e j) = Cert.Rows.al * H (ix2 e j) + ∑ k : Fin 1024, M (ix2 e k) * w (ix2 k j) := by
  simp only [Cert.Rows.al]
  pointwise [preV]

/-- A block's rows less their means. -/
def cenE (X : FVec Ideal S544x1024 .f32) : FVec Ideal S544x1024 .f32 :=
  subf X (broadcastTo S544x1024 (divf (shapeCast S544x1 (multiReduction .add [1] S544 X 0x00000000#32 reduces_S544x1024_S544 (.inl rfl) rfl) shapeCasts_S544_S544x1)
    (broadcast S544x1 (Scalar.ofBits .f32 0x44800000#32))) broadcasts_S544x1_S544x1024)

theorem cenE_apply (X : FVec Ideal S544x1024 .f32) (e : Fin 544) (j : Fin 1024) :
    cenE X (ix2 e j) = X (ix2 e j) - Cert.Rows.mean (fun x => X (ix2 e x)) := by
  simp only [Cert.Rows.mean]
  pointwise [cenE]

theorem pay13_apply (g b : Vec Ideal S1x1024 .f32) (X : FVec Ideal S544x1024 .f32) (e : Fin 544) (j : Fin 1024) :
    k0_pay13 (k0_pay9 g) (k0_pay10 b) (cenE X) (mulf (cenE X) (cenE X)) (ix2 e j) = Cert.Rows.ln (fun x => X (ix2 e x)) (fun x => g (ix2 0 x)) (fun x => b (ix2 0 x)) j := by
  simp only [Cert.Rows.ln, ← cenE_apply]
  pointwise [k0_pay13, k0_pay9, k0_pay10]

theorem pay11_eq (a b c : FVec Ideal S544x256 .bf16) (d : FVec Ideal S544x256 .f32) (g : Vec Ideal S1x256 .f32) (p : Vec Ideal S16x1024 .f32) (x : Vec Ideal S512x1024 .f32) (n : Vec Ideal S16x1024 .f32) (w : Vec Ideal S1024x1024 .bf16) :
    k0_pay11 a b c d g p x n w = cenE (preV (catV a b c (rmsV d g)) (extH p x n) w) := rfl

theorem pay12_eq (a b c : FVec Ideal S544x256 .bf16) (d : FVec Ideal S544x256 .f32) (g : Vec Ideal S1x256 .f32) (p : Vec Ideal S16x1024 .f32) (x : Vec Ideal S512x1024 .f32) (n : Vec Ideal S16x1024 .f32) (w : Vec Ideal S1024x1024 .bf16) :
    k0_pay12 a b c d g p x n w = mulf (k0_pay11 a b c d g p x n w) (k0_pay11 a b c d g p x n w) := rfl

end Cert.TailIdeal.Hand

end

end
-- ==== Proof.Tail.Blocks.lean ====
module

public import proofs.«01_k».proof.Proof.Tail.Host
public import proofs.«01_k».proof.Proof.Tail.Val
public import Idealize.ShloMosaic.Lib.Pipeline.ValueKit

@[expose] public section

set_option maxRecDepth 16384

noncomputable section

namespace Cert.TailIdeal.Hand

open Cert.TailIdeal Cert.TailIdeal.Gen
open Idealize.ShloMosaic Idealize.ShloMosaic.TcCoe

variable (m : (ℓ : Loc nD τ sig) → Buf (Elt Ideal) ℓ) (c : Dev nD)

/-! ## The windows' blocks -/

theorem idx0 : ∀ t : Fin cfg0.N, win0_0.index t = ![max (32 * t.val) 1 - 1, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![min (32 * t.val + 32) 4095, 0] := (by decide +kernel : ∀ t : Fin grid0.N, _)
theorem idx3 : ∀ t : Fin cfg0.N, win0_3.index t = ![0, max (4 * t.val) 1 - 1] := (by decide +kernel : ∀ t : Fin grid0.N, _)
theorem idx4 : ∀ t : Fin cfg0.N, win0_4.index t = ![0, t.val] := (by decide +kernel : ∀ t : Fin grid0.N, _)
theorem idx5 : ∀ t : Fin cfg0.N, win0_5.index t = ![0, min (4 * t.val + 4) 511] := (by decide +kernel : ∀ t : Fin grid0.N, _)
theorem idx6 : ∀ t : Fin cfg0.N, win0_6.index t = ![max (32 * t.val) 1 - 1, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![min (32 * t.val + 32) 4095, 0] := (by decide +kernel : ∀ t : Fin grid0.N, _)
theorem idx9 : ∀ t : Fin cfg0.N, win0_9.index t = ![max (32 * t.val) 1 - 1, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![min (32 * t.val + 32) 4095, 0] := (by decide +kernel : ∀ t : Fin grid0.N, _)
theorem idx12 : ∀ t : Fin cfg0.N, win0_12.index t = ![max (32 * t.val) 1 - 1, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![min (32 * t.val + 32) 4095, 0] := (by decide +kernel : ∀ t : Fin grid0.N, _)
theorem idx15 : ∀ t : Fin cfg0.N, win0_15.index t = ![1, t.val, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![0, 0] := (by decide +kernel : ∀ t : Fin grid0.N, _)
theorem idx23 : ∀ t : Fin cfg0.N, win0_23.index t = ![0, 0] := (by decide +kernel : ∀ t : Fin grid0.N, _)
theorem idx24 : ∀ t : Fin cfg0.N, win0_24.index t = ![0, 0] := (by decide +kernel : ∀ t : Fin grid0.N, _)
theorem idx25 : ∀ t : Fin cfg0.N, win0_25.index t = ![0, 0] := (by decide +kernel : ∀ t : Fin grid0.N, _)
theorem idx26 : ∀ t : Fin cfg0.N, win0_26.index t = ![0, 0] := (by decide +kernel : ∀ t : Fin grid0.N, _)
theorem idx27 : ∀ t : Fin cfg0.N, win0_27.index t = ![0, 0] := (by decide +kernel : ∀ t : Fin grid0.N, _)
theorem idx28 : ∀ t : Fin cfg0.N, win0_28.index t = ![0, 0] := (by decide +kernel : ∀ t : Fin grid0.N, _)
theorem idx29 : ∀ t : Fin cfg0.N, win0_29.index t = ![0, 0] := (by decide +kernel : ∀ t : Fin grid0.N, _)
theorem idx30 : ∀ t : Fin cfg0.N, win0_30.index t = ![0, 0] := (by decide +kernel : ∀ t : Fin grid0.N, _)
theorem idx31 : ∀ t : Fin cfg0.N, win0_31.index t = ![0, 0] := (by decide +kernel : ∀ t : Fin grid0.N, _)
theorem idx32 : ∀ t : Fin cfg0.N, win0_32.index t = ![t.val, 0] := (by decide +kernel : ∀ t : Fin grid0.N, _)

theorem iblk16 (t : Fin cfg0.N) : iblk m c 16 t = V m c main_v0 := funext fun y => by
  blk_simp [iblk]
  refine congrArg (V m c main_v0) (funext fun a => Fin.ext ?_)
  match a with
  | ⟨0, _⟩ => blk_simp [idx16 t]
  | ⟨1, _⟩ => blk_simp [idx16 t]
theorem iblk17 (t : Fin cfg0.N) : iblk m c 17 t = V m c main_v1 := funext fun y => by
  blk_simp [iblk]
  refine congrArg (V m c main_v1) (funext fun a => Fin.ext ?_)
  match a with
  | ⟨0, _⟩ => blk_simp [idx17 t]
  | ⟨1, _⟩ => blk_simp [idx17 t]
theorem iblk18 (t : Fin cfg0.N) : iblk m c 18 t = V m c main_v2 := funext fun y => by
  blk_simp [iblk]
  refine congrArg (V m c main_v2) (funext fun a => Fin.ext ?_)
  match a with
  | ⟨0, _⟩ => blk_simp [idx18 t]
  | ⟨1, _⟩ => blk_simp [idx18 t]
theorem iblk19 (t : Fin cfg0.N) : iblk m c 19 t = V m c main_v3 := funext fun y => by
  blk_simp [iblk]
  refine congrArg (V m c main_v3) (funext fun a => Fin.ext ?_)
  match a with
  | ⟨0, _⟩ => blk_simp [idx19 t]
  | ⟨1, _⟩ => blk_simp [idx19 t]
theorem iblk20 (t : Fin cfg0.N) : iblk m c 20 t = V m c main_v4 := funext fun y => by
  blk_simp [iblk]
  refine congrArg (V m c main_v4) (funext fun a => Fin.ext ?_)
  match a with
  | ⟨0, _⟩ => blk_simp [idx20 t]
  | ⟨1, _⟩ => blk_simp [idx20 t]
theorem iblk21 (t : Fin cfg0.N) : iblk m c 21 t = V m c main_v5 := funext fun y => by
  blk_simp [iblk]
  refine congrArg (V m c main_v5) (funext fun a => Fin.ext ?_)
  match a with
  | ⟨0, _⟩ => blk_simp [idx21 t]
  | ⟨1, _⟩ => blk_simp [idx21 t]
theorem iblk22 (t : Fin cfg0.N) : iblk m c 22 t = V m c main_arg12 := funext fun y => by
  blk_simp [iblk]
  refine congrArg (V m c main_arg12) (funext fun a => Fin.ext ?_)
  match a with
  | ⟨0, _⟩ => blk_simp [idx22 t]
  | ⟨1, _⟩ => blk_simp [idx22 t]
theorem iblk23 (t : Fin cfg0.N) : iblk m c 23 t = V m c main_v6 := funext fun y => by
  blk_simp [iblk]
  refine congrArg (V m c main_v6) (funext fun a => Fin.ext ?_)
  match a with
  | ⟨0, _⟩ => blk_simp [idx23 t]
  | ⟨1, _⟩ => blk_simp [idx23 t]
theorem iblk24 (t : Fin cfg0.N) : iblk m c 24 t = V m c main_v7 := funext fun y => by
  blk_simp [iblk]
  refine congrArg (V m c main_v7) (funext fun a => Fin.ext ?_)
  match a with
  | ⟨0, _⟩ => blk_simp [idx24 t]
  | ⟨1, _⟩ => blk_simp [idx24 t]
theorem iblk25 (t : Fin cfg0.N) : iblk m c 25 t = V m c main_v8 := funext fun y => by
  blk_simp [iblk]
  refine congrArg (V m c main_v8) (funext fun a => Fin.ext ?_)
  match a with
  | ⟨0, _⟩ => blk_simp [idx25 t]
  | ⟨1, _⟩ => blk_simp [idx25 t]
theorem iblk26 (t : Fin cfg0.N) : iblk m c 26 t = V m c main_v9 := funext fun y => by
  blk_simp [iblk]
  refine congrArg (V m c main_v9) (funext fun a => Fin.ext ?_)
  match a with
  | ⟨0, _⟩ => blk_simp [idx26 t]
  | ⟨1, _⟩ => blk_simp [idx26 t]
theorem iblk27 (t : Fin cfg0.N) : iblk m c 27 t = V m c main_v10 := funext fun y => by
  blk_simp [iblk]
  refine congrArg (V m c main_v10) (funext fun a => Fin.ext ?_)
  match a with
  | ⟨0, _⟩ => blk_simp [idx27 t]
  | ⟨1, _⟩ => blk_simp [idx27 t]
theorem iblk28 (t : Fin cfg0.N) : iblk m c 28 t = V m c main_v11 := funext fun y => by
  blk_simp [iblk]
  refine congrArg (V m c main_v11) (funext fun a => Fin.ext ?_)
  match a with
  | ⟨0, _⟩ => blk_simp [idx28 t]
  | ⟨1, _⟩ => blk_simp [idx28 t]
theorem iblk29 (t : Fin cfg0.N) : iblk m c 29 t = V m c main_v12 := funext fun y => by
  blk_simp [iblk]
  refine congrArg (V m c main_v12) (funext fun a => Fin.ext ?_)
  match a with
  | ⟨0, _⟩ => blk_simp [idx29 t]
  | ⟨1, _⟩ => blk_simp [idx29 t]
theorem iblk30 (t : Fin cfg0.N) : iblk m c 30 t = V m c main_v13 := funext fun y => by
  blk_simp [iblk]
  refine congrArg (V m c main_v13) (funext fun a => Fin.ext ?_)
  match a with
  | ⟨0, _⟩ => blk_simp [idx30 t]
  | ⟨1, _⟩ => blk_simp [idx30 t]
theorem iblk31 (t : Fin cfg0.N) : iblk m c 31 t = V m c main_v14 := funext fun y => by
  blk_simp [iblk]
  refine congrArg (V m c main_v14) (funext fun a => Fin.ext ?_)
  match a with
  | ⟨0, _⟩ => blk_simp [idx31 t]
  | ⟨1, _⟩ => blk_simp [idx31 t]
theorem iblk0 (t : Fin cfg0.N) (r : Fin 16) (k : Fin 256) (n : Fin 65536) (h : n.val = (max (32 * t.val) 1 - 1) * 16 + r.val) :
    (iblk m c 0 t : FVec Ideal S16x256 .f32) (ix2 r k) = (V m c main_v15 : FVec Ideal S65536x256 .f32) (ix2 n k) := by
  blk_simp [iblk]
  refine congrArg (V m c main_v15) (funext fun a => Fin.ext ?_)
  match a with
  | ⟨0, _⟩ => blk_simp [idx0 t]; rw [h]
  | ⟨1, _⟩ => blk_simp [idx0 t]
theorem iblk1 (t : Fin cfg0.N) (r : Fin 512) (k : Fin 256) (n : Fin 65536) (h : n.val = t.val * 512 + r.val) :
    (iblk m c 1 t : FVec Ideal S512x256 .f32) (ix2 r k) = (V m c main_v15 : FVec Ideal S65536x256 .f32) (ix2 n k) := by
  blk_simp [iblk]
  refine congrArg (V m c main_v15) (funext fun a => Fin.ext ?_)
  match a with
  | ⟨0, _⟩ => blk_simp [idx1 t]; rw [h]
  | ⟨1, _⟩ => blk_simp [idx1 t]
theorem iblk2 (t : Fin cfg0.N) (r : Fin 16) (k : Fin 256) (n : Fin 65536) (h : n.val = (min (32 * t.val + 32) 4095) * 16 + r.val) :
    (iblk m c 2 t : FVec Ideal S16x256 .f32) (ix2 r k) = (V m c main_v15 : FVec Ideal S65536x256 .f32) (ix2 n k) := by
  blk_simp [iblk]
  refine congrArg (V m c main_v15) (funext fun a => Fin.ext ?_)
  match a with
  | ⟨0, _⟩ => blk_simp [idx2 t]; rw [h]
  | ⟨1, _⟩ => blk_simp [idx2 t]
theorem iblk6 (t : Fin cfg0.N) (r : Fin 16) (k : Fin 256) (n : Fin 65536) (h : n.val = (max (32 * t.val) 1 - 1) * 16 + r.val) :
    (iblk m c 6 t : FVec Ideal S16x256 .f32) (ix2 r k) = (V m c main_v18 : FVec Ideal S65536x256 .f32) (ix2 n k) := by
  blk_simp [iblk]
  refine congrArg (V m c main_v18) (funext fun a => Fin.ext ?_)
  match a with
  | ⟨0, _⟩ => blk_simp [idx6 t]; rw [h]
  | ⟨1, _⟩ => blk_simp [idx6 t]
theorem iblk7 (t : Fin cfg0.N) (r : Fin 512) (k : Fin 256) (n : Fin 65536) (h : n.val = t.val * 512 + r.val) :
    (iblk m c 7 t : FVec Ideal S512x256 .f32) (ix2 r k) = (V m c main_v18 : FVec Ideal S65536x256 .f32) (ix2 n k) := by
  blk_simp [iblk]
  refine congrArg (V m c main_v18) (funext fun a => Fin.ext ?_)
  match a with
  | ⟨0, _⟩ => blk_simp [idx7 t]; rw [h]
  | ⟨1, _⟩ => blk_simp [idx7 t]
theorem iblk8 (t : Fin cfg0.N) (r : Fin 16) (k : Fin 256) (n : Fin 65536) (h : n.val = (min (32 * t.val + 32) 4095) * 16 + r.val) :
    (iblk m c 8 t : FVec Ideal S16x256 .f32) (ix2 r k) = (V m c main_v18 : FVec Ideal S65536x256 .f32) (ix2 n k) := by
  blk_simp [iblk]
  refine congrArg (V m c main_v18) (funext fun a => Fin.ext ?_)
  match a with
  | ⟨0, _⟩ => blk_simp [idx8 t]; rw [h]
  | ⟨1, _⟩ => blk_simp [idx8 t]
theorem iblk9 (t : Fin cfg0.N) (r : Fin 16) (k : Fin 256) (n : Fin 65536) (h : n.val = (max (32 * t.val) 1 - 1) * 16 + r.val) :
    (iblk m c 9 t : FVec Ideal S16x256 .f32) (ix2 r k) = (V m c main_v19 : FVec Ideal S65536x256 .f32) (ix2 n k) := by
  blk_simp [iblk]
  refine congrArg (V m c main_v19) (funext fun a => Fin.ext ?_)
  match a with
  | ⟨0, _⟩ => blk_simp [idx9 t]; rw [h]
  | ⟨1, _⟩ => blk_simp [idx9 t]
theorem iblk10 (t : Fin cfg0.N) (r : Fin 512) (k : Fin 256) (n : Fin 65536) (h : n.val = t.val * 512 + r.val) :
    (iblk m c 10 t : FVec Ideal S512x256 .f32) (ix2 r k) = (V m c main_v19 : FVec Ideal S65536x256 .f32) (ix2 n k) := by
  blk_simp [iblk]
  refine congrArg (V m c main_v19) (funext fun a => Fin.ext ?_)
  match a with
  | ⟨0, _⟩ => blk_simp [idx10 t]; rw [h]
  | ⟨1, _⟩ => blk_simp [idx10 t]
theorem iblk11 (t : Fin cfg0.N) (r : Fin 16) (k : Fin 256) (n : Fin 65536) (h : n.val = (min (32 * t.val + 32) 4095) * 16 + r.val) :
    (iblk m c 11 t : FVec Ideal S16x256 .f32) (ix2 r k) = (V m c main_v19 : FVec Ideal S65536x256 .f32) (ix2 n k) := by
  blk_simp [iblk]
  refine congrArg (V m c main_v19) (funext fun a => Fin.ext ?_)
  match a with
  | ⟨0, _⟩ => blk_simp [idx11 t]; rw [h]
  | ⟨1, _⟩ => blk_simp [idx11 t]
theorem iblk12 (t : Fin cfg0.N) (r : Fin 16) (k : Fin 1024) (n : Fin 65536) (h : n.val = (max (32 * t.val) 1 - 1) * 16 + r.val) :
    (iblk m c 12 t : FVec Ideal S16x1024 .f32) (ix2 r k) = (V m c main_v20 : FVec Ideal S65536x1024 .f32) (ix2 n k) := by
  blk_simp [iblk]
  refine congrArg (V m c main_v20) (funext fun a => Fin.ext ?_)
  match a with
  | ⟨0, _⟩ => blk_simp [idx12 t]; rw [h]
  | ⟨1, _⟩ => blk_simp [idx12 t]
theorem iblk13 (t : Fin cfg0.N) (r : Fin 512) (k : Fin 1024) (n : Fin 65536) (h : n.val = t.val * 512 + r.val) :
    (iblk m c 13 t : FVec Ideal S512x1024 .f32) (ix2 r k) = (V m c main_v20 : FVec Ideal S65536x1024 .f32) (ix2 n k) := by
  blk_simp [iblk]
  refine congrArg (V m c main_v20) (funext fun a => Fin.ext ?_)
  match a with
  | ⟨0, _⟩ => blk_simp [idx13 t]; rw [h]
  | ⟨1, _⟩ => blk_simp [idx13 t]
theorem iblk14 (t : Fin cfg0.N) (r : Fin 16) (k : Fin 1024) (n : Fin 65536) (h : n.val = (min (32 * t.val + 32) 4095) * 16 + r.val) :
    (iblk m c 14 t : FVec Ideal S16x1024 .f32) (ix2 r k) = (V m c main_v20 : FVec Ideal S65536x1024 .f32) (ix2 n k) := by
  blk_simp [iblk]
  refine congrArg (V m c main_v20) (funext fun a => Fin.ext ?_)
  match a with
  | ⟨0, _⟩ => blk_simp [idx14 t]; rw [h]
  | ⟨1, _⟩ => blk_simp [idx14 t]
theorem iblk3 (t : Fin cfg0.N) (k : Fin 256) (r : Fin 128) (n : Fin 65536) (h : n.val = (max (4 * t.val) 1 - 1) * 128 + r.val) :
    (iblk m c 3 t : FVec Ideal S256x128 .f32) (ix2 k r) = (V m c main_v17 : FVec Ideal S256x65536 .f32) (ix2 k n) := by
  blk_simp [iblk]
  refine congrArg (V m c main_v17) (funext fun a => Fin.ext ?_)
  match a with
  | ⟨0, _⟩ => blk_simp [idx3 t]
  | ⟨1, _⟩ => blk_simp [idx3 t]; rw [h]
theorem iblk4 (t : Fin cfg0.N) (k : Fin 256) (r : Fin 512) (n : Fin 65536) (h : n.val = (t.val) * 512 + r.val) :
    (iblk m c 4 t : FVec Ideal S256x512 .f32) (ix2 k r) = (V m c main_v17 : FVec Ideal S256x65536 .f32) (ix2 k n) := by
  blk_simp [iblk]
  refine congrArg (V m c main_v17) (funext fun a => Fin.ext ?_)
  match a with
  | ⟨0, _⟩ => blk_simp [idx4 t]
  | ⟨1, _⟩ => blk_simp [idx4 t]; rw [h]
theorem iblk5 (t : Fin cfg0.N) (k : Fin 256) (r : Fin 128) (n : Fin 65536) (h : n.val = (min (4 * t.val + 4) 511) * 128 + r.val) :
    (iblk m c 5 t : FVec Ideal S256x128 .f32) (ix2 k r) = (V m c main_v17 : FVec Ideal S256x65536 .f32) (ix2 k n) := by
  blk_simp [iblk]
  refine congrArg (V m c main_v17) (funext fun a => Fin.ext ?_)
  match a with
  | ⟨0, _⟩ => blk_simp [idx5 t]
  | ⟨1, _⟩ => blk_simp [idx5 t]; rw [h]
theorem iblk15 (t : Fin cfg0.N) (r : Fin 512) (k : Fin 256) (n : Fin 65536) (h : n.val = t.val * 512 + r.val) :
    (iblk m c 15 t : FVec Ideal S1x512x256 .f32) (ix3 0 r k) = (V m c main_v21 : FVec Ideal S2x65536x256 .f32) (ix3 1 n k) := by
  blk_simp [iblk]
  refine congrArg (V m c main_v21) (funext fun a => Fin.ext ?_)
  match a with
  | ⟨0, _⟩ => blk_simp [idx15 t]; rfl
  | ⟨1, _⟩ => blk_simp [idx15 t]; rw [h]
  | ⟨2, _⟩ => blk_simp [idx15 t]

end Cert.TailIdeal.Hand

end

end
-- ==== Proof.Tail.Ffn.lean ====
module

public import proofs.«01_k».proof.Proof.Tail.Val

@[expose] public section

set_option maxRecDepth 16384

noncomputable section

namespace Cert.TailIdeal.Hand

open Cert.TailIdeal Cert.TailIdeal.Gen
open Idealize.ShloMosaic

/-! ## The two masks of the convolution's ends -/

/-- The divisor of the block's number: four blocks make a sequence. -/
abbrev four : BitVec 32 := Scalar.select (Scalar.cmpi .eq 4#32 0#32) 1#32 4#32

/-- A word's remainder by four, as the program forms it. -/
abbrev rem4 (a : BitVec 32) : BitVec 32 :=
  Scalar.select (Scalar.andi (Scalar.xori (Scalar.cmpi .slt (Scalar.remsi a four) 0#32) (Scalar.cmpi .slt four 0#32)) (Scalar.cmpi .ne (Scalar.remsi a four) 0#32))
    (Scalar.addi (Scalar.remsi a four) four) (Scalar.remsi a four)

theorem rem4_eq : ∀ t : Fin 128, rem4 (BitVec.ofNat 32 t.val) = BitVec.ofNat 32 (t.val % 4) := by decide +kernel

/-- One, but zero in one row of the blocks that the bit `s` picks. -/
def maskV (q : BitVec 32) (s : BitVec 1) : FVec Ideal S512x1 .f32 :=
  select (andi (cmpi .eq (iota .tc S512x1 32 [0] iota_S512x1_d0_w32) (broadcast S512x1 q)) (broadcast S512x1 s))
    (broadcast S512x1 (Scalar.ofBits .f32 0x00000000#32)) (broadcast S512x1 (Scalar.ofBits .f32 0x3F800000#32))

theorem maskV_apply (q : Fin 512) (u v : Fin 4) (r : Fin 512) :
    maskV (BitVec.ofNat 32 q.val) (Scalar.cmpi .eq (BitVec.ofNat 32 u.val) (BitVec.ofNat 32 v.val)) (ix2 r 0)
      = if u = v ∧ r = q then (0 : EReal) else 1 := by
  have h : maskV (BitVec.ofNat 32 q.val) (Scalar.cmpi .eq (BitVec.ofNat 32 u.val) (BitVec.ofNat 32 v.val)) (ix2 r 0)
      = if (BitVec.ofBool (BitVec.ofNat 32 (0 * 512 + r.val) == BitVec.ofNat 32 q.val) &&& BitVec.ofBool (BitVec.ofNat 32 u.val == BitVec.ofNat 32 v.val)) = 1#1
        then Ideal.ofBits .f32 0x00000000#32 else Ideal.ofBits .f32 0x3F800000#32 := rfl
  have e1 : (BitVec.ofNat 32 (0 * 512 + r.val) == BitVec.ofNat 32 q.val) = decide (r = q) := by
    have hr := r.isLt
    have hq := q.isLt
    rw [Bool.eq_iff_iff, beq_iff_eq, decide_eq_true_iff]
    constructor
    · intro h
      have := congrArg BitVec.toNat h
      simp only [BitVec.toNat_ofNat] at this
      exact Fin.ext (by omega)
    · rintro rfl
      rw [zero_mul, zero_add]
  have e2 : ∀ u v : Fin 4, (BitVec.ofNat 32 u.val == BitVec.ofNat 32 v.val) = decide (u = v) := by decide
  rw [h, e1, e2 u v, Ideal.ofBits_zero_f32, Ideal.ofBits_one_f32]
  by_cases hu : u = v <;> by_cases hr : r = q <;> simp [hu, hr]

theorem pay17_apply (t : Fin 128) (r : Fin 512) :
    k0_pay17 (F := Ideal) (BitVec.ofNat 32 t.val) (ix2 r 0) = if t.val % 4 = 0 ∧ r.val = 0 then (0 : EReal) else 1 := by
  have h := maskV_apply 0 ⟨t.val % 4, Nat.mod_lt _ (by decide)⟩ 0 r
  rw [show k0_pay17 (F := Ideal) (BitVec.ofNat 32 t.val) = maskV 0#32 (Scalar.cmpi .eq (rem4 (BitVec.ofNat 32 t.val)) 0#32) from rfl, rem4_eq]
  exact h.trans (if_congr (and_congr Fin.ext_iff Fin.ext_iff) rfl rfl)

theorem pay19_apply (t : Fin 128) (r : Fin 512) :
    k0_pay19 (F := Ideal) k0_pay18 four (Scalar.remsi (BitVec.ofNat 32 t.val) four) (Scalar.cmpi .ne (Scalar.remsi (BitVec.ofNat 32 t.val) four) 0#32)
      (Scalar.cmpi .slt (Scalar.remsi (BitVec.ofNat 32 t.val) four) 0#32) (ix2 r 0) = if t.val % 4 = 3 ∧ r.val = 511 then (0 : EReal) else 1 := by
  have h := maskV_apply 511 ⟨t.val % 4, Nat.mod_lt _ (by decide)⟩ 3 r
  rw [show k0_pay19 (F := Ideal) k0_pay18 four (Scalar.remsi (BitVec.ofNat 32 t.val) four) (Scalar.cmpi .ne (Scalar.remsi (BitVec.ofNat 32 t.val) four) 0#32)
      (Scalar.cmpi .slt (Scalar.remsi (BitVec.ofNat 32 t.val) four) 0#32) = maskV 511#32 (Scalar.cmpi .eq (rem4 (BitVec.ofNat 32 t.val)) 3#32) from rfl, rem4_eq]
  exact h.trans (if_congr (and_congr Fin.ext_iff Fin.ext_iff) rfl rfl)

/-! ## The convolution of a chunk of gate columns -/

/-- A chunk of the gate's columns, over all the block's rows. -/
def gateV (H : FVec Ideal S544x1024 .bf16) (w : Vec Ideal S1024x1408 .bf16) : FVec Ideal S544x1408 .f32 :=
  matmul (φ₁ := .bf16) (φ₂ := .bf16) dot_S544x1024_S1024x1408_S544x1408_1_0_0_1_n_n none H (shapeCast S1024x1408 w shapeCasts_S1024x1408_S1024x1408) (constant S544x1408 .f32 0x00000000#32)

theorem gateV_apply (H : FVec Ideal S544x1024 .bf16) (w : Vec Ideal S1024x1408 .bf16) (e : Fin 544) (x : Fin 1408) :
    gateV H w (ix2 e x) = ∑ k : Fin 1024, H (ix2 e k) * w (ix2 k x) := by
  pointwise [gateV]

/-- The block's own rows of a rotated chunk. -/
def rotV (n : BitVec 32) (G : FVec Ideal S544x1408 .f32) : FVec Ideal S512x1408 .f32 :=
  extractStridedSlice S512x1408 ![16, 0] (dynamicRotate 0 n none G rotates_S544x1408_d0) slices_S544x1408_o16_0_S512x1408

theorem rotV_prev (G : FVec Ideal S544x1408 .f32) (r : Fin 512) (x : Fin 1408) : rotV 1#32 G (ix2 r x) = G (ix2 ⟨15 + r.val, by omega⟩ x) := by
  have hr := r.isLt
  refine congrArg G (funext fun b => Fin.ext ?_)
  match b with
  | ⟨0, _⟩ => show (16 + r.val + 544 - 1) % 544 = 15 + r.val; omega
  | ⟨1, _⟩ => show 0 + x.val = x.val; omega

theorem rotV_next (G : FVec Ideal S544x1408 .f32) (r : Fin 512) (x : Fin 1408) : rotV 543#32 G (ix2 r x) = G (ix2 ⟨17 + r.val, by omega⟩ x) := by
  have hr := r.isLt
  refine congrArg G (funext fun b => Fin.ext ?_)
  match b with
  | ⟨0, _⟩ => show (16 + r.val + 544 - 543) % 544 = 17 + r.val; omega
  | ⟨1, _⟩ => show 0 + x.val = x.val; omega

/-- The three taps' sum. -/
def tapsV (L C R : FVec Ideal S512x1408 .f32) (lo hi : FVec Ideal S512x1 .f32) (c0 c1 c2 cb : Vec Ideal S1x1408 .f32) : FVec Ideal S512x1408 .f32 :=
  addf (addf (addf (mulf (mulf L (broadcastTo S512x1408 lo broadcasts_S512x1_S512x1408)) (broadcastTo S512x1408 c0 broadcasts_S1x1408_S512x1408)) (mulf C (broadcastTo S512x1408 c1 broadcasts_S1x1408_S512x1408)))
    (mulf (mulf R (broadcastTo S512x1408 hi broadcasts_S512x1_S512x1408)) (broadcastTo S512x1408 c2 broadcasts_S1x1408_S512x1408)))
    (broadcastTo S512x1408 (shapeCast S1x1408 cb shapeCasts_S1x1408_S1x1408) broadcasts_S1x1408_S512x1408)

theorem tapsV_apply (L C R : FVec Ideal S512x1408 .f32) (lo hi : FVec Ideal S512x1 .f32) (c0 c1 c2 cb : Vec Ideal S1x1408 .f32) (r : Fin 512) (x : Fin 1408) :
    tapsV L C R lo hi c0 c1 c2 cb (ix2 r x)
      = L (ix2 r x) * lo (ix2 r 0) * c0 (ix2 0 x) + C (ix2 r x) * c1 (ix2 0 x) + R (ix2 r x) * hi (ix2 r 0) * c2 (ix2 0 x) + cb (ix2 0 x) := by
  pointwise [tapsV]

theorem pay23_eq (H : FVec Ideal S544x1024 .bf16) (lo hi : FVec Ideal S512x1 .f32) (w : Vec Ideal S1024x1408 .bf16) (c0 c1 c2 cb : Vec Ideal S1x1408 .f32) :
    k0_pay23 H lo hi w c0 c1 c2 cb = tapsV (rotV 1#32 (gateV H w)) (extractStridedSlice S512x1408 ![16, 0] (gateV H w) slices_S544x1408_o16_0_S512x1408)
      (rotV 543#32 (gateV H w)) lo hi c0 c1 c2 cb := rfl

theorem pay20_eq (H : FVec Ideal S544x1024 .bf16) (lo : FVec Ideal S512x1 .f32) (a : IVec S512x1 1) (p q : BitVec 32) (s u : BitVec 1) (w : Vec Ideal S1024x1408 .bf16) (c0 c1 c2 cb : Vec Ideal S1x1408 .f32) :
    k0_pay20 H lo a p q s u w c0 c1 c2 cb = k0_pay23 H lo (k0_pay19 a p q s u) w c0 c1 c2 cb := rfl

theorem pay23_apply (H : FVec Ideal S544x1024 .bf16) (lo hi : FVec Ideal S512x1 .f32) (w : Vec Ideal S1024x1408 .bf16) (c0 c1 c2 cb : Vec Ideal S1x1408 .f32) (r : Fin 512) (x : Fin 1408) :
    k0_pay23 H lo hi w c0 c1 c2 cb (ix2 r x)
      = (∑ k : Fin 1024, H (ix2 ⟨15 + r.val, by omega⟩ k) * w (ix2 k x)) * lo (ix2 r 0) * c0 (ix2 0 x) + (∑ k : Fin 1024, H (ix2 ⟨16 + r.val, by omega⟩ k) * w (ix2 k x)) * c1 (ix2 0 x)
        + (∑ k : Fin 1024, H (ix2 ⟨17 + r.val, by omega⟩ k) * w (ix2 k x)) * hi (ix2 r 0) * c2 (ix2 0 x) + cb (ix2 0 x) := by
  have hm : extractStridedSlice S512x1408 ![16, 0] (gateV H w) slices_S544x1408_o16_0_S512x1408 (ix2 r x) = gateV H w (ix2 ⟨16 + r.val, by omega⟩ x) :=
    congrArg (gateV H w) (funext fun b => Fin.ext (by match b with | ⟨0, _⟩ => rfl | ⟨1, _⟩ => exact Nat.zero_add _))
  rw [pay23_eq, tapsV_apply, rotV_prev, rotV_next, hm, gateV_apply, gateV_apply, gateV_apply]

/-! ## A chunk's part of the feed-forward product -/

/-- A chunk's gated columns through its rows of the down projection. -/
def downV (Q : FVec Ideal S512x1408 .f32) (U : FVec Ideal S512x1024 .bf16) (wu : Vec Ideal S1024x1408 .bf16) (wd : Vec Ideal S1408x1024 .bf16) : FVec Ideal S512x1024 .f32 :=
  k0_pay22 U Q (exp (subf (broadcast S512x1408 (Scalar.ofBits .f32 0x00000000#32)) Q)) (Scalar.ofBits .f32 0x3F800000#32) wu wd

theorem downV_apply (Q : FVec Ideal S512x1408 .f32) (U : FVec Ideal S512x1024 .bf16) (wu : Vec Ideal S1024x1408 .bf16) (wd : Vec Ideal S1408x1024 .bf16) (r : Fin 512) (j : Fin 1024) :
    downV Q U wu wd (ix2 r j) = ∑ x : Fin 1408, Q (ix2 r x) * Cert.Rows.sig (Q (ix2 r x)) * (∑ k : Fin 1024, U (ix2 r k) * wu (ix2 k x)) * wd (ix2 x j) := by
  have h : downV Q U wu wd (ix2 r j) = ∑ x : Fin 1408, Ideal.div (Q (ix2 r x)) (1 + Ideal.exp (0 - Q (ix2 r x))) * (∑ k : Fin 1024, U (ix2 r k) * wu (ix2 k x)) * wd (ix2 x j) := by
    pointwise [downV, k0_pay22]
  rw [h]
  exact Finset.sum_congr rfl fun x _ => by rw [zero_sub, Cert.Rows.div_sig]

/-! ## Normalised rows of the block itself -/

/-- The block's rows less their means. -/
def cenR (X : FVec Ideal S512x1024 .f32) : FVec Ideal S512x1024 .f32 :=
  subf X (broadcastTo S512x1024 (divf (shapeCast S512x1 (multiReduction .add [1] S512 X 0x00000000#32 reduces_S512x1024_S512 (.inl rfl) rfl) shapeCasts_S512_S512x1)
    (broadcast S512x1 (Scalar.ofBits .f32 0x44800000#32))) broadcasts_S512x1_S512x1024)

theorem cenR_apply (X : FVec Ideal S512x1024 .f32) (e : Fin 512) (j : Fin 1024) :
    cenR X (ix2 e j) = X (ix2 e j) - Cert.Rows.mean (fun x => X (ix2 e x)) := by
  simp only [Cert.Rows.mean]
  pointwise [cenR]

/-- The block's rows normalised. -/
def lnR (X : FVec Ideal S512x1024 .f32) (g b : Vec Ideal S1x1024 .f32) : FVec Ideal S512x1024 .f32 :=
  k0_pay1 (k0_pay27 g) (k0_pay28 b) (cenR X)
    (addf (divf (shapeCast S512x1 (multiReduction .add [1] S512 (mulf (cenR X) (cenR X)) 0x00000000#32 reduces_S512x1024_S512 (.inl rfl) rfl) shapeCasts_S512_S512x1)
      (broadcast S512x1 (Scalar.ofBits .f32 0x44800000#32))) (broadcast S512x1 (Scalar.ofBits .f32 0x3727C5AC#32)))

theorem lnR_apply (X : FVec Ideal S512x1024 .f32) (g b : Vec Ideal S1x1024 .f32) (e : Fin 512) (j : Fin 1024) :
    lnR X g b (ix2 e j) = Cert.Rows.ln (fun x => X (ix2 e x)) (fun x => g (ix2 0 x)) (fun x => b (ix2 0 x)) j := by
  simp only [Cert.Rows.ln, ← cenR_apply]
  pointwise [lnR, k0_pay1, k0_pay27, k0_pay28]

/-- The rows and both chunks' parts, before normalising. -/
def midV (H : FVec Ideal S512x1024 .f32) (A B : FVec Ideal S512x1024 .f32) : FVec Ideal S512x1024 .f32 :=
  addf (mulf (broadcast S512x1024 (Scalar.ofBits .f32 0x3FB504F3#32)) H) (addf A B)

theorem midV_apply (H A B : FVec Ideal S512x1024 .f32) (e : Fin 512) (j : Fin 1024) :
    midV H A B (ix2 e j) = Cert.Rows.al * H (ix2 e j) + (A (ix2 e j) + B (ix2 e j)) := by
  simp only [Cert.Rows.al]
  pointwise [midV]

theorem pay25_eq (H : FVec Ideal S512x1024 .f32) (U : FVec Ideal S512x1024 .bf16) (A : FVec Ideal S512x1024 .f32) (Q : FVec Ideal S512x1408 .f32) (wu : Vec Ideal S1024x1408 .bf16) (wd : Vec Ideal S1408x1024 .bf16) (g b : Vec Ideal S1x1024 .f32) :
    k0_pay25 H U A Q (subf (broadcast S512x1408 (Scalar.ofBits .f32 0x00000000#32)) Q) wu wd g b = lnR (midV H A (downV Q U wu wd)) g b := rfl

/-- The rows and the gated per-layer embedding, before normalising. -/
def lastV (H : FVec Ideal S512x1024 .f32) (wg : Vec Ideal S1024x1024 .bf16) (bg : Vec Ideal S1x1024 .f32) (p : Vec Ideal S1x512x256 .f32) (wp : Vec Ideal S256x1024 .bf16) : FVec Ideal S512x1024 .f32 :=
  addf (mulf (broadcast S512x1024 (Scalar.ofBits .f32 0x3FB504F3#32)) H)
    (divf (matmul (φ₁ := .bf16) (φ₂ := .bf16) dot_S512x256_S256x1024_S512x1024_1_0_0_1_n_n none (truncf .bf16 (shapeCast S512x256 p shapeCasts_S1x512x256_S512x256) bitsLt_bf16_f32) (shapeCast S256x1024 wp shapeCasts_S256x1024_S256x1024) (constant S512x1024 .f32 0x00000000#32))
      (addf (broadcast S512x1024 (Scalar.ofBits .f32 0x3F800000#32)) (exp (subf (broadcast S512x1024 (Scalar.ofBits .f32 0x00000000#32))
        (addf (matmul (φ₁ := .bf16) (φ₂ := .bf16) dot_S512x1024_S1024x1024_S512x1024_1_0_0_1_n_n none (truncf .bf16 H bitsLt_bf16_f32) (shapeCast S1024x1024 wg shapeCasts_S1024x1024_S1024x1024) (constant S512x1024 .f32 0x00000000#32))
          (broadcastTo S512x1024 (shapeCast S1x1024 bg shapeCasts_S1x1024_S1x1024) broadcasts_S1x1024_S512x1024))))))

theorem lastV_apply (H : FVec Ideal S512x1024 .f32) (wg : Vec Ideal S1024x1024 .bf16) (bg : Vec Ideal S1x1024 .f32) (p : Vec Ideal S1x512x256 .f32) (wp : Vec Ideal S256x1024 .bf16) (r : Fin 512) (j : Fin 1024) :
    lastV H wg bg p wp (ix2 r j) = Cert.Rows.al * H (ix2 r j)
      + (∑ k : Fin 256, p (ix3 0 r k) * wp (ix2 k j)) * Cert.Rows.sig ((∑ k : Fin 1024, H (ix2 r k) * wg (ix2 k j)) + bg (ix2 0 j)) := by
  have h : lastV H wg bg p wp (ix2 r j) = Ideal.ofBits .f32 1068827891#32 * H (ix2 r j)
      + Ideal.div (∑ k : Fin 256, p (ix3 0 r k) * wp (ix2 k j)) (1 + Ideal.exp (0 - ((∑ k : Fin 1024, H (ix2 r k) * wg (ix2 k j)) + bg (ix2 0 j)))) := by
    pointwise [lastV]
  rw [h, zero_sub, Cert.Rows.div_sig]
  rfl

theorem last_eq (H : FVec Ideal S512x1024 .f32) (wg : Vec Ideal S1024x1024 .bf16) (bg : Vec Ideal S1x1024 .f32) (p : Vec Ideal S1x512x256 .f32) (wp : Vec Ideal S256x1024 .bf16) (g b : Vec Ideal S1x1024 .f32) :
    k0_pay1 (k0_pay27 g) (k0_pay28 b) (k0_pay29 H (truncf .bf16 H bitsLt_bf16_f32) wg bg p wp) (k0_pay30 H (truncf .bf16 H bitsLt_bf16_f32) wg bg p wp)
      = lnR (lastV H wg bg p wp) g b := rfl

end Cert.TailIdeal.Hand

end

end
-- ==== Proof.Tail.Block.lean ====
module

public import proofs.«01_k».proof.Proof.Tail.Body
public import proofs.«01_k».proof.Proof.Tail.Ffn
public import proofs.«01_k».proof.Proof.Math.Layer
public import Idealize.ShloMosaic.Lib.Pipeline.Value

@[expose] public section

set_option maxRecDepth 16384

noncomputable section

namespace Cert.TailIdeal.Hand

open Cert.TailIdeal Cert.TailIdeal.Gen
open Idealize.ShloMosaic

/-! ## What the body's loads read -/

theorem off2 : (![0, 0] : Fin 2 → ℕ) = fun _ => 0 := funext fun a => by match a with | ⟨0, _⟩ => rfl | ⟨1, _⟩ => rfl
theorem off3 : (![0, 0, 0] : Fin 3 → ℕ) = fun _ => 0 := funext fun a => by match a with | ⟨0, _⟩ => rfl | ⟨1, _⟩ => rfl | ⟨2, _⟩ => rfl

theorem ld0 (e : EltTy) (x : Vec Ideal S16x256 e) : View.ld x r0_0 = x := View.ld_unit_zero off2 _ x
theorem ld1 (e : EltTy) (x : Vec Ideal S512x256 e) : View.ld x r0_1 = x := View.ld_unit_zero off2 _ x
theorem ld3 (e : EltTy) (x : Vec Ideal S256x128 e) : View.ld x r0_3 = x := View.ld_unit_zero off2 _ x
theorem ld4 (e : EltTy) (x : Vec Ideal S256x512 e) : View.ld x r0_4 = x := View.ld_unit_zero off2 _ x
theorem ld8 (e : EltTy) (x : Vec Ideal S16x1024 e) : View.ld x r0_8 = x := View.ld_unit_zero off2 _ x
theorem ld9 (e : EltTy) (x : Vec Ideal S512x1024 e) : View.ld x r0_9 = x := View.ld_unit_zero off2 _ x
theorem ld10 (e : EltTy) (x : Vec Ideal S1024x1024 e) : View.ld x r0_10 = x := View.ld_unit_zero off2 _ x
theorem ld11 (e : EltTy) (x : Vec Ideal S1x1024 e) : View.ld x r0_11 = x := View.ld_unit_zero off2 _ x
theorem ld24 (e : EltTy) (x : Vec Ideal S1x512x256 e) : View.ld x r0_24 = x := View.ld_unit_zero off3 _ x
theorem ld25 (e : EltTy) (x : Vec Ideal S256x1024 e) : View.ld x r0_25 = x := View.ld_unit_zero off2 _ x

/-- 1 by 256 of the array, from row 0, column 0. -/
def cut2 {e : EltTy} (X : Vec Ideal S1x1024 e) : Vec Ideal S1x256 e := View.ld X r0_2
theorem cut2_apply {e : EltTy} (X : Vec Ideal S1x1024 e)  (x : Fin 256) : cut2 X (ix2 (0 : Fin 1) x) = X (ix2 0 ⟨x.val, by omega⟩) :=
  congrArg X (funext fun a => Fin.ext (by match a with | ⟨0, _⟩ => rfl | ⟨1, _⟩ => exact (Nat.zero_add _).trans (Nat.one_mul _)))
/-- 1 by 256 of the array, from row 0, column 256. -/
def cut5 {e : EltTy} (X : Vec Ideal S1x1024 e) : Vec Ideal S1x256 e := View.ld X r0_5
theorem cut5_apply {e : EltTy} (X : Vec Ideal S1x1024 e)  (x : Fin 256) : cut5 X (ix2 (0 : Fin 1) x) = X (ix2 0 ⟨256 + x.val, by omega⟩) :=
  congrArg X (funext fun a => Fin.ext (by match a with | ⟨0, _⟩ => rfl | ⟨1, _⟩ => exact congrArg (256 + ·) (Nat.one_mul _)))
/-- 1 by 256 of the array, from row 0, column 512. -/
def cut6 {e : EltTy} (X : Vec Ideal S1x1024 e) : Vec Ideal S1x256 e := View.ld X r0_6
theorem cut6_apply {e : EltTy} (X : Vec Ideal S1x1024 e)  (x : Fin 256) : cut6 X (ix2 (0 : Fin 1) x) = X (ix2 0 ⟨512 + x.val, by omega⟩) :=
  congrArg X (funext fun a => Fin.ext (by match a with | ⟨0, _⟩ => rfl | ⟨1, _⟩ => exact congrArg (512 + ·) (Nat.one_mul _)))
/-- 1 by 256 of the array, from row 0, column 768. -/
def cut7 {e : EltTy} (X : Vec Ideal S1x1024 e) : Vec Ideal S1x256 e := View.ld X r0_7
theorem cut7_apply {e : EltTy} (X : Vec Ideal S1x1024 e)  (x : Fin 256) : cut7 X (ix2 (0 : Fin 1) x) = X (ix2 0 ⟨768 + x.val, by omega⟩) :=
  congrArg X (funext fun a => Fin.ext (by match a with | ⟨0, _⟩ => rfl | ⟨1, _⟩ => exact congrArg (768 + ·) (Nat.one_mul _)))
/-- 1024 by 1408 of the array, from row 0, column 0. -/
def cut12 {e : EltTy} (X : Vec Ideal S1024x2816 e) : Vec Ideal S1024x1408 e := View.ld X r0_12
theorem cut12_apply {e : EltTy} (X : Vec Ideal S1024x2816 e) (q : Fin 1024) (x : Fin 1408) : cut12 X (ix2 q x) = X (ix2 ⟨q.val, by omega⟩ ⟨x.val, by omega⟩) :=
  congrArg X (funext fun a => Fin.ext (by match a with | ⟨0, _⟩ => exact (Nat.zero_add _).trans (Nat.one_mul _) | ⟨1, _⟩ => exact (Nat.zero_add _).trans (Nat.one_mul _)))
/-- 1024 by 1408 of the array, from row 0, column 1408. -/
def cut18 {e : EltTy} (X : Vec Ideal S1024x2816 e) : Vec Ideal S1024x1408 e := View.ld X r0_18
theorem cut18_apply {e : EltTy} (X : Vec Ideal S1024x2816 e) (q : Fin 1024) (x : Fin 1408) : cut18 X (ix2 q x) = X (ix2 ⟨q.val, by omega⟩ ⟨1408 + x.val, by omega⟩) :=
  congrArg X (funext fun a => Fin.ext (by match a with | ⟨0, _⟩ => exact (Nat.zero_add _).trans (Nat.one_mul _) | ⟨1, _⟩ => exact congrArg (1408 + ·) (Nat.one_mul _)))
/-- 1 by 1408 of the array, from row 0, column 0. -/
def cut13 {e : EltTy} (X : Vec Ideal S3x2816 e) : Vec Ideal S1x1408 e := View.ld X r0_13
theorem cut13_apply {e : EltTy} (X : Vec Ideal S3x2816 e)  (x : Fin 1408) : cut13 X (ix2 (0 : Fin 1) x) = X (ix2 0 ⟨x.val, by omega⟩) :=
  congrArg X (funext fun a => Fin.ext (by match a with | ⟨0, _⟩ => rfl | ⟨1, _⟩ => exact (Nat.zero_add _).trans (Nat.one_mul _)))
/-- 1 by 1408 of the array, from row 1, column 0. -/
def cut14 {e : EltTy} (X : Vec Ideal S3x2816 e) : Vec Ideal S1x1408 e := View.ld X r0_14
theorem cut14_apply {e : EltTy} (X : Vec Ideal S3x2816 e)  (x : Fin 1408) : cut14 X (ix2 (0 : Fin 1) x) = X (ix2 1 ⟨x.val, by omega⟩) :=
  congrArg X (funext fun a => Fin.ext (by match a with | ⟨0, _⟩ => rfl | ⟨1, _⟩ => exact (Nat.zero_add _).trans (Nat.one_mul _)))
/-- 1 by 1408 of the array, from row 2, column 0. -/
def cut15 {e : EltTy} (X : Vec Ideal S3x2816 e) : Vec Ideal S1x1408 e := View.ld X r0_15
theorem cut15_apply {e : EltTy} (X : Vec Ideal S3x2816 e)  (x : Fin 1408) : cut15 X (ix2 (0 : Fin 1) x) = X (ix2 2 ⟨x.val, by omega⟩) :=
  congrArg X (funext fun a => Fin.ext (by match a with | ⟨0, _⟩ => rfl | ⟨1, _⟩ => exact (Nat.zero_add _).trans (Nat.one_mul _)))
/-- 1 by 1408 of the array, from row 0, column 1408. -/
def cut19 {e : EltTy} (X : Vec Ideal S3x2816 e) : Vec Ideal S1x1408 e := View.ld X r0_19
theorem cut19_apply {e : EltTy} (X : Vec Ideal S3x2816 e)  (x : Fin 1408) : cut19 X (ix2 (0 : Fin 1) x) = X (ix2 0 ⟨1408 + x.val, by omega⟩) :=
  congrArg X (funext fun a => Fin.ext (by match a with | ⟨0, _⟩ => rfl | ⟨1, _⟩ => exact congrArg (1408 + ·) (Nat.one_mul _)))
/-- 1 by 1408 of the array, from row 1, column 1408. -/
def cut20 {e : EltTy} (X : Vec Ideal S3x2816 e) : Vec Ideal S1x1408 e := View.ld X r0_20
theorem cut20_apply {e : EltTy} (X : Vec Ideal S3x2816 e)  (x : Fin 1408) : cut20 X (ix2 (0 : Fin 1) x) = X (ix2 1 ⟨1408 + x.val, by omega⟩) :=
  congrArg X (funext fun a => Fin.ext (by match a with | ⟨0, _⟩ => rfl | ⟨1, _⟩ => exact congrArg (1408 + ·) (Nat.one_mul _)))
/-- 1 by 1408 of the array, from row 2, column 1408. -/
def cut21 {e : EltTy} (X : Vec Ideal S3x2816 e) : Vec Ideal S1x1408 e := View.ld X r0_21
theorem cut21_apply {e : EltTy} (X : Vec Ideal S3x2816 e)  (x : Fin 1408) : cut21 X (ix2 (0 : Fin 1) x) = X (ix2 2 ⟨1408 + x.val, by omega⟩) :=
  congrArg X (funext fun a => Fin.ext (by match a with | ⟨0, _⟩ => rfl | ⟨1, _⟩ => exact congrArg (1408 + ·) (Nat.one_mul _)))
/-- 1 by 1408 of the array, from row 0, column 0. -/
def cut16 {e : EltTy} (X : Vec Ideal S1x2816 e) : Vec Ideal S1x1408 e := View.ld X r0_16
theorem cut16_apply {e : EltTy} (X : Vec Ideal S1x2816 e)  (x : Fin 1408) : cut16 X (ix2 (0 : Fin 1) x) = X (ix2 0 ⟨x.val, by omega⟩) :=
  congrArg X (funext fun a => Fin.ext (by match a with | ⟨0, _⟩ => rfl | ⟨1, _⟩ => exact (Nat.zero_add _).trans (Nat.one_mul _)))
/-- 1 by 1408 of the array, from row 0, column 1408. -/
def cut22 {e : EltTy} (X : Vec Ideal S1x2816 e) : Vec Ideal S1x1408 e := View.ld X r0_22
theorem cut22_apply {e : EltTy} (X : Vec Ideal S1x2816 e)  (x : Fin 1408) : cut22 X (ix2 (0 : Fin 1) x) = X (ix2 0 ⟨1408 + x.val, by omega⟩) :=
  congrArg X (funext fun a => Fin.ext (by match a with | ⟨0, _⟩ => rfl | ⟨1, _⟩ => exact congrArg (1408 + ·) (Nat.one_mul _)))
/-- 1408 by 1024 of the array, from row 0, column 0. -/
def cut17 {e : EltTy} (X : Vec Ideal S2816x1024 e) : Vec Ideal S1408x1024 e := View.ld X r0_17
theorem cut17_apply {e : EltTy} (X : Vec Ideal S2816x1024 e) (q : Fin 1408) (x : Fin 1024) : cut17 X (ix2 q x) = X (ix2 ⟨q.val, by omega⟩ x) :=
  congrArg X (funext fun a => Fin.ext (by match a with | ⟨0, _⟩ => exact (Nat.zero_add _).trans (Nat.one_mul _) | ⟨1, _⟩ => exact (Nat.zero_add _).trans (Nat.one_mul _)))
/-- 1408 by 1024 of the array, from row 1408, column 0. -/
def cut23 {e : EltTy} (X : Vec Ideal S2816x1024 e) : Vec Ideal S1408x1024 e := View.ld X r0_23
theorem cut23_apply {e : EltTy} (X : Vec Ideal S2816x1024 e) (q : Fin 1408) (x : Fin 1024) : cut23 X (ix2 q x) = X (ix2 ⟨1408 + q.val, by omega⟩ x) :=
  congrArg X (funext fun a => Fin.ext (by match a with | ⟨0, _⟩ => exact congrArg (1408 + ·) (Nat.one_mul _) | ⟨1, _⟩ => exact (Nat.zero_add _).trans (Nat.one_mul _)))

/-! ## The block's rows, as the layer's rows -/

/-- Row `e` of the block and its neighbours after the mixers. -/
def blkE (x0 : Vec Ideal S16x256 .f32) (x1 : Vec Ideal S512x256 .f32) (x2 : Vec Ideal S16x256 .f32) (x3 : Vec Ideal S256x128 .f32) (x4 : Vec Ideal S256x512 .f32) (x5 : Vec Ideal S256x128 .f32) (x6 : Vec Ideal S16x256 .f32) (x7 : Vec Ideal S512x256 .f32) (x8 : Vec Ideal S16x256 .f32) (x9 : Vec Ideal S16x256 .f32) (x10 : Vec Ideal S512x256 .f32) (x11 : Vec Ideal S16x256 .f32) (x12 : Vec Ideal S16x1024 .f32) (x13 : Vec Ideal S512x1024 .f32) (x14 : Vec Ideal S16x1024 .f32) (x16 : Vec Ideal S1x1024 .f32) (x17 : Vec Ideal S1024x1024 .bf16) (x18 : Vec Ideal S1x1024 .f32) (x19 : Vec Ideal S1x1024 .f32) (e : Fin 544) : Fin 1024 → EReal :=
  Cert.Rows.first (Cert.Rows.cat (rows3 (fun r k => x0 (ix2 r k)) (fun r k => x1 (ix2 r k)) (fun r k => x2 (ix2 r k)) e)
      (rows3 (fun r k => x3 (ix2 k ⟨112 + r.val, by omega⟩)) (fun r k => x4 (ix2 k r)) (fun r k => x5 (ix2 k ⟨r.val, by omega⟩)) e)
      (rows3 (fun r k => x6 (ix2 r k)) (fun r k => x7 (ix2 r k)) (fun r k => x8 (ix2 r k)) e)
      (rows3 (fun r k => x9 (ix2 r k)) (fun r k => x10 (ix2 r k)) (fun r k => x11 (ix2 r k)) e))
    (rows3 (fun r k => x12 (ix2 r k)) (fun r k => x13 (ix2 r k)) (fun r k => x14 (ix2 r k)) e)
    (fun k => x16 (ix2 0 k)) (fun k j => x17 (ix2 k j)) (fun k => x18 (ix2 0 k)) (fun k => x19 (ix2 0 k))

variable (i : grid0.Coords) (x0 : Vec Ideal S16x256 .f32) (x1 : Vec Ideal S512x256 .f32) (x2 : Vec Ideal S16x256 .f32) (x3 : Vec Ideal S256x128 .f32) (x4 : Vec Ideal S256x512 .f32) (x5 : Vec Ideal S256x128 .f32) (x6 : Vec Ideal S16x256 .f32) (x7 : Vec Ideal S512x256 .f32) (x8 : Vec Ideal S16x256 .f32) (x9 : Vec Ideal S16x256 .f32) (x10 : Vec Ideal S512x256 .f32) (x11 : Vec Ideal S16x256 .f32) (x12 : Vec Ideal S16x1024 .f32) (x13 : Vec Ideal S512x1024 .f32) (x14 : Vec Ideal S16x1024 .f32) (x15 : Vec Ideal S1x512x256 .f32) (x16 : Vec Ideal S1x1024 .f32) (x17 : Vec Ideal S1024x1024 .bf16) (x18 : Vec Ideal S1x1024 .f32) (x19 : Vec Ideal S1x1024 .f32) (x20 : Vec Ideal S1024x2816 .bf16) (x21 : Vec Ideal S1024x2816 .bf16) (x22 : Vec Ideal S3x2816 .f32) (x23 : Vec Ideal S1x2816 .f32) (x24 : Vec Ideal S2816x1024 .bf16) (x25 : Vec Ideal S1x1024 .f32) (x26 : Vec Ideal S1x1024 .f32) (x27 : Vec Ideal S256x1024 .bf16) (x28 : Vec Ideal S1024x1024 .bf16) (x29 : Vec Ideal S1x1024 .f32) (x30 : Vec Ideal S1x1024 .f32) (x31 : Vec Ideal S1x1024 .f32)

/-- The block's rows before the first normalising. -/
def blkX : FVec Ideal S544x1024 .f32 :=
  preV (catV (rmsV (k0_pay8 x0 x1 x2) (cut2 x16)) (rmsV (k0_pay3 x3 x4 x5) (cut5 x16)) (rmsV (k0_pay8 x6 x7 x8) (cut6 x16)) (rmsV (k0_pay8 x9 x10 x11) (cut7 x16))) (extH x12 x13 x14) x17

/-- The block's rows after it. -/
def blkH : FVec Ideal S544x1024 .f32 := k0_pay13 (k0_pay9 x18) (k0_pay10 x19) (cenE (blkX x0 x1 x2 x3 x4 x5 x6 x7 x8 x9 x10 x11 x12 x13 x14 x16 x17)) (mulf (cenE (blkX x0 x1 x2 x3 x4 x5 x6 x7 x8 x9 x10 x11 x12 x13 x14 x16 x17)) (cenE (blkX x0 x1 x2 x3 x4 x5 x6 x7 x8 x9 x10 x11 x12 x13 x14 x16 x17)))

theorem blkX_apply (e : Fin 544) (j : Fin 1024) : blkX x0 x1 x2 x3 x4 x5 x6 x7 x8 x9 x10 x11 x12 x13 x14 x16 x17 (ix2 e j) = Cert.Rows.al * extH x12 x13 x14 (ix2 e j)
    + ∑ k : Fin 1024, Cert.Rows.grp (Cert.Rows.cat (fun k => k0_pay8 x0 x1 x2 (ix2 e k)) (fun k => k0_pay3 x3 x4 x5 (ix2 e k)) (fun k => k0_pay8 x6 x7 x8 (ix2 e k)) (fun k => k0_pay8 x9 x10 x11 (ix2 e k)))
        (fun k => x16 (ix2 0 k)) k * x17 (ix2 k j) := by
  rw [blkX, preV_apply]
  simp only [catV_apply, rmsV_apply, Cert.Rows.grp_cat, cut2_apply, cut5_apply, cut6_apply, cut7_apply]

theorem blkH_apply (e : Fin 544) (j : Fin 1024) : blkH x0 x1 x2 x3 x4 x5 x6 x7 x8 x9 x10 x11 x12 x13 x14 x16 x17 x18 x19 (ix2 e j) = blkE x0 x1 x2 x3 x4 x5 x6 x7 x8 x9 x10 x11 x12 x13 x14 x16 x17 x18 x19 e j := by
  rw [blkH, pay13_apply, blkE, Cert.Rows.first]
  refine congrArg (fun f => Cert.Rows.ln f _ _ j) (funext fun x => ?_)
  rw [blkX_apply]
  simp only [ext_apply, extT_apply, extH_apply]

theorem pay39_eq : k0_pay39 i x0 x1 x2 x3 x4 x5 x6 x7 x8 x9 x10 x11 x12 x13 x14 x15 x16 x17 x18 x19 x20 x21 x22 x23 x24 x25 x26 x27 x28 x29 x30 x31 = truncf .bf16 (blkH x0 x1 x2 x3 x4 x5 x6 x7 x8 x9 x10 x11 x12 x13 x14 x16 x17 x18 x19) bitsLt_bf16_f32 := by
  unfold k0_pay39 k0_pay35 k0_pay36 k0_pay38 k0_pay37 k0_pay34 k0_pay33 k0_pay32 k0_pay31
  simp only [ld0, ld1, ld3, ld4, ld8, ld9, ld10, ld11]
  rfl

theorem pay39_apply (e : Fin 544) (j : Fin 1024) : k0_pay39 i x0 x1 x2 x3 x4 x5 x6 x7 x8 x9 x10 x11 x12 x13 x14 x15 x16 x17 x18 x19 x20 x21 x22 x23 x24 x25 x26 x27 x28 x29 x30 x31 (ix2 e j) = blkE x0 x1 x2 x3 x4 x5 x6 x7 x8 x9 x10 x11 x12 x13 x14 x16 x17 x18 x19 e j :=
  (congrFun (pay39_eq i x0 x1 x2 x3 x4 x5 x6 x7 x8 x9 x10 x11 x12 x13 x14 x15 x16 x17 x18 x19 x20 x21 x22 x23 x24 x25 x26 x27 x28 x29 x30 x31) (ix2 e j)).trans (blkH_apply x0 x1 x2 x3 x4 x5 x6 x7 x8 x9 x10 x11 x12 x13 x14 x16 x17 x18 x19 e j)

theorem pay40_apply (r : Fin 512) (j : Fin 1024) : k0_pay40 i x0 x1 x2 x3 x4 x5 x6 x7 x8 x9 x10 x11 x12 x13 x14 x15 x16 x17 x18 x19 x20 x21 x22 x23 x24 x25 x26 x27 x28 x29 x30 x31 (ix2 r j) = blkE x0 x1 x2 x3 x4 x5 x6 x7 x8 x9 x10 x11 x12 x13 x14 x16 x17 x18 x19 ⟨16 + r.val, by omega⟩ j :=
  Eq.trans (show k0_pay40 i x0 x1 x2 x3 x4 x5 x6 x7 x8 x9 x10 x11 x12 x13 x14 x15 x16 x17 x18 x19 x20 x21 x22 x23 x24 x25 x26 x27 x28 x29 x30 x31 (ix2 r j) = k0_pay39 i x0 x1 x2 x3 x4 x5 x6 x7 x8 x9 x10 x11 x12 x13 x14 x15 x16 x17 x18 x19 x20 x21 x22 x23 x24 x25 x26 x27 x28 x29 x30 x31 (ix2 ⟨16 + r.val, by omega⟩ j) from
    congrArg (k0_pay39 i x0 x1 x2 x3 x4 x5 x6 x7 x8 x9 x10 x11 x12 x13 x14 x15 x16 x17 x18 x19 x20 x21 x22 x23 x24 x25 x26 x27 x28 x29 x30 x31) (funext fun b => Fin.ext (by match b with | ⟨0, _⟩ => rfl | ⟨1, _⟩ => exact Nat.zero_add _))) (pay39_apply i x0 x1 x2 x3 x4 x5 x6 x7 x8 x9 x10 x11 x12 x13 x14 x15 x16 x17 x18 x19 x20 x21 x22 x23 x24 x25 x26 x27 x28 x29 x30 x31 _ j)

theorem pay41_apply (r : Fin 512) (j : Fin 1024) : k0_pay41 i x0 x1 x2 x3 x4 x5 x6 x7 x8 x9 x10 x11 x12 x13 x14 x15 x16 x17 x18 x19 x20 x21 x22 x23 x24 x25 x26 x27 x28 x29 x30 x31 (ix2 r j) = blkE x0 x1 x2 x3 x4 x5 x6 x7 x8 x9 x10 x11 x12 x13 x14 x16 x17 x18 x19 ⟨16 + r.val, by omega⟩ j :=
  pay40_apply i x0 x1 x2 x3 x4 x5 x6 x7 x8 x9 x10 x11 x12 x13 x14 x15 x16 x17 x18 x19 x20 x21 x22 x23 x24 x25 x26 x27 x28 x29 x30 x31 r j

/-- The two masks of a point's block. -/
def loM (t : Fin 128) (r : Fin 512) : EReal := if t.val % 4 = 0 ∧ r.val = 0 then 0 else 1
def hiM (t : Fin 128) (r : Fin 512) : EReal := if t.val % 4 = 3 ∧ r.val = 511 then 0 else 1

/-- A row's gate columns after the convolution, from the block's rows. -/
def blkQ (E : Fin 544 → Fin 1024 → EReal) (t : Fin 128) (r : Fin 512) (w : Fin 1024 → Fin 2816 → EReal) (cw : Fin 3 → Fin 2816 → EReal) (cb : Fin 2816 → EReal) (x : Fin 2816) : EReal :=
  (∑ k : Fin 1024, E ⟨15 + r.val, by omega⟩ k * w k x) * loM t r * cw 0 x + (∑ k : Fin 1024, E ⟨16 + r.val, by omega⟩ k * w k x) * cw 1 x
    + (∑ k : Fin 1024, E ⟨17 + r.val, by omega⟩ k * w k x) * hiM t r * cw 2 x + cb x

variable (t : Fin 128) (ht : (i 0).val = t.val)
include ht

/-- The first chunk's gate columns. -/
theorem chunk0_apply (r : Fin 512) (x : Fin 1408) :
    k0_pay23 (k0_pay39 i x0 x1 x2 x3 x4 x5 x6 x7 x8 x9 x10 x11 x12 x13 x14 x15 x16 x17 x18 x19 x20 x21 x22 x23 x24 x25 x26 x27 x28 x29 x30 x31) (k0_pay42 i x0 x1 x2 x3 x4 x5 x6 x7 x8 x9 x10 x11 x12 x13 x14 x15 x16 x17 x18 x19 x20 x21 x22 x23 x24 x25 x26 x27 x28 x29 x30 x31) (k0_pay44 i x0 x1 x2 x3 x4 x5 x6 x7 x8 x9 x10 x11 x12 x13 x14 x15 x16 x17 x18 x19 x20 x21 x22 x23 x24 x25 x26 x27 x28 x29 x30 x31) (cut12 x20) (cut13 x22) (cut14 x22) (cut15 x22) (cut16 x23) (ix2 r x)
      = blkQ (blkE x0 x1 x2 x3 x4 x5 x6 x7 x8 x9 x10 x11 x12 x13 x14 x16 x17 x18 x19) t r (fun k x => x20 (ix2 k x)) (fun k x => x22 (ix2 k x)) (fun x => x23 (ix2 0 x)) ⟨x.val, by omega⟩ := by
  have hl : k0_pay42 i x0 x1 x2 x3 x4 x5 x6 x7 x8 x9 x10 x11 x12 x13 x14 x15 x16 x17 x18 x19 x20 x21 x22 x23 x24 x25 x26 x27 x28 x29 x30 x31 (ix2 r 0) = loM t r := by unfold k0_pay42; rw [ht]; exact pay17_apply t r
  have hh : k0_pay44 i x0 x1 x2 x3 x4 x5 x6 x7 x8 x9 x10 x11 x12 x13 x14 x15 x16 x17 x18 x19 x20 x21 x22 x23 x24 x25 x26 x27 x28 x29 x30 x31 (ix2 r 0) = hiM t r := by unfold k0_pay44 k0_pay43; rw [ht]; exact pay19_apply t r
  rw [pay23_apply, hl, hh]
  simp only [pay39_apply, cut12_apply, cut13_apply, cut14_apply, cut15_apply, cut16_apply]
  rfl

/-- The second chunk's. -/
theorem chunk1_apply (r : Fin 512) (x : Fin 1408) :
    k0_pay46 i x0 x1 x2 x3 x4 x5 x6 x7 x8 x9 x10 x11 x12 x13 x14 x15 x16 x17 x18 x19 x20 x21 x22 x23 x24 x25 x26 x27 x28 x29 x30 x31 (ix2 r x)
      = blkQ (blkE x0 x1 x2 x3 x4 x5 x6 x7 x8 x9 x10 x11 x12 x13 x14 x16 x17 x18 x19) t r (fun k x => x20 (ix2 k x)) (fun k x => x22 (ix2 k x)) (fun x => x23 (ix2 0 x)) ⟨1408 + x.val, by omega⟩ := by
  have hl : k0_pay42 i x0 x1 x2 x3 x4 x5 x6 x7 x8 x9 x10 x11 x12 x13 x14 x15 x16 x17 x18 x19 x20 x21 x22 x23 x24 x25 x26 x27 x28 x29 x30 x31 (ix2 r 0) = loM t r := by unfold k0_pay42; rw [ht]; exact pay17_apply t r
  have hh : k0_pay44 i x0 x1 x2 x3 x4 x5 x6 x7 x8 x9 x10 x11 x12 x13 x14 x15 x16 x17 x18 x19 x20 x21 x22 x23 x24 x25 x26 x27 x28 x29 x30 x31 (ix2 r 0) = hiM t r := by unfold k0_pay44 k0_pay43; rw [ht]; exact pay19_apply t r
  rw [show k0_pay46 i x0 x1 x2 x3 x4 x5 x6 x7 x8 x9 x10 x11 x12 x13 x14 x15 x16 x17 x18 x19 x20 x21 x22 x23 x24 x25 x26 x27 x28 x29 x30 x31 = k0_pay23 (k0_pay39 i x0 x1 x2 x3 x4 x5 x6 x7 x8 x9 x10 x11 x12 x13 x14 x15 x16 x17 x18 x19 x20 x21 x22 x23 x24 x25 x26 x27 x28 x29 x30 x31) (k0_pay42 i x0 x1 x2 x3 x4 x5 x6 x7 x8 x9 x10 x11 x12 x13 x14 x15 x16 x17 x18 x19 x20 x21 x22 x23 x24 x25 x26 x27 x28 x29 x30 x31) (k0_pay44 i x0 x1 x2 x3 x4 x5 x6 x7 x8 x9 x10 x11 x12 x13 x14 x15 x16 x17 x18 x19 x20 x21 x22 x23 x24 x25 x26 x27 x28 x29 x30 x31) (cut18 x20) (cut19 x22) (cut20 x22) (cut21 x22) (cut22 x23) from rfl, pay23_apply, hl, hh]
  simp only [pay39_apply, cut18_apply, cut19_apply, cut20_apply, cut21_apply, cut22_apply]
  rfl

omit ht in
theorem pay45_eq : k0_pay45 i x0 x1 x2 x3 x4 x5 x6 x7 x8 x9 x10 x11 x12 x13 x14 x15 x16 x17 x18 x19 x20 x21 x22 x23 x24 x25 x26 x27 x28 x29 x30 x31 = downV (k0_pay23 (k0_pay39 i x0 x1 x2 x3 x4 x5 x6 x7 x8 x9 x10 x11 x12 x13 x14 x15 x16 x17 x18 x19 x20 x21 x22 x23 x24 x25 x26 x27 x28 x29 x30 x31) (k0_pay42 i x0 x1 x2 x3 x4 x5 x6 x7 x8 x9 x10 x11 x12 x13 x14 x15 x16 x17 x18 x19 x20 x21 x22 x23 x24 x25 x26 x27 x28 x29 x30 x31) (k0_pay44 i x0 x1 x2 x3 x4 x5 x6 x7 x8 x9 x10 x11 x12 x13 x14 x15 x16 x17 x18 x19 x20 x21 x22 x23 x24 x25 x26 x27 x28 x29 x30 x31) (cut12 x20) (cut13 x22) (cut14 x22) (cut15 x22) (cut16 x23))
    (k0_pay41 i x0 x1 x2 x3 x4 x5 x6 x7 x8 x9 x10 x11 x12 x13 x14 x15 x16 x17 x18 x19 x20 x21 x22 x23 x24 x25 x26 x27 x28 x29 x30 x31) (cut12 x21) (cut17 x24) := rfl

omit ht in
theorem pay48_eq : k0_pay48 i x0 x1 x2 x3 x4 x5 x6 x7 x8 x9 x10 x11 x12 x13 x14 x15 x16 x17 x18 x19 x20 x21 x22 x23 x24 x25 x26 x27 x28 x29 x30 x31 = lnR (midV (k0_pay40 i x0 x1 x2 x3 x4 x5 x6 x7 x8 x9 x10 x11 x12 x13 x14 x15 x16 x17 x18 x19 x20 x21 x22 x23 x24 x25 x26 x27 x28 x29 x30 x31) (k0_pay45 i x0 x1 x2 x3 x4 x5 x6 x7 x8 x9 x10 x11 x12 x13 x14 x15 x16 x17 x18 x19 x20 x21 x22 x23 x24 x25 x26 x27 x28 x29 x30 x31) (downV (k0_pay46 i x0 x1 x2 x3 x4 x5 x6 x7 x8 x9 x10 x11 x12 x13 x14 x15 x16 x17 x18 x19 x20 x21 x22 x23 x24 x25 x26 x27 x28 x29 x30 x31) (k0_pay41 i x0 x1 x2 x3 x4 x5 x6 x7 x8 x9 x10 x11 x12 x13 x14 x15 x16 x17 x18 x19 x20 x21 x22 x23 x24 x25 x26 x27 x28 x29 x30 x31) (cut18 x21) (cut23 x24))) x25 x26 := by
  unfold k0_pay48
  rw [ld11, ld11]
  exact pay25_eq _ _ _ _ _ _ _ _

/-- The block's rows after the feed-forward part. -/
theorem pay48_apply (r : Fin 512) (j : Fin 1024) :
    k0_pay48 i x0 x1 x2 x3 x4 x5 x6 x7 x8 x9 x10 x11 x12 x13 x14 x15 x16 x17 x18 x19 x20 x21 x22 x23 x24 x25 x26 x27 x28 x29 x30 x31 (ix2 r j) = Cert.Rows.second (blkE x0 x1 x2 x3 x4 x5 x6 x7 x8 x9 x10 x11 x12 x13 x14 x16 x17 x18 x19 ⟨16 + r.val, by omega⟩)
      (blkQ (blkE x0 x1 x2 x3 x4 x5 x6 x7 x8 x9 x10 x11 x12 x13 x14 x16 x17 x18 x19) t r (fun k x => x20 (ix2 k x)) (fun k x => x22 (ix2 k x)) (fun x => x23 (ix2 0 x)))
      (fun k x => x21 (ix2 k x)) (fun x j => x24 (ix2 x j)) (fun k => x25 (ix2 0 k)) (fun k => x26 (ix2 0 k)) j := by
  rw [pay48_eq, lnR_apply, Cert.Rows.second]
  refine congrArg (fun f => Cert.Rows.ln f _ _ j) (funext fun x => ?_)
  rw [midV_apply, pay45_eq, downV_apply, downV_apply, Cert.Rows.sum2816, pay40_apply]
  simp only [chunk0_apply i x0 x1 x2 x3 x4 x5 x6 x7 x8 x9 x10 x11 x12 x13 x14 x15 x16 x17 x18 x19 x20 x21 x22 x23 x24 x25 x26 x27 x28 x29 x30 x31 t ht, chunk1_apply i x0 x1 x2 x3 x4 x5 x6 x7 x8 x9 x10 x11 x12 x13 x14 x15 x16 x17 x18 x19 x20 x21 x22 x23 x24 x25 x26 x27 x28 x29 x30 x31 t ht, pay41_apply, cut12_apply, cut17_apply, cut18_apply, cut23_apply]

/-- The block's result, row by row. -/
theorem out_apply (r : Fin 512) (j : Fin 1024) :
    out0_32 i x0 x1 x2 x3 x4 x5 x6 x7 x8 x9 x10 x11 x12 x13 x14 x15 x16 x17 x18 x19 x20 x21 x22 x23 x24 x25 x26 x27 x28 x29 x30 x31 (ix2 r j) = Cert.Rows.third
      (Cert.Rows.second (blkE x0 x1 x2 x3 x4 x5 x6 x7 x8 x9 x10 x11 x12 x13 x14 x16 x17 x18 x19 ⟨16 + r.val, by omega⟩)
        (blkQ (blkE x0 x1 x2 x3 x4 x5 x6 x7 x8 x9 x10 x11 x12 x13 x14 x16 x17 x18 x19) t r (fun k x => x20 (ix2 k x)) (fun k x => x22 (ix2 k x)) (fun x => x23 (ix2 0 x)))
        (fun k x => x21 (ix2 k x)) (fun x j => x24 (ix2 x j)) (fun k => x25 (ix2 0 k)) (fun k => x26 (ix2 0 k)))
      (fun k => x15 (ix3 0 r k)) (fun k j => x27 (ix2 k j)) (fun k j => x28 (ix2 k j)) (fun k => x29 (ix2 0 k)) (fun k => x30 (ix2 0 k)) (fun k => x31 (ix2 0 k)) j := by
  have h : out0_32 i x0 x1 x2 x3 x4 x5 x6 x7 x8 x9 x10 x11 x12 x13 x14 x15 x16 x17 x18 x19 x20 x21 x22 x23 x24 x25 x26 x27 x28 x29 x30 x31 = lnR (lastV (k0_pay48 i x0 x1 x2 x3 x4 x5 x6 x7 x8 x9 x10 x11 x12 x13 x14 x15 x16 x17 x18 x19 x20 x21 x22 x23 x24 x25 x26 x27 x28 x29 x30 x31) x28 x29 x15 x27) x30 x31 := by
    unfold out0_32
    rw [View.canon_unit_zero off2]
    simp only [ld10, ld11, ld24, ld25]
    exact last_eq _ _ _ _ _ _ _
  rw [h, lnR_apply, Cert.Rows.third]
  refine congrArg (fun f => Cert.Rows.ln f _ _ j) (funext fun x => ?_)
  rw [lastV_apply]
  simp only [pay48_apply i x0 x1 x2 x3 x4 x5 x6 x7 x8 x9 x10 x11 x12 x13 x14 x15 x16 x17 x18 x19 x20 x21 x22 x23 x24 x25 x26 x27 x28 x29 x30 x31 t ht]

end Cert.TailIdeal.Hand

end

end
-- ==== Proof.Tail.Run.lean ====
/- The run of the layer's tail: every grid point's body meets its obligation, so the launch ends with every array at
   what the body computes and every argument as it was. -/
module

public import proofs.«01_k».proof.Proof.Tail.Body

@[expose] public section

set_option maxRecDepth 16384

noncomputable section

namespace Cert.TailIdeal.Hand

open Cert.TailIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 20000000 in
/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexists _; iexact H32
  iintro ⟨H0, H1, H2, H3, H4, H5, H6, H7, H8, H9, H10, H11, H12, H13, H14, H15, H16, H17, H18, H19, H20, H21, H22, H23, H24, H25, H26, H27, H28, H29, H30, H31, H32⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  iexact H32

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 20000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- THE FRAME: `Cert.quiescent_TailIdeal`'s statement (Defs.lean) at any `F` — Proof.lean cites it at `Bits`:
    `theorem Cert.Proof.claim : Cert.Claim := ⟨Cert.TailIdeal.Gen.facts, fun m ρ _ => Cert.TailIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.TailIdeal.Hand

end
-- ==== Proof.Tail.Value.lean ====
module

public import proofs.«01_k».proof.Proof.Tail.Blocks
public import proofs.«01_k».proof.Proof.Tail.Block
public import proofs.«01_k».proof.Proof.Tail.Run
public import Idealize.ShloMosaic.Lib.Pipeline.ValueKit

@[expose] public section

set_option maxRecDepth 16384

noncomputable section

namespace Cert.TailIdeal.Hand

open Cert.TailIdeal Cert.TailIdeal.Gen
open Idealize.ShloMosaic Idealize.ShloMosaic.TcCoe Idealize.SL.Sem

variable (m : (ℓ : Loc nD τ sig) → Buf (Elt Ideal) ℓ) (ρ : Dev nD → PrngReg) (c : Dev nD)

/-- Rows one under another hold what each of the three parts holds. -/
theorem rows3_eq {w : ℕ} {p : Fin 16 → Fin w → EReal} {x : Fin 512 → Fin w → EReal} {n : Fin 16 → Fin w → EReal} {e : Fin 544} {f : Fin w → EReal}
    (h0 : ∀ (h : e.val < 16) k, p ⟨e.val, h⟩ k = f k) (h1 : ∀ (h : e.val - 16 < 512) k, 16 ≤ e.val → x ⟨e.val - 16, h⟩ k = f k)
    (h2 : ∀ (h : e.val - 16 - 512 < 16) k, 528 ≤ e.val → n ⟨e.val - 16 - 512, h⟩ k = f k) : rows3 p x n e = f := funext fun k => by
  unfold rows3
  split_ifs with a b
  · exact h0 a k
  · exact h1 b k (by omega)
  · exact h2 _ k (by omega)

/-! Equal arguments give equal rows. -/

/-- Equal arguments, equal rows after the mixers. -/
theorem first_congr {y y' h h' g g' : Fin 1024 → EReal} {w w' : Fin 1024 → Fin 1024 → EReal} {lg lg' lb lb' : Fin 1024 → EReal}
    (e0 : y = y') (e1 : h = h') (e2 : g = g') (e3 : w = w') (e4 : lg = lg') (e5 : lb = lb') :
    Cert.Rows.first y h g w lg lb = Cert.Rows.first y' h' g' w' lg' lb' := by
  subst e0 e1 e2 e3 e4 e5; rfl

/-- Equal arguments, equal rows after the feed-forward part. -/
theorem second_congr {h h' : Fin 1024 → EReal} {q q' : Fin 2816 → EReal} {wu wu' : Fin 1024 → Fin 2816 → EReal} {wd wd' : Fin 2816 → Fin 1024 → EReal}
    {lg lg' lb lb' : Fin 1024 → EReal} (e0 : h = h') (e1 : q = q') (e2 : wu = wu') (e3 : wd = wd') (e4 : lg = lg') (e5 : lb = lb') :
    Cert.Rows.second h q wu wd lg lb = Cert.Rows.second h' q' wu' wd' lg' lb' := by
  subst e0 e1 e2 e3 e4 e5; rfl

/-- Equal arguments, equal rows at the layer's end. -/
theorem third_congr {h h' : Fin 1024 → EReal} {p p' : Fin 256 → EReal} {wp wp' : Fin 256 → Fin 1024 → EReal} {wg wg' : Fin 1024 → Fin 1024 → EReal}
    {bg bg' lg lg' lb lb' : Fin 1024 → EReal} (e0 : h = h') (e1 : p = p') (e2 : wp = wp') (e3 : wg = wg') (e4 : bg = bg') (e5 : lg = lg') (e6 : lb = lb') :
    Cert.Rows.third h p wp wg bg lg lb = Cert.Rows.third h' p' wp' wg' bg' lg' lb' := by
  subst e0 e1 e2 e3 e4 e5 e6; rfl

/-- Equal weights, equal gate columns after the convolution. -/
theorem blkQ_congr (E : Fin 544 → Fin 1024 → EReal) (t : Fin 128) (r : Fin 512) {w w' : Fin 1024 → Fin 2816 → EReal} {cw cw' : Fin 3 → Fin 2816 → EReal}
    {cb cb' : Fin 2816 → EReal} (e0 : w = w') (e1 : cw = cw') (e2 : cb = cb') : blkQ E t r w cw cb = blkQ E t r w' cw' cb' := by
  subst e0 e1 e2; rfl

/-! ## The block's rows are the layer's rows -/

theorem rows_ya (t : Fin cfg0.N) (e : Fin 544) (n : Fin 65536) (hn : n.val + 16 = t.val * 512 + e.val) :
    rows3 (fun r k => (iblk m c 0 t : FVec Ideal S16x256 .f32) (ix2 r k)) (fun r k => (iblk m c 1 t : FVec Ideal S512x256 .f32) (ix2 r k)) (fun r k => (iblk m c 2 t : FVec Ideal S16x256 .f32) (ix2 r k)) e
      = (args m c).ya (Cert.Rows.bq n.val) (Cert.Rows.sq n.val) := by
  have ht : t.val < 128 := t.isLt
  have hN := n.isLt
  have he := e.isLt
  exact rows3_eq (fun h k => (iblk0 m c t _ k n (by show n.val = (max (32 * t.val) 1 - 1) * 16 + e.val; omega)).trans (in_v15 m c n k))
    (fun h k _ => (iblk1 m c t _ k n (by show n.val = t.val * 512 + (e.val - 16); omega)).trans (in_v15 m c n k))
    (fun h k _ => (iblk2 m c t _ k n (by show n.val = (min (32 * t.val + 32) 4095) * 16 + (e.val - 16 - 512); omega)).trans (in_v15 m c n k))

theorem rows_yc (t : Fin cfg0.N) (e : Fin 544) (n : Fin 65536) (hn : n.val + 16 = t.val * 512 + e.val) :
    rows3 (fun r k => (iblk m c 6 t : FVec Ideal S16x256 .f32) (ix2 r k)) (fun r k => (iblk m c 7 t : FVec Ideal S512x256 .f32) (ix2 r k)) (fun r k => (iblk m c 8 t : FVec Ideal S16x256 .f32) (ix2 r k)) e
      = (args m c).yc (Cert.Rows.bq n.val) (Cert.Rows.sq n.val) := by
  have ht : t.val < 128 := t.isLt
  have hN := n.isLt
  have he := e.isLt
  exact rows3_eq (fun h k => (iblk6 m c t _ k n (by show n.val = (max (32 * t.val) 1 - 1) * 16 + e.val; omega)).trans (in_v18 m c n k))
    (fun h k _ => (iblk7 m c t _ k n (by show n.val = t.val * 512 + (e.val - 16); omega)).trans (in_v18 m c n k))
    (fun h k _ => (iblk8 m c t _ k n (by show n.val = (min (32 * t.val + 32) 4095) * 16 + (e.val - 16 - 512); omega)).trans (in_v18 m c n k))

theorem rows_yd (t : Fin cfg0.N) (e : Fin 544) (n : Fin 65536) (hn : n.val + 16 = t.val * 512 + e.val) :
    rows3 (fun r k => (iblk m c 9 t : FVec Ideal S16x256 .f32) (ix2 r k)) (fun r k => (iblk m c 10 t : FVec Ideal S512x256 .f32) (ix2 r k)) (fun r k => (iblk m c 11 t : FVec Ideal S16x256 .f32) (ix2 r k)) e
      = (args m c).yd (Cert.Rows.bq n.val) (Cert.Rows.sq n.val) := by
  have ht : t.val < 128 := t.isLt
  have hN := n.isLt
  have he := e.isLt
  exact rows3_eq (fun h k => (iblk9 m c t _ k n (by show n.val = (max (32 * t.val) 1 - 1) * 16 + e.val; omega)).trans (in_v19 m c n k))
    (fun h k _ => (iblk10 m c t _ k n (by show n.val = t.val * 512 + (e.val - 16); omega)).trans (in_v19 m c n k))
    (fun h k _ => (iblk11 m c t _ k n (by show n.val = (min (32 * t.val + 32) 4095) * 16 + (e.val - 16 - 512); omega)).trans (in_v19 m c n k))

theorem rows_h (t : Fin cfg0.N) (e : Fin 544) (n : Fin 65536) (hn : n.val + 16 = t.val * 512 + e.val) :
    rows3 (fun r k => (iblk m c 12 t : FVec Ideal S16x1024 .f32) (ix2 r k)) (fun r k => (iblk m c 13 t : FVec Ideal S512x1024 .f32) (ix2 r k)) (fun r k => (iblk m c 14 t : FVec Ideal S16x1024 .f32) (ix2 r k)) e
      = (args m c).h (Cert.Rows.bq n.val) (Cert.Rows.sq n.val) := by
  have ht : t.val < 128 := t.isLt
  have hN := n.isLt
  have he := e.isLt
  exact rows3_eq (fun h k => (iblk12 m c t _ k n (by show n.val = (max (32 * t.val) 1 - 1) * 16 + e.val; omega)).trans (in_v20 m c n k))
    (fun h k _ => (iblk13 m c t _ k n (by show n.val = t.val * 512 + (e.val - 16); omega)).trans (in_v20 m c n k))
    (fun h k _ => (iblk14 m c t _ k n (by show n.val = (min (32 * t.val + 32) 4095) * 16 + (e.val - 16 - 512); omega)).trans (in_v20 m c n k))

theorem rows_yb (t : Fin cfg0.N) (e : Fin 544) (n : Fin 65536) (hn : n.val + 16 = t.val * 512 + e.val) :
    rows3 (fun r k => (iblk m c 3 t : FVec Ideal S256x128 .f32) (ix2 k ⟨112 + r.val, by omega⟩)) (fun r k => (iblk m c 4 t : FVec Ideal S256x512 .f32) (ix2 k r)) (fun r k => (iblk m c 5 t : FVec Ideal S256x128 .f32) (ix2 k ⟨r.val, by omega⟩)) e
      = (args m c).yb (Cert.Rows.bq n.val) (Cert.Rows.sq n.val) := by
  have ht : t.val < 128 := t.isLt
  have hN := n.isLt
  have he := e.isLt
  exact rows3_eq (fun h k => (iblk3 m c t k _ n (by show n.val = (max (4 * t.val) 1 - 1) * 128 + (112 + e.val); omega)).trans (in_v17 m c k n))
    (fun h k _ => (iblk4 m c t k _ n (by show n.val = t.val * 512 + (e.val - 16); omega)).trans (in_v17 m c k n))
    (fun h k _ => (iblk5 m c t k _ n (by show n.val = (min (4 * t.val + 4) 511) * 128 + (e.val - 16 - 512); omega)).trans (in_v17 m c k n))

theorem blkE_eq (t : Fin cfg0.N) (e : Fin 544) (n : Fin 65536) (hn : n.val + 16 = t.val * 512 + e.val) :
    blkE (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 16 t) (iblk m c 17 t) (iblk m c 18 t) (iblk m c 19 t) e = (args m c).h1 n.val := by
  unfold blkE Cert.Rows.Args.h1
  rw [rows_ya m c t e n hn, rows_yb m c t e n hn, rows_yc m c t e n hn, rows_yd m c t e n hn, rows_h m c t e n hn,
    iblk16, iblk17, iblk18, iblk19]
  exact first_congr rfl rfl (funext fun k => in_v0 m c k) (funext fun k => funext fun j => in_v1 m c k j) (funext fun k => in_v2 m c k) (funext fun k => in_v3 m c k)

theorem conv_eq (t : Fin cfg0.N) (r : Fin 512) (x : Fin 2816) :
    blkQ (blkE (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 16 t) (iblk m c 17 t) (iblk m c 18 t) (iblk m c 19 t)) t r (args m c).wg (args m c).cw (args m c).cb x = (args m c).conv (t.val * 512 + r.val) x := by
  have ht : t.val < 128 := t.isLt
  have hr := r.isLt
  have e0 : (∑ k : Fin 1024, blkE (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 16 t) (iblk m c 17 t) (iblk m c 18 t) (iblk m c 19 t) ⟨15 + r.val, by omega⟩ k * (args m c).wg k x) * loM t r
      = if (t.val * 512 + r.val) % 2048 = 0 then 0 else (args m c).gate (t.val * 512 + r.val - 1) x := by
    by_cases h : t.val % 4 = 0 ∧ r.val = 0
    · have hl : loM t r = 0 := if_pos h
      rw [if_pos (by omega), hl, mul_zero]
    · have hl : loM t r = 1 := if_neg h
      rw [if_neg (by omega), hl, mul_one, blkE_eq m c t _ ⟨t.val * 512 + r.val - 1, by omega⟩ (by show t.val * 512 + r.val - 1 + 16 = t.val * 512 + (15 + r.val); omega)]
      rfl
  have e1 : (∑ k : Fin 1024, blkE (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 16 t) (iblk m c 17 t) (iblk m c 18 t) (iblk m c 19 t) ⟨16 + r.val, by omega⟩ k * (args m c).wg k x) = (args m c).gate (t.val * 512 + r.val) x := by
    rw [blkE_eq m c t _ ⟨t.val * 512 + r.val, by omega⟩ (by show t.val * 512 + r.val + 16 = t.val * 512 + (16 + r.val); omega)]
    rfl
  have e2 : (∑ k : Fin 1024, blkE (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 16 t) (iblk m c 17 t) (iblk m c 18 t) (iblk m c 19 t) ⟨17 + r.val, by omega⟩ k * (args m c).wg k x) * hiM t r
      = if (t.val * 512 + r.val) % 2048 = 2047 then 0 else (args m c).gate (t.val * 512 + r.val + 1) x := by
    by_cases h : t.val % 4 = 3 ∧ r.val = 511
    · have hl : hiM t r = 0 := if_pos h
      rw [if_pos (by omega), hl, mul_zero]
    · have hl : hiM t r = 1 := if_neg h
      rw [if_neg (by omega), hl, mul_one, blkE_eq m c t _ ⟨t.val * 512 + r.val + 1, by omega⟩ (by show t.val * 512 + r.val + 1 + 16 = t.val * 512 + (17 + r.val); omega)]
      rfl
  exact congrArg₂ (· + ·) (congrArg₂ (· + ·) (congrArg₂ (· + ·) (congrArg (· * _) e0) (congrArg (· * _) e1)) (congrArg (· * _) e2)) rfl

theorem coord : ∀ t : Fin cfg0.N, ((grid0.coords t) 0).val = t.val := (by decide +kernel : ∀ t : Fin grid0.N, _)

/-- A point's block of the result. -/
theorem block_out (t : Fin cfg0.N) (r : Fin 512) (j : Fin 1024) :
    out0_32 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (ix2 r j) = (args m c).out (t.val * 512 + r.val) j := by
  have ht : t.val < 128 := t.isLt
  have hr := r.isLt
  have hq := funext (conv_eq m c t r)
  have hE := blkE_eq m c t ⟨16 + r.val, by omega⟩ ⟨t.val * 512 + r.val, by omega⟩ (by show t.val * 512 + r.val + 16 = t.val * 512 + (16 + r.val); omega)
  rw [out_apply (t := t) (ht := coord t), hE, iblk20, iblk21, iblk22, iblk23, iblk24, iblk25, iblk26, iblk27, iblk28, iblk29, iblk30, iblk31]
  exact congrFun (third_congr
    (second_congr rfl ((blkQ_congr _ t r (funext fun k => funext fun x => in_v4 m c k x) (funext fun k => funext fun x => in_cw m c k x) (funext fun x => in_v6 m c x)).trans hq)
      (funext fun k => funext fun x => in_v5 m c k x) (funext fun x => funext fun k => in_v7 m c x k) (funext fun k => in_v8 m c k) (funext fun k => in_v9 m c k))
    (funext fun k => (iblk15 m c t r k ⟨t.val * 512 + r.val, by omega⟩ rfl).trans (in_v21 m c _ k))
    (funext fun k => funext fun x => in_v10 m c k x) (funext fun k => funext fun x => in_v11 m c k x)
    (funext fun k => in_v12 m c k) (funext fun k => in_v13 m c k) (funext fun k => in_v14 m c k)) j

/-- The result array after the run: every row of the layer. -/
def result : FVec Ideal S65536x1024 .f32 := fun y => (args m c).out (y 0).val (y 1)

theorem final : (dats m 0 c).arrAt 32 cfg0.N = result m c := by
  refine (dats m 0 c).arrAt_eq_of_covers 32 _ (by decide +kernel) fun t hf y => ?_
  blk_simp
  rw [after0_32]
  have hy : y = ix2 (y 0) (y 1) := funext fun a => by
    match a with
    | ⟨0, _⟩ => rfl
    | ⟨1, _⟩ => rfl
  have ht : t.val < 128 := t.isLt
  have hy0 : (y 0).val < 512 := (y 0).isLt
  have he : ((cfg0.win 32).blk t).view.emb y = ix2 (⟨t.val * 512 + (y 0).val, by omega⟩ : Fin 65536) (y 1) := funext fun a => Fin.ext (by
    match a with
    | ⟨0, _⟩ => blk_simp [idx32 t]; rfl
    | ⟨1, _⟩ => blk_simp [idx32 t]; rfl)
  rw [he]
  exact (congrArg _ hy).trans (block_out m c t (y 0) (y 1))

/-- The run, with the result's value. -/
theorem run : θ_run defs (onTc (τ := τ) (main (F := Ideal))) ⟨m, fun _ => 0, ρ⟩ (fun r => ∀ c : Dev nD,
    r.2.mem ((c.tc : Thread nD τ).loc main_v22) = result m c) :=
  (θ_run defs _ _).mono (fun r h c => ((h c).1 32).trans (final m c)) (run_main m ρ)

end Cert.TailIdeal.Hand

end

end
-- ==== Proof.Tail.Same.lean ====
/- The tail and its idealized form have one text. Their bodies, grids and host code are equal by unfolding; the table
   of bodies needs its label read first. So a run of the one is a run of the other. -/
module

public import proofs.«01_k».proof.Defs
public import proofs.«01_k».proof.Proof.Gen.Tail
public import proofs.«01_k».proof.Proof.Tail.Run

@[expose] public section

set_option maxRecDepth 16384
set_option maxHeartbeats 8000000

noncomputable section

namespace Cert.Proof

open Idealize.ShloMosaic Idealize.SL.Sem

/-- The two tables of kernel bodies are equal. -/
theorem tail_defs₀ : Cert.Tail.defs₀ (F := Bits) = Cert.TailIdeal.defs₀ (F := Bits) := by
  unfold Cert.Tail.defs₀ Cert.TailIdeal.defs₀
  refine congrArg Defs.onTc (funext fun l => ?_)
  match l with
  | ⟨0, _⟩ => exact funext fun a => match a with | (t, s) => rfl
  | ⟨_ + 1, h⟩ => exact absurd h (Nat.not_lt.2 (Nat.le_add_left _ _))

/-- The two programs' tables, with the pipelines' own bodies, are equal. -/
theorem tail_defs : Cert.Tail.defs (F := Bits) = Cert.TailIdeal.defs (F := Bits) :=
  congrArg (Pipeline.defs (Cert.TailIdeal.pcfgs (F := Bits))) tail_defs₀

/-- The two host programs are equal. -/
theorem tail_main : Cert.Tail.main (F := Bits) = Cert.TailIdeal.main (F := Bits) := rfl

/-- A run under equal tables and programs. -/
theorem run_congr {nD : ℕ} {τ : Topo} {sig : RefSig} {Val : EltTy → Type} {Λ : Labels} {D D' : Defs nD τ sig Val Λ}
    {p p' : Dev nD → Prog (TpuEff nD τ sig Val Λ .tc) PUnit} (hD : D = D') (hp : p = p') {s : MemSt nD τ sig Val} {Q : PUnit × MemSt nD τ sig Val → Prop}
    (h : θ_run D' (onTc (τ := τ) p') s Q) : θ_run D (onTc (τ := τ) p) s Q := by
  subst hD hp
  exact h

/-- The tail's frame, from the run of its idealized form at bits. -/
theorem frame_tail : Cert.quiescent_Tail (hTail := Cert.Tail.Gen.facts) := fun m ρ _ =>
  run_congr tail_defs tail_main (Cert.TailIdeal.Hand.frame (F := Bits) m ρ)

end Cert.Proof

end

end
-- ==== Proof.Tail.Ref.lean ====
module

public import proofs.«01_k».proof.Proof.Gen.TailReferenceIdeal.Run
public import proofs.«01_k».proof.Proof.Math.Layer
public import Idealize.ShloMosaic.Lib.Pointwise
public import Idealize.ShloMosaic.Lib.MatmulPlain

@[expose] public section

set_option maxRecDepth 16384

noncomputable section

namespace Cert.TailReferenceIdeal.Hand

open Cert.TailReferenceIdeal Cert.TailReferenceIdeal.Gen Cert.TailReferenceIdeal.Value Cert.Rows
open Idealize.ShloMosaic Idealize.ShloMosaic.TcCoe Idealize.ShloMosaic.StableHlo

variable (V0 : Valuation τ sig (Elt Ideal))

/-- The arrays that the reference reads. -/
def args : Args where
  ya := fun b s k => V0 (Proc.devRef .tc main_arg0) (ix3 b s k)
  yb := fun b s k => V0 (Proc.devRef .tc main_arg1) (ix3 b s k)
  yc := fun b s k => V0 (Proc.devRef .tc main_arg2) (ix3 b s k)
  yd := fun b s k => V0 (Proc.devRef .tc main_arg3) (ix3 b s k)
  h := fun b s k => V0 (Proc.devRef .tc main_arg4) (ix3 b s k)
  p := fun b s k => V0 (Proc.devRef .tc main_arg5) (ix4 1 b s k)
  mg := fun k => V0 (Proc.devRef .tc main_arg6) (ix1 k)
  wo := fun k j => V0 (Proc.devRef .tc main_arg7) (ix2 k j)
  g1 := fun k => V0 (Proc.devRef .tc main_arg8) (ix1 k)
  b1 := fun k => V0 (Proc.devRef .tc main_arg9) (ix1 k)
  wg := fun k j => V0 (Proc.devRef .tc main_arg10) (ix2 k j)
  wu := fun k j => V0 (Proc.devRef .tc main_arg11) (ix2 k j)
  cw := fun k j => V0 (Proc.devRef .tc main_arg12) (ix2 k j)
  cb := fun k => V0 (Proc.devRef .tc main_arg13) (ix1 k)
  wd := fun k j => V0 (Proc.devRef .tc main_arg14) (ix2 k j)
  g2 := fun k => V0 (Proc.devRef .tc main_arg15) (ix1 k)
  b2 := fun k => V0 (Proc.devRef .tc main_arg16) (ix1 k)
  pp := fun k j => V0 (Proc.devRef .tc main_arg17) (ix2 k j)
  pg := fun k j => V0 (Proc.devRef .tc main_arg18) (ix2 k j)
  pb := fun k => V0 (Proc.devRef .tc main_arg19) (ix1 k)
  g3 := fun k => V0 (Proc.devRef .tc main_arg20) (ix1 k)
  b3 := fun k => V0 (Proc.devRef .tc main_arg21) (ix1 k)

/-! ## Normalising, whatever the rows -/

/-- The rows' means. -/
def rMean (X : FVec Ideal S32x2048x1024 .f32) : FVec Ideal S32x2048x1 .f32 :=
  Host.divf (broadcastInDim S32x2048x1 ![0, 1] bcast_S32x2048_S32x2048x1_0_1 (Host.reduceAdd X (constant S_ .f32 0x00000000#32) reducesTo_S32x2048x1024_S32x2048_d2 h_S_)) (broadcastInDim S32x2048x1 ![] bcast_S_S32x2048x1 (constant S_ .f32 0x44800000#32))

/-- The rows less their means. -/
def rCen (X : FVec Ideal S32x2048x1024 .f32) : FVec Ideal S32x2048x1024 .f32 :=
  subf X (broadcastInDim S32x2048x1024 ![0, 1, 2] bcast_S32x2048x1_S32x2048x1024_0_1_2 (rMean X))

theorem rCen_apply (X : FVec Ideal S32x2048x1024 .f32) (b : Fin 32) (s : Fin 2048) (j : Fin 1024) :
    rCen X (ix3 b s j) = X (ix3 b s j) - mean (fun x => X (ix3 b s x)) := by
  simp only [mean]
  pointwise [rCen, rMean]

/-- The rows normalised. -/
def rLn (X : FVec Ideal S32x2048x1024 .f32) (g b : FVec Ideal S1024 .f32) : FVec Ideal S32x2048x1024 .f32 :=
  addf (mulf (mulf (rCen X) (broadcastInDim S32x2048x1024 ![0, 1, 2] bcast_S32x2048x1_S32x2048x1024_0_1_2 (Host.rsqrt (addf (Host.divf (broadcastInDim S32x2048x1 ![0, 1] bcast_S32x2048_S32x2048x1_0_1 (Host.reduceAdd (mulf (rCen X) (rCen X)) (constant S_ .f32 0x00000000#32) reducesTo_S32x2048x1024_S32x2048_d2 h_S_)) (broadcastInDim S32x2048x1 ![] bcast_S_S32x2048x1 (constant S_ .f32 0x44800000#32))) (broadcastInDim S32x2048x1 ![] bcast_S_S32x2048x1 (constant S_ .f32 0x3727C5AC#32))))))
    (broadcastInDim S32x2048x1024 ![0, 1, 2] bcast_S1x1x1024_S32x2048x1024_0_1_2 (broadcastInDim S1x1x1024 ![2] bcast_S1024_S1x1x1024_2 g)))
    (broadcastInDim S32x2048x1024 ![0, 1, 2] bcast_S1x1x1024_S32x2048x1024_0_1_2 (broadcastInDim S1x1x1024 ![2] bcast_S1024_S1x1x1024_2 b))

theorem rLn_apply (X : FVec Ideal S32x2048x1024 .f32) (g b : FVec Ideal S1024 .f32) (q : Fin 32) (s : Fin 2048) (j : Fin 1024) :
    rLn X g b (ix3 q s j) = ln (fun x => X (ix3 q s x)) (fun x => g (ix1 x)) (fun x => b (ix1 x)) j := by
  simp only [ln, ← rCen_apply]
  pointwise [rLn]

/-! ## The mixers' part -/

/-- The four mixers' rows side by side. -/
def rCat (a b c d : FVec Ideal S32x2048x256 .f32) : FVec Ideal S32x2048x1024 .f32 :=
  concatenate S32x2048x1024 2 [⟨S32x2048x256, a⟩, ⟨S32x2048x256, b⟩, ⟨S32x2048x256, c⟩, ⟨S32x2048x256, d⟩] concatenates_S32x2048x256_S32x2048x256_S32x2048x256_S32x2048x256_S32x2048x1024_d2

theorem rCat_apply (a b c d : FVec Ideal S32x2048x256 .f32) (q : Fin 32) (s : Fin 2048) (j : Fin 1024) :
    rCat a b c d (ix3 q s j) = cat (fun k => a (ix3 q s k)) (fun k => b (ix3 q s k)) (fun k => c (ix3 q s k)) (fun k => d (ix3 q s k)) j := by
  simp only [cat]
  pointwise [rCat]

theorem groups_apply (X : FVec Ideal S32x2048x1024 .f32) (q : Fin 32) (s : Fin 2048) (p : Fin 4) (x : Fin 256) :
    shapeCast S32x2048x4x256 X shapeCasts_S32x2048x1024_S32x2048x4x256 (ix4 q s p x) = X (ix3 q s (col p x)) := by
  simp only [col]
  pointwise []

theorem v1_apply (b : Fin 32) (s : Fin 2048) (p : Fin 4) (x : Fin 256) :
    res_main_v1 V0 (ix4 b s p x) = cat ((args V0).ya b s) ((args V0).yb b s) ((args V0).yc b s) ((args V0).yd b s) (col p x) :=
  (groups_apply (rCat (V0 (Proc.devRef .tc main_arg0)) (V0 (Proc.devRef .tc main_arg1)) (V0 (Proc.devRef .tc main_arg2)) (V0 (Proc.devRef .tc main_arg3))) b s p x).trans
    (rCat_apply _ _ _ _ b s (col p x))

/-- The mixers' rows, each group normalised. -/
def rNrm (X : FVec Ideal S32x2048x4x256 .f32) (g : FVec Ideal S1024 .f32) : FVec Ideal S32x2048x1024 .f32 :=
  mulf (shapeCast S32x2048x1024 (mulf X (broadcastInDim S32x2048x4x256 ![0, 1, 2, 3] bcast_S32x2048x4x1_S32x2048x4x256_0_1_2_3 (Host.rsqrt (addf (Host.divf (broadcastInDim S32x2048x4x1 ![0, 1, 2] bcast_S32x2048x4_S32x2048x4x1_0_1_2 (Host.reduceAdd (mulf X X) (constant S_ .f32 0x00000000#32) reducesTo_S32x2048x4x256_S32x2048x4_d3 h_S_)) (broadcastInDim S32x2048x4x1 ![] bcast_S_S32x2048x4x1 (constant S_ .f32 0x43800000#32))) (broadcastInDim S32x2048x4x1 ![] bcast_S_S32x2048x4x1 (constant S_ .f32 0x358637BD#32)))))) shapeCasts_S32x2048x4x256_S32x2048x1024)
    (broadcastInDim S32x2048x1024 ![0, 1, 2] bcast_S1x1x1024_S32x2048x1024_0_1_2 (broadcastInDim S1x1x1024 ![2] bcast_S1024_S1x1x1024_2 g))

theorem rNrm_apply (X : FVec Ideal S32x2048x4x256 .f32) (g : FVec Ideal S1024 .f32) (b : Fin 32) (s : Fin 2048) (j : Fin 1024) :
    rNrm X g (ix3 b s j) = X (ix4 b s ⟨j.val / 256, by omega⟩ ⟨j.val % 256, by omega⟩)
      * Ideal.rsqrt (Ideal.div (∑ x : Fin 256, X (ix4 b s ⟨j.val / 256, by omega⟩ x) * X (ix4 b s ⟨j.val / 256, by omega⟩ x)) (Ideal.ofBits .f32 1132462080#32) + Ideal.ofBits .f32 897988541#32) * g (ix1 j) := by
  pointwise [rNrm]

theorem col_div (j : Fin 1024) : col ⟨j.val / 256, by omega⟩ ⟨j.val % 256, by omega⟩ = j :=
  Fin.ext (show j.val / 256 * 256 + j.val % 256 = j.val by omega)

/-- The layer's input plus a projection of rows. -/
def rPre (X : FVec Ideal S32x2048x1024 .f32) (H : FVec Ideal S32x2048x1024 .f32) (w : FVec Ideal S1024x1024 .f32) : FVec Ideal S32x2048x1024 .f32 :=
  addf (mulf (broadcastInDim S32x2048x1024 ![] bcast_S_S32x2048x1024 (constant S_ .f32 0x3FB504F3#32)) H) (Host.dotGeneral dot_S32x2048x1024_S1024x1024_S32x2048x1024_2_0_01_1_n_n none X w)

theorem rPre_apply (X : FVec Ideal S32x2048x1024 .f32) (H : FVec Ideal S32x2048x1024 .f32) (w : FVec Ideal S1024x1024 .f32) (b : Fin 32) (s : Fin 2048) (j : Fin 1024) :
    rPre X H w (ix3 b s j) = al * H (ix3 b s j) + ∑ k : Fin 1024, X (ix3 b s k) * w (ix2 k j) := by
  simp only [al]
  pointwise [rPre]

theorem v19_eq : res_main_v19 V0 = rPre (rNrm (res_main_v1 V0) (V0 (Proc.devRef .tc main_arg6))) (V0 (Proc.devRef .tc main_arg4)) (V0 (Proc.devRef .tc main_arg7)) := rfl

theorem v43_eq : res_main_v43 V0 = rLn (res_main_v19 V0) (V0 (Proc.devRef .tc main_arg8)) (V0 (Proc.devRef .tc main_arg9)) := rfl

theorem v43_apply (b : Fin 32) (s : Fin 2048) (j : Fin 1024) :
    res_main_v43 V0 (ix3 b s j) = (args V0).h1 (b.val * 2048 + s.val) j := by
  rw [v43_eq, rLn_apply, Args.h1, bq_row, sq_row, first]
  refine congrArg (fun f => ln f _ _ j) (funext fun x => ?_)
  rw [v19_eq, rPre_apply]
  refine congrArg (_ + ·) (Finset.sum_congr rfl fun k _ => congrArg (· * _) ?_)
  rw [rNrm_apply]
  simp only [v1_apply, grp, col_div]
  rfl

/-! ## The feed-forward part -/

/-- The gate's columns. -/
def rGate (X : FVec Ideal S32x2048x1024 .f32) (w : FVec Ideal S1024x2816 .f32) : FVec Ideal S32x2048x2816 .f32 :=
  Host.dotGeneral dot_S32x2048x1024_S1024x2816_S32x2048x2816_2_0_01_1_n_n none X w

theorem rGate_apply (X : FVec Ideal S32x2048x1024 .f32) (w : FVec Ideal S1024x2816 .f32) (b : Fin 32) (s : Fin 2048) (x : Fin 2816) :
    rGate X w (ix3 b s x) = ∑ k : Fin 1024, X (ix3 b s k) * w (ix2 k x) := by
  pointwise [rGate]

theorem gate_apply (b : Fin 32) (s : Fin 2048) (x : Fin 2816) :
    rGate (res_main_v43 V0) (V0 (Proc.devRef .tc main_arg10)) (ix3 b s x) = (args V0).gate (b.val * 2048 + s.val) x := by
  rw [rGate_apply]
  simp only [v43_apply]
  rfl

/-- The gate's columns with a row of zeros at each end of a sequence. -/
def rPad (G : FVec Ideal S32x2048x2816 .f32) : FVec Ideal S32x2050x2816 .f32 :=
  pad S32x2050x2816 ![0, 1, 0] ![0, 1, 0] ![0, 0, 0] G (sitofp .f32 (constantI S_ 32 0#32)) pads_S32x2048x2816_S32x2050x2816_000_110_000 h_S_

theorem rPad_apply (G : FVec Ideal S32x2048x2816 .f32) (b : Fin 32) (q : Fin 2050) (x : Fin 2816) :
    rPad G (ix3 b q x) = if h : 1 ≤ q.val ∧ q.val - 1 < 2048 then G (ix3 b ⟨q.val - 1, h.2⟩ x) else 0 := by
  have z : FloatOps.sitofp (F := Ideal) .f32 (0#32) = 0 := by
    show (((0#32 : BitVec 32).toInt : ℝ) : EReal) = 0
    simp
  rw [← z]
  pointwise [rPad]

/-- The three taps' sum. -/
def rTaps (P : FVec Ideal S32x2050x2816 .f32) (cw : FVec Ideal S3x2816 .f32) (cb : FVec Ideal S2816 .f32) : FVec Ideal S32x2048x2816 .f32 :=
  addf (addf (addf (mulf (extractStridedSlice S32x2048x2816 ![0, 0, 0] P slices_S32x2050x2816_S32x2048x2816_0_0_0) (broadcastInDim S32x2048x2816 ![0, 1, 2] bcast_S1x1x2816_S32x2048x2816_0_1_2 (broadcastInDim S1x1x2816 ![2] bcast_S2816_S1x1x2816_2 (shapeCast S2816 (extractStridedSlice S1x2816 ![0, 0] cw slices_S3x2816_S1x2816_0_0) shapeCasts_S1x2816_S2816))))
    (mulf (extractStridedSlice S32x2048x2816 ![0, 1, 0] P slices_S32x2050x2816_S32x2048x2816_0_1_0) (broadcastInDim S32x2048x2816 ![0, 1, 2] bcast_S1x1x2816_S32x2048x2816_0_1_2 (broadcastInDim S1x1x2816 ![2] bcast_S2816_S1x1x2816_2 (shapeCast S2816 (extractStridedSlice S1x2816 ![1, 0] cw slices_S3x2816_S1x2816_1_0) shapeCasts_S1x2816_S2816)))))
    (mulf (extractStridedSlice S32x2048x2816 ![0, 2, 0] P slices_S32x2050x2816_S32x2048x2816_0_2_0) (broadcastInDim S32x2048x2816 ![0, 1, 2] bcast_S1x1x2816_S32x2048x2816_0_1_2 (broadcastInDim S1x1x2816 ![2] bcast_S2816_S1x1x2816_2 (shapeCast S2816 (extractStridedSlice S1x2816 ![2, 0] cw slices_S3x2816_S1x2816_2_0) shapeCasts_S1x2816_S2816)))))
    (broadcastInDim S32x2048x2816 ![0, 1, 2] bcast_S1x1x2816_S32x2048x2816_0_1_2 (broadcastInDim S1x1x2816 ![2] bcast_S2816_S1x1x2816_2 cb))

theorem rTaps_apply (P : FVec Ideal S32x2050x2816 .f32) (cw : FVec Ideal S3x2816 .f32) (cb : FVec Ideal S2816 .f32) (b : Fin 32) (s : Fin 2048) (x : Fin 2816) :
    rTaps P cw cb (ix3 b s x) = P (ix3 b ⟨s.val, by omega⟩ x) * cw (ix2 0 x) + P (ix3 b ⟨1 + s.val, by omega⟩ x) * cw (ix2 1 x)
      + P (ix3 b ⟨2 + s.val, by omega⟩ x) * cw (ix2 2 x) + cb (ix1 x) := by
  pointwise [rTaps]

theorem v68_eq : res_main_v68 V0 = rTaps (rPad (rGate (res_main_v43 V0) (V0 (Proc.devRef .tc main_arg10)))) (V0 (Proc.devRef .tc main_arg12)) (V0 (Proc.devRef .tc main_arg13)) := rfl

theorem v68_apply (b : Fin 32) (s : Fin 2048) (x : Fin 2816) :
    res_main_v68 V0 (ix3 b s x) = (args V0).conv (b.val * 2048 + s.val) x := by
  have hs := s.isLt
  have hb := b.isLt
  rw [v68_eq, rTaps_apply, rPad_apply, rPad_apply, rPad_apply, Args.conv]
  have e0 : (if h : 1 ≤ s.val ∧ s.val - 1 < 2048 then rGate (res_main_v43 V0) (V0 (Proc.devRef .tc main_arg10)) (ix3 b ⟨s.val - 1, h.2⟩ x) else 0)
      = if (b.val * 2048 + s.val) % 2048 = 0 then 0 else (args V0).gate (b.val * 2048 + s.val - 1) x := by
    by_cases h : s.val = 0
    · rw [dif_neg (by omega), if_pos (by omega)]
    · rw [dif_pos (by omega), if_neg (by omega), gate_apply]
      exact congrArg (fun n => (args V0).gate n x) (show b.val * 2048 + (s.val - 1) = b.val * 2048 + s.val - 1 by omega)
  have e1 : (if h : 1 ≤ 1 + s.val ∧ 1 + s.val - 1 < 2048 then rGate (res_main_v43 V0) (V0 (Proc.devRef .tc main_arg10)) (ix3 b ⟨1 + s.val - 1, h.2⟩ x) else 0)
      = (args V0).gate (b.val * 2048 + s.val) x := by
    rw [dif_pos (by omega), gate_apply]
    exact congrArg (fun n => (args V0).gate n x) (show b.val * 2048 + (1 + s.val - 1) = b.val * 2048 + s.val by omega)
  have e2 : (if h : 1 ≤ 2 + s.val ∧ 2 + s.val - 1 < 2048 then rGate (res_main_v43 V0) (V0 (Proc.devRef .tc main_arg10)) (ix3 b ⟨2 + s.val - 1, h.2⟩ x) else 0)
      = if (b.val * 2048 + s.val) % 2048 = 2047 then 0 else (args V0).gate (b.val * 2048 + s.val + 1) x := by
    by_cases h : s.val = 2047
    · rw [dif_neg (by omega), if_pos (by omega)]
    · rw [dif_pos (by omega), if_neg (by omega), gate_apply]
      exact congrArg (fun n => (args V0).gate n x) (show b.val * 2048 + (2 + s.val - 1) = b.val * 2048 + s.val + 1 by omega)
  rw [← e0, ← e1, ← e2]
  rfl

/-- The rows plus the gated columns through the down projection. -/
def rFfn (H : FVec Ideal S32x2048x1024 .f32) (Q : FVec Ideal S32x2048x2816 .f32) (wu : FVec Ideal S1024x2816 .f32) (wd : FVec Ideal S2816x1024 .f32) : FVec Ideal S32x2048x1024 .f32 :=
  addf (mulf (broadcastInDim S32x2048x1024 ![] bcast_S_S32x2048x1024 (constant S_ .f32 0x3FB504F3#32)) H) (Host.dotGeneral dot_S32x2048x2816_S2816x1024_S32x2048x1024_2_0_01_1_n_n none (mulf (mulf Q (Host.divf (broadcastInDim S32x2048x2816 ![] bcast_S_S32x2048x2816 (constant S_ .f32 0x3F800000#32)) (addf (broadcastInDim S32x2048x2816 ![] bcast_S_S32x2048x2816 (constant S_ .f32 0x3F800000#32)) (Host.exp (Host.negf Q))))) (rGate H wu)) wd)

theorem rFfn_apply (H : FVec Ideal S32x2048x1024 .f32) (Q : FVec Ideal S32x2048x2816 .f32) (wu : FVec Ideal S1024x2816 .f32) (wd : FVec Ideal S2816x1024 .f32) (b : Fin 32) (s : Fin 2048) (j : Fin 1024) :
    rFfn H Q wu wd (ix3 b s j) = al * H (ix3 b s j) + ∑ x : Fin 2816, Q (ix3 b s x) * Cert.Rows.sig (Q (ix3 b s x)) * (∑ k : Fin 1024, H (ix3 b s k) * wu (ix2 k x)) * wd (ix2 x j) := by
  simp only [al, Cert.Rows.sig]
  pointwise [rFfn, rGate]

theorem v75_eq : res_main_v75 V0 = rFfn (res_main_v43 V0) (res_main_v68 V0) (V0 (Proc.devRef .tc main_arg11)) (V0 (Proc.devRef .tc main_arg14)) := rfl

theorem v99_eq : res_main_v99 V0 = rLn (res_main_v75 V0) (V0 (Proc.devRef .tc main_arg15)) (V0 (Proc.devRef .tc main_arg16)) := rfl

theorem v99_apply (b : Fin 32) (s : Fin 2048) (j : Fin 1024) :
    res_main_v99 V0 (ix3 b s j) = (args V0).h2 (b.val * 2048 + s.val) j := by
  rw [v99_eq, rLn_apply, Args.h2, second]
  refine congrArg (fun f => ln f _ _ j) (funext fun x => ?_)
  rw [v75_eq, rFfn_apply]
  simp only [v43_apply, v68_apply]
  rfl

/-! ## The per-layer embedding's part -/

/-- The rows plus the gated embedding. -/
def rPle (H : FVec Ideal S32x2048x1024 .f32) (p : FVec Ideal S2x32x2048x256 .f32) (wp : FVec Ideal S256x1024 .f32) (wg : FVec Ideal S1024x1024 .f32) (bg : FVec Ideal S1024 .f32) : FVec Ideal S32x2048x1024 .f32 :=
  addf (mulf (broadcastInDim S32x2048x1024 ![] bcast_S_S32x2048x1024 (constant S_ .f32 0x3FB504F3#32)) H) (mulf (Host.dotGeneral dot_S32x2048x256_S256x1024_S32x2048x1024_2_0_01_1_n_n none (shapeCast S32x2048x256 (extractStridedSlice S1x32x2048x256 ![1, 0, 0, 0] p slices_S2x32x2048x256_S1x32x2048x256_1_0_0_0) shapeCasts_S1x32x2048x256_S32x2048x256) wp)
    (Host.divf (broadcastInDim S32x2048x1024 ![] bcast_S_S32x2048x1024 (constant S_ .f32 0x3F800000#32)) (addf (broadcastInDim S32x2048x1024 ![] bcast_S_S32x2048x1024 (constant S_ .f32 0x3F800000#32)) (Host.exp (Host.negf (addf (Host.dotGeneral dot_S32x2048x1024_S1024x1024_S32x2048x1024_2_0_01_1_n_n none H wg) (broadcastInDim S32x2048x1024 ![0, 1, 2] bcast_S1x1x1024_S32x2048x1024_0_1_2 (broadcastInDim S1x1x1024 ![2] bcast_S1024_S1x1x1024_2 bg))))))))

theorem rPle_apply (H : FVec Ideal S32x2048x1024 .f32) (p : FVec Ideal S2x32x2048x256 .f32) (wp : FVec Ideal S256x1024 .f32) (wg : FVec Ideal S1024x1024 .f32) (bg : FVec Ideal S1024 .f32) (b : Fin 32) (s : Fin 2048) (j : Fin 1024) :
    rPle H p wp wg bg (ix3 b s j) = al * H (ix3 b s j) + (∑ k : Fin 256, p (ix4 1 b s k) * wp (ix2 k j)) * Cert.Rows.sig ((∑ k : Fin 1024, H (ix3 b s k) * wg (ix2 k j)) + bg (ix1 j)) := by
  simp only [al, Cert.Rows.sig]
  pointwise [rPle]

theorem v116_eq : res_main_v116 V0 = rPle (res_main_v99 V0) (V0 (Proc.devRef .tc main_arg5)) (V0 (Proc.devRef .tc main_arg17)) (V0 (Proc.devRef .tc main_arg18)) (V0 (Proc.devRef .tc main_arg19)) := rfl

/-- The reference's result. -/
def result : FVec Ideal S65536x1024 .f32 :=
  shapeCast S65536x1024 (rLn (res_main_v116 V0) (V0 (Proc.devRef .tc main_arg20)) (V0 (Proc.devRef .tc main_arg21))) shapeCasts_S32x2048x1024_S65536x1024

theorem flat_apply (X : FVec Ideal S32x2048x1024 .f32) (n : Fin 65536) (j : Fin 1024) :
    shapeCast S65536x1024 X shapeCasts_S32x2048x1024_S65536x1024 (ix2 n j) = X (ix3 ⟨n.val / 2048, by omega⟩ ⟨n.val % 2048, by omega⟩ j) := by
  pointwise []

theorem result_apply (n : Fin 65536) (j : Fin 1024) : result V0 (ix2 n j) = (args V0).out n.val j := by
  have hn := n.isLt
  have e : (⟨n.val / 2048, by omega⟩ : Fin 32).val * 2048 + (⟨n.val % 2048, by omega⟩ : Fin 2048).val = n.val := by
    show n.val / 2048 * 2048 + n.val % 2048 = n.val
    omega
  have h := fun b s j => show rLn (res_main_v116 V0) (V0 (Proc.devRef .tc main_arg20)) (V0 (Proc.devRef .tc main_arg21)) (ix3 b s j) = (args V0).out (b.val * 2048 + s.val) j by
    rw [rLn_apply, Args.out, third, bq_row, sq_row]
    refine congrArg (fun f => ln f _ _ j) (funext fun x => ?_)
    rw [v116_eq, rPle_apply]
    simp only [v99_apply]
    rfl
  rw [result, flat_apply, h, e]

end Cert.TailReferenceIdeal.Hand

end

end
-- ==== Proof.KI.Trip.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## One trip of the loop: the pieces it writes -/

/-- A covered read of the piece written last, at that piece's own rectangle, is the piece. -/
theorem readCov_cons_same {Val : EltTy → Type} [∀ e, Nonempty (Val e)] {sig : RefSig} {κ : Kind} {sp : Space} {s : Shape} {e : EltTy}
    (v : View sig κ sp s e) (off size : Fin s.rank → ℕ) (inb : ∀ a, off a + size a ≤ s.size a) (w : (Rect.unit off size inb).shape.Idx → Val e)
    (L : List (View.Piece Val s e)) :
    v.readCov (⟨Rect.unit off size inb, w⟩ :: L) (Rect.unit off size inb).toLoadRect = w := by
  unfold View.readCov
  funext j
  rw [View.readAt_apply]
  exact View.read_writes_cons_unit_of_mem v _ inb w L _ j rfl (fun a => by simp)

section Pieces

variable (arg9 : Memref sig .tc .vmem S1x2048x256 .f32) (arg10 arg11 arg12 : Memref sig .tc .vmem S2048x512 .bf16)
  (arg13 : Memref sig .tc .vmem S2x512x2048 .bf16) (arg14 : Memref sig .tc .vmem S2x512x1 .f32)
  (X10 : BufTy.Contents (Elt F) arg10.view.ty) (X11 : BufTy.Contents (Elt F) arg11.view.ty) (X12 : BufTy.Contents (Elt F) arg12.view.ty)
  (k : Fin k0_t1_loop.trips) (f9 : BufTy.Contents (Elt F) arg9.view.ty) (f13 : BufTy.Contents (Elt F) arg13.view.ty) (f14 : BufTy.Contents (Elt F) arg14.view.ty)

/-- The query rows of trip `k`'s tile for heads 1, 2, 3, and those of the next tile for head 0. -/
abbrev qT1 : Vec F S512x128 .bf16 := arg10.view.readAt (Elt F) (Rect.unit (s := S2048x512) (k0_off2 k) S512x128.size (k0_off2_inb k)).toLoadRect X10
abbrev qT2 : Vec F S512x128 .bf16 := arg10.view.readAt (Elt F) (Rect.unit (s := S2048x512) (k0_off3 k) S512x128.size (k0_off3_inb k)).toLoadRect X10
abbrev qT3 : Vec F S512x128 .bf16 := arg10.view.readAt (Elt F) (Rect.unit (s := S2048x512) (k0_off5 k) S512x128.size (k0_off5_inb k)).toLoadRect X10
abbrev qT4 : Vec F S512x128 .bf16 := arg10.view.readAt (Elt F) (Rect.unit (s := S2048x512) (k0_off6 k) S512x128.size (k0_off6_inb k)).toLoadRect X10

/-- The columns of one head of a packed array of keys or of values. -/
abbrev col0 (a : Memref sig .tc .vmem S2048x512 .bf16) (X : BufTy.Contents (Elt F) a.view.ty) : Vec F S2048x128 .bf16 := a.view.readAt (Elt F) (Rect.unit (s := S2048x512) ![0, 0] S2048x128.size inb_S2048x512_S2048x128_0_0).toLoadRect X
abbrev col1 (a : Memref sig .tc .vmem S2048x512 .bf16) (X : BufTy.Contents (Elt F) a.view.ty) : Vec F S2048x128 .bf16 := a.view.readAt (Elt F) (Rect.unit (s := S2048x512) ![0, 128] S2048x128.size inb_S2048x512_S2048x128_0_128).toLoadRect X
abbrev col2 (a : Memref sig .tc .vmem S2048x512 .bf16) (X : BufTy.Contents (Elt F) a.view.ty) : Vec F S2048x128 .bf16 := a.view.readAt (Elt F) (Rect.unit (s := S2048x512) ![0, 256] S2048x128.size inb_S2048x512_S2048x128_0_256).toLoadRect X
abbrev col3 (a : Memref sig .tc .vmem S2048x512 .bf16) (X : BufTy.Contents (Elt F) a.view.ty) : Vec F S2048x128 .bf16 := a.view.readAt (Elt F) (Rect.unit (s := S2048x512) ![0, 384] S2048x128.size inb_S2048x512_S2048x128_0_384).toLoadRect X

/-- The first slot of the exponentials and of their sums. -/
abbrev eSlot0 : Vec F S1x512x2048 .bf16 := arg13.view.readAt (Elt F) (Rect.unit (s := S2x512x2048) ![0, 0, 0] S1x512x2048.size inb_S2x512x2048_S1x512x2048_0_0_0).toLoadRect f13
abbrev lSlot0 : Vec F S1x512x1 .f32 := arg14.view.readAt (Elt F) (Rect.unit (s := S2x512x1) ![0, 0, 0] S1x512x1.size inb_S2x512x1_S1x512x1_0_0_0).toLoadRect f14

/-- The pair of heads 0 and 1 of a tile, then the pair 2 and 3, as a trip stores them. -/
abbrev tA : FVec F S1x512x128 .f32 := k0_pay3 (eSlot0 arg13 f13) (col0 arg12 X12) (lSlot0 arg14 f14)
abbrev tB : FVec F S1x512x128 .f32 :=
  k0_pay8 (k0_pay7 (k0_pay6 (qT1 arg10 X10 k) (col1 arg11 X11))) (col1 arg12 X12) (k0_pay5 (qT1 arg10 X10 k) (col1 arg11 X11)) (tA arg12 arg13 arg14 X12 f13 f14)
abbrev tC : FVec F S1x512x128 .f32 :=
  k0_pay13 (k0_pay12 (k0_pay9 (qT2 arg10 X10 k) (col2 arg11 X11))) (col2 arg12 X12) (k0_pay11 (k0_pay10 (qT2 arg10 X10 k) (col2 arg11 X11)))
abbrev tD : FVec F S1x512x128 .f32 :=
  k0_pay18 (k0_pay17 (k0_pay14 (qT3 arg10 X10 k) (col3 arg11 X11))) (col3 arg12 X12) (k0_pay16 (k0_pay15 (qT3 arg10 X10 k) (col3 arg11 X11))) (tC arg10 arg11 arg12 X10 X11 X12 k)

/-- The same stores as the run finds them: each slot read back from the list of what the trip has written so far. -/
abbrev tB' : FVec F S1x512x128 .f32 :=
  k0_pay8 (arg13.view.readCov [⟨Rect.unit (s := S2x512x2048) ![1, 0, 0] S1x512x2048.size inb_S2x512x2048_S1x512x2048_1_0_0, k0_pay7 (k0_pay6 (qT1 arg10 X10 k) (col1 arg11 X11))⟩] (Rect.unit (s := S2x512x2048) ![1, 0, 0] S1x512x2048.size inb_S2x512x2048_S1x512x2048_1_0_0).toLoadRect) (col1 arg12 X12) (arg14.view.readCov [⟨Rect.unit (s := S2x512x1) ![1, 0, 0] S1x512x1.size inb_S2x512x1_S1x512x1_1_0_0, k0_pay5 (qT1 arg10 X10 k) (col1 arg11 X11)⟩] (Rect.unit (s := S2x512x1) ![1, 0, 0] S1x512x1.size inb_S2x512x1_S1x512x1_1_0_0).toLoadRect) (arg9.view.readCov [⟨Rect.unit (s := S1x2048x256) (k0_off1 k) S1x512x128.size (k0_off1_inb k), (tA arg12 arg13 arg14 X12 f13 f14)⟩] (Rect.unit (s := S1x2048x256) (k0_off1 k) S1x512x128.size (k0_off1_inb k)).toLoadRect)
abbrev tC' : FVec F S1x512x128 .f32 :=
  k0_pay13 (arg13.view.readCov [⟨Rect.unit (s := S2x512x2048) ![0, 0, 0] S1x512x2048.size inb_S2x512x2048_S1x512x2048_0_0_0, k0_pay12 (k0_pay9 (qT2 arg10 X10 k) (col2 arg11 X11))⟩, ⟨Rect.unit (s := S2x512x2048) ![1, 0, 0] S1x512x2048.size inb_S2x512x2048_S1x512x2048_1_0_0, k0_pay7 (k0_pay6 (qT1 arg10 X10 k) (col1 arg11 X11))⟩] (Rect.unit (s := S2x512x2048) ![0, 0, 0] S1x512x2048.size inb_S2x512x2048_S1x512x2048_0_0_0).toLoadRect) (col2 arg12 X12) (arg14.view.readCov [⟨Rect.unit (s := S2x512x1) ![0, 0, 0] S1x512x1.size inb_S2x512x1_S1x512x1_0_0_0, k0_pay11 (k0_pay10 (qT2 arg10 X10 k) (col2 arg11 X11))⟩, ⟨Rect.unit (s := S2x512x1) ![1, 0, 0] S1x512x1.size inb_S2x512x1_S1x512x1_1_0_0, k0_pay5 (qT1 arg10 X10 k) (col1 arg11 X11)⟩] (Rect.unit (s := S2x512x1) ![0, 0, 0] S1x512x1.size inb_S2x512x1_S1x512x1_0_0_0).toLoadRect)
abbrev tD' : FVec F S1x512x128 .f32 :=
  k0_pay18 (arg13.view.readCov [⟨Rect.unit (s := S2x512x2048) ![1, 0, 0] S1x512x2048.size inb_S2x512x2048_S1x512x2048_1_0_0, k0_pay17 (k0_pay14 (qT3 arg10 X10 k) (col3 arg11 X11))⟩, ⟨Rect.unit (s := S2x512x2048) ![0, 0, 0] S1x512x2048.size inb_S2x512x2048_S1x512x2048_0_0_0, k0_pay12 (k0_pay9 (qT2 arg10 X10 k) (col2 arg11 X11))⟩, ⟨Rect.unit (s := S2x512x2048) ![1, 0, 0] S1x512x2048.size inb_S2x512x2048_S1x512x2048_1_0_0, k0_pay7 (k0_pay6 (qT1 arg10 X10 k) (col1 arg11 X11))⟩] (Rect.unit (s := S2x512x2048) ![1, 0, 0] S1x512x2048.size inb_S2x512x2048_S1x512x2048_1_0_0).toLoadRect) (col3 arg12 X12) (arg14.view.readCov [⟨Rect.unit (s := S2x512x1) ![1, 0, 0] S1x512x1.size inb_S2x512x1_S1x512x1_1_0_0, k0_pay16 (k0_pay15 (qT3 arg10 X10 k) (col3 arg11 X11))⟩, ⟨Rect.unit (s := S2x512x1) ![0, 0, 0] S1x512x1.size inb_S2x512x1_S1x512x1_0_0_0, k0_pay11 (k0_pay10 (qT2 arg10 X10 k) (col2 arg11 X11))⟩, ⟨Rect.unit (s := S2x512x1) ![1, 0, 0] S1x512x1.size inb_S2x512x1_S1x512x1_1_0_0, k0_pay5 (qT1 arg10 X10 k) (col1 arg11 X11)⟩] (Rect.unit (s := S2x512x1) ![1, 0, 0] S1x512x1.size inb_S2x512x1_S1x512x1_1_0_0).toLoadRect)
    (arg9.view.readCov [⟨Rect.unit (s := S1x2048x256) (k0_off4 k) S1x512x128.size (k0_off4_inb k), tC' arg10 arg11 arg12 arg13 arg14 X10 X11 X12 k⟩, ⟨Rect.unit (s := S1x2048x256) (k0_off1 k) S1x512x128.size (k0_off1_inb k), tB' arg9 arg10 arg11 arg12 arg13 arg14 X10 X11 X12 k f13 f14⟩, ⟨Rect.unit (s := S1x2048x256) (k0_off1 k) S1x512x128.size (k0_off1_inb k), (tA arg12 arg13 arg14 X12 f13 f14)⟩] (Rect.unit (s := S1x2048x256) (k0_off4 k) S1x512x128.size (k0_off4_inb k)).toLoadRect)

theorem tB'_eq : tB' arg9 arg10 arg11 arg12 arg13 arg14 X10 X11 X12 k f13 f14 = tB arg10 arg11 arg12 arg13 arg14 X10 X11 X12 k f13 f14 := by
  unfold tB' tB
  rw [readCov_cons_same, readCov_cons_same, readCov_cons_same]
theorem tC'_eq : tC' arg10 arg11 arg12 arg13 arg14 X10 X11 X12 k = tC arg10 arg11 arg12 X10 X11 X12 k := by
  unfold tC' tC
  rw [readCov_cons_same, readCov_cons_same]
theorem tD'_eq : tD' arg9 arg10 arg11 arg12 arg13 arg14 X10 X11 X12 k f13 f14 = tD arg10 arg11 arg12 X10 X11 X12 k := by
  unfold tD' tD
  rw [readCov_cons_same, readCov_cons_same, readCov_cons_same, tC'_eq]

set_option maxHeartbeats 4000000 in
/-- What one trip writes, as the run finds it. -/
theorem tripL_raw (𝒱 : Variants) (c : Dev nD) (bd : Option 𝒱.V) (i : grid0.Coords) (arg1 : Memref sig .tc .vmem S1x2048x384 .f32) (harg1 : arg1.IsWhole) (arg2 : Memref sig .tc .vmem S1x2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S256x512 .bf16) (harg7 : arg7.IsWhole) (arg8 : Memref sig .tc .vmem S128x1024 .bf16) (harg8 : arg8.IsWhole)
    (harg9 : arg9.IsWhole) (harg10 : arg10.IsWhole) (harg11 : arg11.IsWhole) (harg12 : arg12.IsWhole) (harg13 : arg13.IsWhole) (harg14 : arg14.IsWhole) (v179 : FVec F S512x2048 .bf16) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v179 X10 X11 X12 k f9 f13 f14
      = ([⟨Rect.unit (s := S1x2048x256) (k0_off4 k) S1x512x128.size (k0_off4_inb k), tD' arg9 arg10 arg11 arg12 arg13 arg14 X10 X11 X12 k f13 f14⟩,
          ⟨Rect.unit (s := S1x2048x256) (k0_off4 k) S1x512x128.size (k0_off4_inb k), tC' arg10 arg11 arg12 arg13 arg14 X10 X11 X12 k⟩,
          ⟨Rect.unit (s := S1x2048x256) (k0_off1 k) S1x512x128.size (k0_off1_inb k), tB' arg9 arg10 arg11 arg12 arg13 arg14 X10 X11 X12 k f13 f14⟩,
          ⟨Rect.unit (s := S1x2048x256) (k0_off1 k) S1x512x128.size (k0_off1_inb k), tA arg12 arg13 arg14 X12 f13 f14⟩],
         [⟨Rect.unit (s := S2x512x2048) ![0, 0, 0] S1x512x2048.size inb_S2x512x2048_S1x512x2048_0_0_0, k0_pay44 (k0_pay19 (qT4 arg10 X10 k) (col0 arg11 X11))⟩,
          ⟨Rect.unit (s := S2x512x2048) ![1, 0, 0] S1x512x2048.size inb_S2x512x2048_S1x512x2048_1_0_0, k0_pay17 (k0_pay14 (qT3 arg10 X10 k) (col3 arg11 X11))⟩,
          ⟨Rect.unit (s := S2x512x2048) ![0, 0, 0] S1x512x2048.size inb_S2x512x2048_S1x512x2048_0_0_0, k0_pay12 (k0_pay9 (qT2 arg10 X10 k) (col2 arg11 X11))⟩,
          ⟨Rect.unit (s := S2x512x2048) ![1, 0, 0] S1x512x2048.size inb_S2x512x2048_S1x512x2048_1_0_0, k0_pay7 (k0_pay6 (qT1 arg10 X10 k) (col1 arg11 X11))⟩],
         [⟨Rect.unit (s := S2x512x1) ![0, 0, 0] S1x512x1.size inb_S2x512x1_S1x512x1_0_0_0, k0_pay43 (k0_pay19 (qT4 arg10 X10 k) (col0 arg11 X11))⟩,
          ⟨Rect.unit (s := S2x512x1) ![1, 0, 0] S1x512x1.size inb_S2x512x1_S1x512x1_1_0_0, k0_pay16 (k0_pay15 (qT3 arg10 X10 k) (col3 arg11 X11))⟩,
          ⟨Rect.unit (s := S2x512x1) ![0, 0, 0] S1x512x1.size inb_S2x512x1_S1x512x1_0_0_0, k0_pay11 (k0_pay10 (qT2 arg10 X10 k) (col2 arg11 X11))⟩,
          ⟨Rect.unit (s := S2x512x1) ![1, 0, 0] S1x512x1.size inb_S2x512x1_S1x512x1_1_0_0, k0_pay5 (qT1 arg10 X10 k) (col1 arg11 X11)⟩]) := by
  unfold tripL_k0_t1 trip_k0_t1
  rfl

/-- What one trip writes: into the result the two pairs of heads of its tile (each twice, the second over the first), into
    the first slot the exponentials and sums of the next tile's head 0. -/
theorem tripL_eq (𝒱 : Variants) (c : Dev nD) (bd : Option 𝒱.V) (i : grid0.Coords) (arg1 : Memref sig .tc .vmem S1x2048x384 .f32) (harg1 : arg1.IsWhole) (arg2 : Memref sig .tc .vmem S1x2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S256x512 .bf16) (harg7 : arg7.IsWhole) (arg8 : Memref sig .tc .vmem S128x1024 .bf16) (harg8 : arg8.IsWhole)
    (harg9 : arg9.IsWhole) (harg10 : arg10.IsWhole) (harg11 : arg11.IsWhole) (harg12 : arg12.IsWhole) (harg13 : arg13.IsWhole) (harg14 : arg14.IsWhole) (v179 : FVec F S512x2048 .bf16) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v179 X10 X11 X12 k f9 f13 f14
      = ([⟨Rect.unit (s := S1x2048x256) (k0_off4 k) S1x512x128.size (k0_off4_inb k), tD arg10 arg11 arg12 X10 X11 X12 k⟩,
          ⟨Rect.unit (s := S1x2048x256) (k0_off4 k) S1x512x128.size (k0_off4_inb k), tC arg10 arg11 arg12 X10 X11 X12 k⟩,
          ⟨Rect.unit (s := S1x2048x256) (k0_off1 k) S1x512x128.size (k0_off1_inb k), tB arg10 arg11 arg12 arg13 arg14 X10 X11 X12 k f13 f14⟩,
          ⟨Rect.unit (s := S1x2048x256) (k0_off1 k) S1x512x128.size (k0_off1_inb k), tA arg12 arg13 arg14 X12 f13 f14⟩],
         [⟨Rect.unit (s := S2x512x2048) ![0, 0, 0] S1x512x2048.size inb_S2x512x2048_S1x512x2048_0_0_0, k0_pay44 (k0_pay19 (qT4 arg10 X10 k) (col0 arg11 X11))⟩,
          ⟨Rect.unit (s := S2x512x2048) ![1, 0, 0] S1x512x2048.size inb_S2x512x2048_S1x512x2048_1_0_0, k0_pay17 (k0_pay14 (qT3 arg10 X10 k) (col3 arg11 X11))⟩,
          ⟨Rect.unit (s := S2x512x2048) ![0, 0, 0] S1x512x2048.size inb_S2x512x2048_S1x512x2048_0_0_0, k0_pay12 (k0_pay9 (qT2 arg10 X10 k) (col2 arg11 X11))⟩,
          ⟨Rect.unit (s := S2x512x2048) ![1, 0, 0] S1x512x2048.size inb_S2x512x2048_S1x512x2048_1_0_0, k0_pay7 (k0_pay6 (qT1 arg10 X10 k) (col1 arg11 X11))⟩],
         [⟨Rect.unit (s := S2x512x1) ![0, 0, 0] S1x512x1.size inb_S2x512x1_S1x512x1_0_0_0, k0_pay43 (k0_pay19 (qT4 arg10 X10 k) (col0 arg11 X11))⟩,
          ⟨Rect.unit (s := S2x512x1) ![1, 0, 0] S1x512x1.size inb_S2x512x1_S1x512x1_1_0_0, k0_pay16 (k0_pay15 (qT3 arg10 X10 k) (col3 arg11 X11))⟩,
          ⟨Rect.unit (s := S2x512x1) ![0, 0, 0] S1x512x1.size inb_S2x512x1_S1x512x1_0_0_0, k0_pay11 (k0_pay10 (qT2 arg10 X10 k) (col2 arg11 X11))⟩,
          ⟨Rect.unit (s := S2x512x1) ![1, 0, 0] S1x512x1.size inb_S2x512x1_S1x512x1_1_0_0, k0_pay5 (qT1 arg10 X10 k) (col1 arg11 X11)⟩]) := by
  rw [tripL_raw, tB'_eq, tC'_eq, tD'_eq]

end Pieces

end Cert.KernelIdeal.Hand
end
-- ==== Proof.KI.Body.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

set_option maxHeartbeats 8000000 in
/-- The contents the body leaves in its result, from the eight blocks it reads and from what the result and the two
    slotted scratch buffers held before: values the run finds, with the run. -/
def kernelRun (c : Dev nD) (i : grid0.Coords) (arg1 : Memref sig .tc .vmem S1x2048x384 .f32) (harg1 : arg1.IsWhole) (arg2 : Memref sig .tc .vmem S1x2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S256x512 .bf16) (harg7 : arg7.IsWhole) (arg8 : Memref sig .tc .vmem S128x1024 .bf16) (harg8 : arg8.IsWhole) (arg9 : Memref sig .tc .vmem S1x2048x256 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S2x512x2048 .bf16) (harg13 : arg13.IsWhole) (arg14 : Memref sig .tc .vmem S2x512x1 .f32) (harg14 : arg14.IsWhole) (x1 : Vec F S1x2048x384 .f32) (x2 : Vec F S1x2048x128 .f32) (x3 : Vec F S2048x128 .f32) (x4 : Vec F S2048x128 .f32) (x5 : Vec F S1x256 .f32) (x6 : Vec F S1x128 .f32) (x7 : Vec F S256x512 .bf16) (x8 : Vec F S128x1024 .bf16) :
    { Y : BufTy.Contents (Elt F) arg9.view.ty → BufTy.Contents (Elt F) arg13.view.ty → BufTy.Contents (Elt F) arg14.view.ty → BufTy.Contents (Elt F) arg9.view.ty //
      ∀ (E : Set ℕ) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (arg9.view.loc (c : Thread nD τ) ↦[arg9.view.set]{fullShare} Y f9 f13 f14) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f)) -∗ K ⟨⟩))
          ⊢ wp frame (wpE (defs₀ (F := F)) Variants.none c none) E (cc0_mla i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun E f9 f10 f11 f12 f13 f14 K => ?run⟩
  case run =>
    unfold owns
    iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, H9, H10, H11, H12, H13, H14, Hk⟩
    obtain rfl := harg1.eq_unread hg1; obtain rfl := harg2.eq_unread hg2; obtain rfl := harg3.eq_unread hg3; obtain rfl := harg4.eq_unread hg4; obtain rfl := harg5.eq_unread hg5; obtain rfl := harg6.eq_unread hg6; obtain rfl := harg7.eq_unread hg7; obtain rfl := harg8.eq_unread hg8
    sl_unfold [cc0_mla]
    sl_open_parts
    sl_exec!
    simp only [bind_assoc]
    sl_exec!
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexact H9
    isplitl [H10]; · iexists _; iexact H10
    isplitl [H11]; · iexists _; iexact H11
    isplitl [H12]; · iexists _; iexact H12
    isplitl [H13]; · iexists _; iexact H13
    iexists _; iexact H14

end Cert.KernelIdeal.Hand
end
-- ==== Proof.KI.Out.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic
public import Idealize.ShloMosaic.Lib.ValueIdx
public import proofs.«01_k».proof.Proof.KI.Trip
public import proofs.«01_k».proof.Proof.KI.Body
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

open Idealize.ShloMosaic.ValueIdx (ix2 ix3)

/-! ## The result of one grid point, written out

The kernel walks over four tiles of 512 queries and, within a tile, over the four heads. It keeps the exponentials of one head in
one of two slots while the scores of the next are formed, across tiles too; here each tile's result is written from the
queries, keys and values alone, without the slots. -/

/-- The exponentials of a tile's scores for one head, and their sums along the keys, as they lie in a slot. -/
def eS (q : Vec F S512x128 .bf16) (K : Vec F S2048x128 .bf16) : Vec F S1x512x2048 .bf16 := k0_pay44 (k0_pay19 q K)
def lS (q : Vec F S512x128 .bf16) (K : Vec F S2048x128 .bf16) : Vec F S1x512x1 .f32 := k0_pay43 (k0_pay19 q K)

/-- A head's weighted mean of the values, from its slot; and the same added to what another head left in the tile. -/
def avS (e : Vec F S1x512x2048 .bf16) (V : Vec F S2048x128 .bf16) (l : Vec F S1x512x1 .f32) : Vec F S1x512x128 .f32 := k0_pay3 e V l
def addS (e : Vec F S1x512x2048 .bf16) (V : Vec F S2048x128 .bf16) (l : Vec F S1x512x1 .f32) (p : Vec F S1x512x128 .f32) : Vec F S1x512x128 .f32 := k0_pay8 e V l p

/-- Tile `T` of head `h`'s queries, and head `h`'s columns of the keys or of the values. -/
def Qt (Q : Vec F S2048x512 .bf16) (T h : Fin 4) : Vec F S512x128 .bf16 := fun j =>
  Q (ix2 ⟨512 * T.val + (j 0).val, by have h1 : (j 0).val < 512 := (j 0).isLt; have := T.isLt; omega⟩ ⟨128 * h.val + (j 1).val, by have h1 : (j 1).val < 128 := (j 1).isLt; have := h.isLt; omega⟩)
def Kh (K : Vec F S2048x512 .bf16) (h : Fin 4) : Vec F S2048x128 .bf16 := fun j =>
  K (ix2 (j 0) ⟨128 * h.val + (j 1).val, by have h1 : (j 1).val < 128 := (j 1).isLt; have := h.isLt; omega⟩)

/-- One head's mean in tile `T`, and a pair of heads in their shared lanes. -/
def outOne (Q K V : Vec F S2048x512 .bf16) (T h : Fin 4) : Vec F S1x512x128 .f32 := avS (eS (Qt Q T h) (Kh K h)) (Kh V h) (lS (Qt Q T h) (Kh K h))
def outPair (Q K V : Vec F S2048x512 .bf16) (T h h' : Fin 4) : Vec F S1x512x128 .f32 :=
  addS (eS (Qt Q T h') (Kh K h')) (Kh V h') (lS (Qt Q T h') (Kh K h')) (outOne Q K V T h)

/-- The result at a row and a lane, by the row's tile and the lane's pair of heads. -/
def OUT (Q K V : Vec F S2048x512 .bf16) : Vec F S1x2048x256 .f32 := fun y =>
  let T : Fin 4 := ⟨(y 1).val / 512, by have h1 : (y 1).val < 2048 := (y 1).isLt; omega⟩
  let r : Fin 512 := ⟨(y 1).val % 512, by omega⟩
  if h : (y 2).val < 128 then outPair Q K V T 0 1 (ix3 0 r ⟨(y 2).val, h⟩)
  else outPair Q K V T 2 3 (ix3 0 r ⟨(y 2).val - 128, by have h1 : (y 2).val < 256 := (y 2).isLt; omega⟩)

theorem off1_eq : ∀ k : Fin k0_t1_loop.trips, k0_off1 k = ![0, 512 * k.val, 0] := by decide +kernel
theorem off2_eq : ∀ k : Fin k0_t1_loop.trips, k0_off2 k = ![512 * k.val, 128] := by decide +kernel
theorem off3_eq : ∀ k : Fin k0_t1_loop.trips, k0_off3 k = ![512 * k.val, 256] := by decide +kernel
theorem off4_eq : ∀ k : Fin k0_t1_loop.trips, k0_off4 k = ![0, 512 * k.val, 128] := by decide +kernel
theorem off5_eq : ∀ k : Fin k0_t1_loop.trips, k0_off5 k = ![512 * k.val, 384] := by decide +kernel
theorem off6_eq : ∀ k : Fin k0_t1_loop.trips, k0_off6 k = ![512 * (k.val + 1), 0] := by decide +kernel
theorem trips_eq : k0_t1_loop.trips = 3 := by decide +kernel

section Loop

variable (arg9 : Memref sig .tc .vmem S1x2048x256 .f32) (arg10 arg11 arg12 : Memref sig .tc .vmem S2048x512 .bf16)
  (arg13 : Memref sig .tc .vmem S2x512x2048 .bf16) (arg14 : Memref sig .tc .vmem S2x512x1 .f32)
  (X10 : BufTy.Contents (Elt F) arg10.view.ty) (X11 : BufTy.Contents (Elt F) arg11.view.ty) (X12 : BufTy.Contents (Elt F) arg12.view.ty)
  (Q K V : Vec F S2048x512 .bf16)

/-- A tile read from the packed queries at offsets `(512 T, 128 h)`. -/
theorem readAt_Qt (hQ : arg10.view.read (Elt F) X10 = Q) (T h : Fin 4) (off : Fin 2 → ℕ) (inb) (ho : off = ![512 * T.val, 128 * h.val]) :
    (arg10.view.readAt (Elt F) (Rect.unit (s := S2048x512) off S512x128.size inb).toLoadRect X10 : Vec F S512x128 .bf16) = Qt Q T h := by
  subst ho hQ
  funext j
  rw [View.readAt_apply]
  unfold Qt
  congr 1
  funext a
  apply Fin.ext
  match a with
  | ⟨0, _⟩ => show 512 * T.val + 1 * (j 0).val = 512 * T.val + (j 0).val; omega
  | ⟨1, _⟩ => show 128 * h.val + 1 * (j 1).val = 128 * h.val + (j 1).val; omega

/-- A head's columns read from the packed keys or values at offsets `(0, 128 h)`. -/
theorem readAt_Kh (hK : arg11.view.read (Elt F) X11 = K) (h : Fin 4) (off : Fin 2 → ℕ) (inb) (ho : off = ![0, 128 * h.val]) :
    (arg11.view.readAt (Elt F) (Rect.unit (s := S2048x512) off S2048x128.size inb).toLoadRect X11 : Vec F S2048x128 .bf16) = Kh K h := by
  subst ho hK
  funext j
  rw [View.readAt_apply]
  unfold Kh
  congr 1
  funext a
  apply Fin.ext
  match a with
  | ⟨0, _⟩ => show 0 + 1 * (j 0).val = (j 0).val; omega
  | ⟨1, _⟩ => show 128 * h.val + 1 * (j 1).val = 128 * h.val + (j 1).val; omega

variable (G9 : BufTy.Contents (Elt F) arg9.view.ty) (G13 : BufTy.Contents (Elt F) arg13.view.ty) (G14 : BufTy.Contents (Elt F) arg14.view.ty)

/-- A slot read right after a piece was written to it. -/
theorem slot_cons {Val : EltTy → Type} [∀ e, Nonempty (Val e)] {sp : Space} {s : Shape} {e : EltTy}
    (v : View sig .tc sp s e) (f : v.ty.Contents Val) (off size : Fin s.rank → ℕ) (inb : ∀ a, off a + size a ≤ s.size a) (w : (Rect.unit off size inb).shape.Idx → Val e)
    (L : List (View.Piece Val s e)) :
    v.readAt Val (Rect.unit off size inb).toLoadRect (v.writes Val f (⟨Rect.unit off size inb, w⟩ :: L)) = w := by
  funext j
  rw [View.readAt_apply]
  exact View.read_writes_cons_unit_of_mem v _ inb w L _ j rfl (fun a => by simp)

/-- Two stores over the same tile and pair of lanes, then what lay below, read at a row outside the tile or a lane outside the pair. -/
theorem read_pair_of_not_mem (off : Fin 3 → ℕ) (inb) (w w' : Vec F S1x512x128 .f32) (L : List (View.Piece (Elt F) S1x2048x256 .f32)) (y : S1x2048x256.Idx)
    (a : Fin 3) (ha : (y a).val < off a ∨ off a + S1x512x128.size a ≤ (y a).val) :
    arg9.view.read (Elt F) (arg9.view.writes (Elt F) G9 (⟨Rect.unit (s := S1x2048x256) off S1x512x128.size inb, w⟩ :: ⟨Rect.unit (s := S1x2048x256) off S1x512x128.size inb, w'⟩ :: L)) y
      = arg9.view.read (Elt F) (arg9.view.writes (Elt F) G9 L) y := by
  rw [View.read_writes_cons_unit_of_not_mem arg9.view G9 inb w _ y rfl a ha, View.read_writes_cons_unit_of_not_mem arg9.view G9 inb w' _ y rfl a ha]

/-- The four stores of tile `T` read at one of its rows. -/
theorem read_tile (T : Fin 4) (off off' : Fin 3 → ℕ) (inb inb') (ho : off = ![0, 512 * T.val, 0]) (ho' : off' = ![0, 512 * T.val, 128])
    (wD wC wB wA : Vec F S1x512x128 .f32) (hD : wD = outPair Q K V T 2 3) (hB : wB = outPair Q K V T 0 1)
    (L : List (View.Piece (Elt F) S1x2048x256 .f32)) (y : S1x2048x256.Idx) (hy : 512 * T.val ≤ (y 1).val ∧ (y 1).val < 512 * T.val + 512) :
    arg9.view.read (Elt F) (arg9.view.writes (Elt F) G9 (⟨Rect.unit (s := S1x2048x256) off' S1x512x128.size inb', wD⟩ :: ⟨Rect.unit (s := S1x2048x256) off' S1x512x128.size inb', wC⟩
        :: ⟨Rect.unit (s := S1x2048x256) off S1x512x128.size inb, wB⟩ :: ⟨Rect.unit (s := S1x2048x256) off S1x512x128.size inb, wA⟩ :: L)) y
      = OUT Q K V y := by
  have h0 : (y 0).val < 1 := (y 0).isLt
  have h2 : (y 2).val < 256 := (y 2).isLt
  have hT : (⟨(y 1).val / 512, by have h1 : (y 1).val < 2048 := (y 1).isLt; omega⟩ : Fin 4) = T := Fin.ext (by show (y 1).val / 512 = T.val; omega)
  subst hD hB
  by_cases h : (y 2).val < 128
  · rw [read_pair_of_not_mem arg9 G9 off' inb' _ _ _ y 2 (Or.inl (by rw [ho']; exact h))]
    rw [View.read_writes_cons_unit_of_mem arg9.view G9 inb _ _ y (ix3 0 ⟨(y 1).val % 512, by omega⟩ ⟨(y 2).val, h⟩) ho (fun a => by
      match a with
      | ⟨0, _⟩ => show (y 0).val = 0 + 0; omega
      | ⟨1, _⟩ => show (y 1).val = 512 * T.val + (y 1).val % 512; omega
      | ⟨2, _⟩ => show (y 2).val = 0 + (y 2).val; omega)]
    unfold OUT
    dsimp only
    rw [dif_pos h, hT]
  · rw [View.read_writes_cons_unit_of_mem arg9.view G9 inb' _ _ y (ix3 0 ⟨(y 1).val % 512, by omega⟩ ⟨(y 2).val - 128, by omega⟩) ho' (fun a => by
      match a with
      | ⟨0, _⟩ => show (y 0).val = 0 + 0; omega
      | ⟨1, _⟩ => show (y 1).val = 512 * T.val + (y 1).val % 512; omega
      | ⟨2, _⟩ => show (y 2).val = 128 + ((y 2).val - 128); omega)]
    unfold OUT
    dsimp only
    rw [dif_neg h, hT]

/-- A row outside tile `T` reads what lay below the tile's four stores. -/
theorem read_tile_of_not_mem (T : Fin 4) (off off' : Fin 3 → ℕ) (inb inb') (ho : off = ![0, 512 * T.val, 0]) (ho' : off' = ![0, 512 * T.val, 128])
    (wD wC wB wA : Vec F S1x512x128 .f32)
    (L : List (View.Piece (Elt F) S1x2048x256 .f32)) (y : S1x2048x256.Idx) (hy : (y 1).val < 512 * T.val) :
    arg9.view.read (Elt F) (arg9.view.writes (Elt F) G9 (⟨Rect.unit (s := S1x2048x256) off' S1x512x128.size inb', wD⟩ :: ⟨Rect.unit (s := S1x2048x256) off' S1x512x128.size inb', wC⟩
        :: ⟨Rect.unit (s := S1x2048x256) off S1x512x128.size inb, wB⟩ :: ⟨Rect.unit (s := S1x2048x256) off S1x512x128.size inb, wA⟩ :: L)) y
      = arg9.view.read (Elt F) (arg9.view.writes (Elt F) G9 L) y := by
  rw [read_pair_of_not_mem arg9 G9 off' inb' _ _ _ y 1 (Or.inl (by rw [ho']; exact hy)),
    read_pair_of_not_mem arg9 G9 off inb _ _ _ y 1 (Or.inl (by rw [ho]; exact hy))]

/-- What the loop has left after `k` trips: the tiles below `k`, and in the first slot (whatever lay below the
    first tile's exponentials) the exponentials and sums of tile `k`'s head 0. -/
theorem pb_spec (𝒱 : Variants) (c : Dev nD) (bd : Option 𝒱.V) (i : grid0.Coords) (arg1 : Memref sig .tc .vmem S1x2048x384 .f32) (harg1 : arg1.IsWhole) (arg2 : Memref sig .tc .vmem S1x2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S256x512 .bf16) (harg7 : arg7.IsWhole) (arg8 : Memref sig .tc .vmem S128x1024 .bf16) (harg8 : arg8.IsWhole)
    (harg9 : arg9.IsWhole) (harg10 : arg10.IsWhole) (harg11 : arg11.IsWhole) (harg12 : arg12.IsWhole) (harg13 : arg13.IsWhole) (harg14 : arg14.IsWhole) (v179 : FVec F S512x2048 .bf16)
    (hQ : arg10.view.read (Elt F) X10 = Q) (hK : arg11.view.read (Elt F) X11 = K) (hV : arg12.view.read (Elt F) X12 = V)
    (h13 : eSlot0 arg13 G13 = eS (Qt Q 0 0) (Kh K 0)) (h14 : lSlot0 arg14 G14 = lS (Qt Q 0 0) (Kh K 0)) (k : ℕ) (hk : k ≤ 3) :
    (∀ y : S1x2048x256.Idx, (y 1).val < 512 * k → arg9.view.read (Elt F) (arg9.view.writes (Elt F) G9 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v179 X10 X11 X12 G9 G13 G14 k).1) y = OUT Q K V y)
    ∧ (∀ B13 : BufTy.Contents (Elt F) arg13.view.ty, eSlot0 arg13 B13 = eS (Qt Q 0 0) (Kh K 0) →
        eSlot0 arg13 (arg13.view.writes (Elt F) B13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v179 X10 X11 X12 G9 G13 G14 k).2.1) = eS (Qt Q ⟨k, by omega⟩ 0) (Kh K 0))
    ∧ (∀ B14 : BufTy.Contents (Elt F) arg14.view.ty, lSlot0 arg14 B14 = lS (Qt Q 0 0) (Kh K 0) →
        lSlot0 arg14 (arg14.view.writes (Elt F) B14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v179 X10 X11 X12 G9 G13 G14 k).2.2) = lS (Qt Q ⟨k, by omega⟩ 0) (Kh K 0)) := by
  induction k with
  | zero => exact ⟨fun y hy => absurd hy (by omega), fun _ h => h, fun _ h => h⟩
  | succ k ih =>
    obtain ⟨ih1, ih2', ih3'⟩ := ih (by omega)
    have ih2 := ih2' G13 h13
    have ih3 := ih3' G14 h14
    have hkt : k < k0_t1_loop.trips := by rw [trips_eq]; omega
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v179 X10 X11 X12 G9 G13 G14 ⟨k, hkt⟩
    rw [tripL_eq] at hs
    have q1 := readAt_Qt arg10 X10 Q hQ ⟨k, by omega⟩ 1 (k0_off2 ⟨k, hkt⟩) (k0_off2_inb ⟨k, hkt⟩) (off2_eq _)
    have q2 := readAt_Qt arg10 X10 Q hQ ⟨k, by omega⟩ 2 (k0_off3 ⟨k, hkt⟩) (k0_off3_inb ⟨k, hkt⟩) (off3_eq _)
    have q3 := readAt_Qt arg10 X10 Q hQ ⟨k, by omega⟩ 3 (k0_off5 ⟨k, hkt⟩) (k0_off5_inb ⟨k, hkt⟩) (off5_eq _)
    have q4 := readAt_Qt arg10 X10 Q hQ ⟨k + 1, by omega⟩ 0 (k0_off6 ⟨k, hkt⟩) (k0_off6_inb ⟨k, hkt⟩) (off6_eq _)
    have k0 := readAt_Kh arg11 X11 K hK 0 ![0, 0] inb_S2048x512_S2048x128_0_0 rfl
    have k1 := readAt_Kh arg11 X11 K hK 1 ![0, 128] inb_S2048x512_S2048x128_0_128 rfl
    have k2 := readAt_Kh arg11 X11 K hK 2 ![0, 256] inb_S2048x512_S2048x128_0_256 rfl
    have k3 := readAt_Kh arg11 X11 K hK 3 ![0, 384] inb_S2048x512_S2048x128_0_384 rfl
    have v0 := readAt_Kh arg12 X12 V hV 0 ![0, 0] inb_S2048x512_S2048x128_0_0 rfl
    have v1 := readAt_Kh arg12 X12 V hV 1 ![0, 128] inb_S2048x512_S2048x128_0_128 rfl
    have v2 := readAt_Kh arg12 X12 V hV 2 ![0, 256] inb_S2048x512_S2048x128_0_256 rfl
    have v3 := readAt_Kh arg12 X12 V hV 3 ![0, 384] inb_S2048x512_S2048x128_0_384 rfl
    unfold eSlot0 at ih2
    unfold lSlot0 at ih3
    unfold tD tC tB tA qT1 qT2 qT3 qT4 col0 col1 col2 col3 eSlot0 lSlot0 at hs
    rw [q1, q2, q3, q4, k0, k1, k2, k3, v0, v1, v2, v3, ih2, ih3] at hs
    rw [show (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 v179 X10 X11 X12 G9 G13 G14 (k + 1)) = _ from hs]
    refine ⟨fun y hy => ?_, ?_, ?_⟩
    · by_cases hlt : (y 1).val < 512 * k
      · exact (read_tile_of_not_mem arg9 G9 ⟨k, by omega⟩ _ _ _ _ (off1_eq _) (off4_eq _) _ _ _ _ _ y hlt).trans (ih1 y hlt)
      · exact read_tile arg9 Q K V G9 ⟨k, by omega⟩ _ _ _ _ (off1_eq _) (off4_eq _) _ _ _ _ rfl rfl _ y ⟨Nat.le_of_not_lt hlt, by show _ < 512 * k + 512; omega⟩
    · exact fun B _ => slot_cons arg13.view B _ _ _ _ _
    · exact fun B _ => slot_cons arg14.view B _ _ _ _ _

end Loop

end Cert.KernelIdeal.Hand
end
-- ==== Proof.KI.Last.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic
public import Idealize.ShloMosaic.Lib.ValueIdx
public import proofs.«01_k».proof.Proof.KI.Out
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

open Idealize.ShloMosaic.ValueIdx (ix2 ix3)

/-! ## The whole body: queries, keys and values from the blocks, and the result they give -/

/-- Four heads' columns side by side. -/
def packed (p : Fin 4 → Vec F S2048x128 .bf16) : Vec F S2048x512 .bf16 := fun y =>
  p ⟨(y 1).val / 128, by have h1 : (y 1).val < 512 := (y 1).isLt; omega⟩ (ix2 (y 0) ⟨(y 1).val % 128, by omega⟩)

/-- The normalised latents of the queries and of the keys and values, and the rotated shared key lanes. -/
def cqB (x1 : Vec F S1x2048x384 .f32) (x5 : Vec F S1x256 .f32) : FVec F S2048x256 .bf16 :=
  k0_pay22 (View.ld x1 (Rect.unit (s := S1x2048x384) ![0, 0, 0] S1x2048x256.size inb_S1x2048x384_S1x2048x256_0_0_0)) x5
def ckvB (x1 : Vec F S1x2048x384 .f32) (x6 : Vec F S1x128 .f32) : FVec F S2048x128 .bf16 :=
  k0_pay23 (View.ld x1 (Rect.unit (s := S1x2048x384) ![0, 0, 256] S1x2048x128.size inb_S1x2048x384_S1x2048x128_0_0_256)) x6
def krB (x2 : Vec F S1x2048x128 .f32) (x3 x4 : Vec F S2048x128 .f32) : FVec F S2048x128 .f32 :=
  k0_pay24 (k0_pay20 x3) (k0_pay21 x4) (iota Kind.tc S1x128 32 [1] iota_S1x128_d1_w32) x2

/-- One head's columns of the two weight blocks: of the queries', of the keys' and of the values'. -/
def wqH (x7 : Vec F S256x512 .bf16) (h : Fin 4) : Vec F S256x128 .bf16 := fun j =>
  x7 (ix2 (j 0) ⟨128 * h.val + (j 1).val, by have h1 : (j 1).val < 128 := (j 1).isLt; have := h.isLt; omega⟩)
def wkH (x8 : Vec F S128x1024 .bf16) (h : Fin 4) : Vec F S128x128 .bf16 := fun j =>
  x8 (ix2 (j 0) ⟨128 * h.val + (j 1).val, by have h1 : (j 1).val < 128 := (j 1).isLt; have := h.isLt; omega⟩)
def wvH (x8 : Vec F S128x1024 .bf16) (h : Fin 4) : Vec F S128x128 .bf16 := fun j =>
  x8 (ix2 (j 0) ⟨512 + 128 * h.val + (j 1).val, by have h1 : (j 1).val < 128 := (j 1).isLt; have := h.isLt; omega⟩)

/-- One head's queries, keys and values. -/
def qB (x1 : Vec F S1x2048x384 .f32) (x3 x4 : Vec F S2048x128 .f32) (x5 : Vec F S1x256 .f32) (x7 : Vec F S256x512 .bf16) (h : Fin 4) : Vec F S2048x128 .bf16 :=
  k0_pay25 (k0_pay20 x3) (k0_pay21 x4) (cqB x1 x5) (wqH x7 h)
def kB (x1 : Vec F S1x2048x384 .f32) (x2 : Vec F S1x2048x128 .f32) (x3 x4 : Vec F S2048x128 .f32) (x6 : Vec F S1x128 .f32) (x8 : Vec F S128x1024 .bf16) (h : Fin 4) : Vec F S2048x128 .bf16 :=
  k0_pay29 (ckvB x1 x6) (krB x2 x3 x4) (wkH x8 h)
def vB (x1 : Vec F S1x2048x384 .f32) (x6 : Vec F S1x128 .f32) (x8 : Vec F S128x1024 .bf16) (h : Fin 4) : Vec F S2048x128 .bf16 :=
  k0_pay27 (ckvB x1 x6) (wvH x8 h)

/-- The result block from the eight blocks read. -/
def outB (x1 : Vec F S1x2048x384 .f32) (x2 : Vec F S1x2048x128 .f32) (x3 : Vec F S2048x128 .f32) (x4 : Vec F S2048x128 .f32) (x5 : Vec F S1x256 .f32) (x6 : Vec F S1x128 .f32) (x7 : Vec F S256x512 .bf16) (x8 : Vec F S128x1024 .bf16) : Vec F S1x2048x256 .f32 :=
  OUT (packed (qB x1 x3 x4 x5 x7)) (packed (kB x1 x2 x3 x4 x6 x8)) (packed (vB x1 x6 x8))

section Cols

variable (arg10 : Memref sig .tc .vmem S2048x512 .bf16)

/-- Four stores of whole heads leave the four heads side by side. -/
theorem read_cols (f : BufTy.Contents (Elt F) arg10.view.ty) (p0 p1 p2 p3 : Vec F S2048x128 .bf16) (p : Fin 4 → Vec F S2048x128 .bf16)
    (h0 : p0 = p 0) (h1 : p1 = p 1) (h2 : p2 = p 2) (h3 : p3 = p 3) :
    arg10.view.read (Elt F) (arg10.view.writes (Elt F) f [⟨Rect.unit (s := S2048x512) ![0, 384] S2048x128.size inb_S2048x512_S2048x128_0_384, p3⟩, ⟨Rect.unit (s := S2048x512) ![0, 256] S2048x128.size inb_S2048x512_S2048x128_0_256, p2⟩, ⟨Rect.unit (s := S2048x512) ![0, 128] S2048x128.size inb_S2048x512_S2048x128_0_128, p1⟩, ⟨Rect.unit (s := S2048x512) ![0, 0] S2048x128.size inb_S2048x512_S2048x128_0_0, p0⟩])
      = packed p := by
  subst h0 h1 h2 h3
  funext y
  have hy : (y 1).val < 512 := (y 1).isLt
  have key : ∀ (h : Fin 4) (hh : (y 1).val / 128 = h.val), packed p y = p h (ix2 (y 0) ⟨(y 1).val % 128, by omega⟩) := by
    intro h hh
    unfold packed
    rw [show (⟨(y 1).val / 128, by omega⟩ : Fin 4) = h from Fin.ext hh]
  have mem : ∀ (o : ℕ) (inb) (w : Vec F S2048x128 .bf16) (L : List (View.Piece (Elt F) S2048x512 .bf16)), o ≤ (y 1).val → (y 1).val < o + 128 → o = 128 * ((y 1).val / 128) →
      arg10.view.read (Elt F) (arg10.view.writes (Elt F) f (⟨Rect.unit (s := S2048x512) ![0, o] S2048x128.size inb, w⟩ :: L)) y = w (ix2 (y 0) ⟨(y 1).val % 128, by omega⟩) := by
    intro o inb w L ha hb hc
    exact View.read_writes_cons_unit_of_mem arg10.view f inb w L y (ix2 (y 0) ⟨(y 1).val % 128, by omega⟩) rfl (fun a => by
      match a with
      | ⟨0, _⟩ => show (y 0).val = 0 + (y 0).val; omega
      | ⟨1, _⟩ => show (y 1).val = o + (y 1).val % 128; omega)
  have nmem : ∀ (o : ℕ) (inb) (w : Vec F S2048x128 .bf16) (L : List (View.Piece (Elt F) S2048x512 .bf16)), (y 1).val < o →
      arg10.view.read (Elt F) (arg10.view.writes (Elt F) f (⟨Rect.unit (s := S2048x512) ![0, o] S2048x128.size inb, w⟩ :: L)) y = arg10.view.read (Elt F) (arg10.view.writes (Elt F) f L) y := by
    intro o inb w L ha
    exact View.read_writes_cons_unit_of_not_mem arg10.view f inb w L y rfl 1 (Or.inl ha)
  by_cases c3 : 384 ≤ (y 1).val
  · rw [mem _ _ _ _ c3 (by omega) (by omega)]; exact (key 3 (by show _ = 3; omega)).symm
  rw [nmem _ _ _ _ (by omega)]
  by_cases c2 : 256 ≤ (y 1).val
  · rw [mem _ _ _ _ c2 (by omega) (by omega)]; exact (key 2 (by show _ = 2; omega)).symm
  rw [nmem _ _ _ _ (by omega)]
  by_cases c1 : 128 ≤ (y 1).val
  · rw [mem _ _ _ _ c1 (by omega) (by omega)]; exact (key 1 (by show _ = 1; omega)).symm
  rw [nmem _ _ _ _ (by omega)]
  rw [mem 0 _ _ _ (by omega) (by omega) (by omega)]; exact (key 0 (by show _ = 0; omega)).symm

end Cols

section Blocks

variable {sp : Space} {s : Shape} {e : EltTy}

/-- A load from a buffer that holds a block is the block under the load's rectangle; a load of all of it is the block. -/
theorem readAt_unread (a : Memref sig .tc sp s e) (ha : a.IsWhole) (x : s.Idx → Elt F e) (r : Rect s) :
    a.view.readAt (Elt F) r.toLoadRect (ha.unread x) = View.ld x r := by
  rw [View.readAt_eq_ld, ha.read_unread]

end Blocks

/-- A rectangle of a matrix that takes every row and 128 columns from `o`. -/
theorem ld_cols {α : EltTy → Type} {e : EltTy} {n m : ℕ} (x : (⟨2, ![n, m]⟩ : Shape).Idx → α e) (o : ℕ) (inb : ∀ a, (![0, o] : Fin 2 → ℕ) a + (![n, 128] : Fin 2 → ℕ) a ≤ (![n, m] : Fin 2 → ℕ) a)
    (y : (⟨2, ![n, 128]⟩ : Shape).Idx) :
    View.ld (Val := α) (e' := e) x (Rect.unit (s := ⟨2, ![n, m]⟩) ![0, o] ![n, 128] inb) y = x (ix2 (y 0) ⟨o + (y 1).val, by
      have h1 : (y 1).val < 128 := (y 1).isLt
      have h2 : o + 128 ≤ m := inb 1
      omega⟩) := by
  show x _ = x _
  congr 1
  funext a
  apply Fin.ext
  match a with
  | ⟨0, _⟩ => show 0 + 1 * (y 0).val = (y 0).val; omega
  | ⟨1, _⟩ => show o + 1 * (y 1).val = o + (y 1).val; omega

/-- A rectangle that takes all of an array. -/
theorem ld_whole {α : EltTy → Type} {s : Shape} {e : EltTy} (x : s.Idx → α e) (off : Fin s.rank → ℕ) (inb : ∀ a, off a + s.size a ≤ s.size a) :
    View.ld (Val := α) (e' := e) x (Rect.unit (s := s) off s.size inb) = x := by
  funext y
  show x _ = x _
  congr 1
  funext a
  apply Fin.ext
  show off a + 1 * (y a).val = (y a).val
  have := inb a
  omega

section Whole

variable (c : Dev nD) (i : grid0.Coords) (arg1 : Memref sig .tc .vmem S1x2048x384 .f32) (harg1 : arg1.IsWhole) (arg2 : Memref sig .tc .vmem S1x2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S256x512 .bf16) (harg7 : arg7.IsWhole) (arg8 : Memref sig .tc .vmem S128x1024 .bf16) (harg8 : arg8.IsWhole) (arg9 : Memref sig .tc .vmem S1x2048x256 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S2x512x2048 .bf16) (harg13 : arg13.IsWhole) (arg14 : Memref sig .tc .vmem S2x512x1 .f32) (harg14 : arg14.IsWhole) (x1 : Vec F S1x2048x384 .f32) (x2 : Vec F S1x2048x128 .f32) (x3 : Vec F S2048x128 .f32) (x4 : Vec F S2048x128 .f32) (x5 : Vec F S1x256 .f32) (x6 : Vec F S1x128 .f32) (x7 : Vec F S256x512 .bf16) (x8 : Vec F S128x1024 .bf16)

set_option maxHeartbeats 1000000 in
/-- The queries' scratch after the four stores of whole heads. -/
theorem read_H10 (f : BufTy.Contents (Elt F) arg10.view.ty) : arg10.view.read (Elt F) (arg10.view.writes (Elt F) f (kernelRun.sl.H10_4 c arg1 harg1 arg3 harg3 arg4 harg4 arg5 harg5 arg7 harg7 x1 x3 x4 x5 x7)) = packed (qB x1 x3 x4 x5 x7) := by
  unfold kernelRun.sl.H10_4
  have e3 : arg3.view.readAt (Elt F) (Rect.unit (s := S2048x128) ![0, 0] S2048x128.size inb_S2048x128_S2048x128_0_0).toLoadRect (harg3.unread x3) = x3 := (readAt_unread arg3 harg3 x3 _).trans (ld_whole x3 _ _)
  have e4 : arg4.view.readAt (Elt F) (Rect.unit (s := S2048x128) ![0, 0] S2048x128.size inb_S2048x128_S2048x128_0_0).toLoadRect (harg4.unread x4) = x4 := (readAt_unread arg4 harg4 x4 _).trans (ld_whole x4 _ _)
  have e5 : arg5.view.readAt (Elt F) (Rect.unit (s := S1x256) ![0, 0] S1x256.size inb_S1x256_S1x256_0_0).toLoadRect (harg5.unread x5) = x5 := (readAt_unread arg5 harg5 x5 _).trans (ld_whole x5 _ _)
  have e1 := readAt_unread arg1 harg1 x1 (Rect.unit (s := S1x2048x384) ![0, 0, 0] S1x2048x256.size inb_S1x2048x384_S1x2048x256_0_0_0)
  have w0 : arg7.view.readAt (Elt F) (Rect.unit (s := S256x512) ![0, 0] S256x128.size inb_S256x512_S256x128_0_0).toLoadRect (harg7.unread x7) = wqH x7 0 := (readAt_unread arg7 harg7 x7 _).trans (funext fun y => (ld_cols x7 0 _ y).trans (by unfold wqH; congr 1))
  have w1 : arg7.view.readAt (Elt F) (Rect.unit (s := S256x512) ![0, 128] S256x128.size inb_S256x512_S256x128_0_128).toLoadRect (harg7.unread x7) = wqH x7 1 := (readAt_unread arg7 harg7 x7 _).trans (funext fun y => (ld_cols x7 128 _ y).trans (by unfold wqH; congr 1))
  have w2 : arg7.view.readAt (Elt F) (Rect.unit (s := S256x512) ![0, 256] S256x128.size inb_S256x512_S256x128_0_256).toLoadRect (harg7.unread x7) = wqH x7 2 := (readAt_unread arg7 harg7 x7 _).trans (funext fun y => (ld_cols x7 256 _ y).trans (by unfold wqH; congr 1))
  have w3 : arg7.view.readAt (Elt F) (Rect.unit (s := S256x512) ![0, 384] S256x128.size inb_S256x512_S256x128_0_384).toLoadRect (harg7.unread x7) = wqH x7 3 := (readAt_unread arg7 harg7 x7 _).trans (funext fun y => (ld_cols x7 384 _ y).trans (by unfold wqH; congr 1))
  rw [e3, e4, e5, e1, w0, w1, w2, w3]
  exact read_cols arg10 f _ _ _ _ _ rfl rfl rfl rfl

set_option maxHeartbeats 1000000 in
/-- The keys' scratch after the four stores of whole heads. -/
theorem read_H11 (f : BufTy.Contents (Elt F) arg11.view.ty) : arg11.view.read (Elt F) (arg11.view.writes (Elt F) f (kernelRun.sl.H11_4 c arg1 harg1 arg2 harg2 arg3 harg3 arg4 harg4 arg6 harg6 arg8 harg8 x1 x2 x3 x4 x6 x8)) = packed (kB x1 x2 x3 x4 x6 x8) := by
  unfold kernelRun.sl.H11_4
  have e2 : arg2.view.readAt (Elt F) (Rect.unit (s := S1x2048x128) ![0, 0, 0] S1x2048x128.size inb_S1x2048x128_S1x2048x128_0_0_0).toLoadRect (harg2.unread x2) = x2 := (readAt_unread arg2 harg2 x2 _).trans (ld_whole x2 _ _)
  have e3 : arg3.view.readAt (Elt F) (Rect.unit (s := S2048x128) ![0, 0] S2048x128.size inb_S2048x128_S2048x128_0_0).toLoadRect (harg3.unread x3) = x3 := (readAt_unread arg3 harg3 x3 _).trans (ld_whole x3 _ _)
  have e4 : arg4.view.readAt (Elt F) (Rect.unit (s := S2048x128) ![0, 0] S2048x128.size inb_S2048x128_S2048x128_0_0).toLoadRect (harg4.unread x4) = x4 := (readAt_unread arg4 harg4 x4 _).trans (ld_whole x4 _ _)
  have e6 : arg6.view.readAt (Elt F) (Rect.unit (s := S1x128) ![0, 0] S1x128.size inb_S1x128_S1x128_0_0).toLoadRect (harg6.unread x6) = x6 := (readAt_unread arg6 harg6 x6 _).trans (ld_whole x6 _ _)
  have e1 := readAt_unread arg1 harg1 x1 (Rect.unit (s := S1x2048x384) ![0, 0, 256] S1x2048x128.size inb_S1x2048x384_S1x2048x128_0_0_256)
  have w0 : arg8.view.readAt (Elt F) (Rect.unit (s := S128x1024) ![0, 0] S128x128.size inb_S128x1024_S128x128_0_0).toLoadRect (harg8.unread x8) = wkH x8 0 := (readAt_unread arg8 harg8 x8 _).trans (funext fun y => (ld_cols x8 0 _ y).trans (by unfold wkH; congr 1))
  have w1 : arg8.view.readAt (Elt F) (Rect.unit (s := S128x1024) ![0, 128] S128x128.size inb_S128x1024_S128x128_0_128).toLoadRect (harg8.unread x8) = wkH x8 1 := (readAt_unread arg8 harg8 x8 _).trans (funext fun y => (ld_cols x8 128 _ y).trans (by unfold wkH; congr 1))
  have w2 : arg8.view.readAt (Elt F) (Rect.unit (s := S128x1024) ![0, 256] S128x128.size inb_S128x1024_S128x128_0_256).toLoadRect (harg8.unread x8) = wkH x8 2 := (readAt_unread arg8 harg8 x8 _).trans (funext fun y => (ld_cols x8 256 _ y).trans (by unfold wkH; congr 1))
  have w3 : arg8.view.readAt (Elt F) (Rect.unit (s := S128x1024) ![0, 384] S128x128.size inb_S128x1024_S128x128_0_384).toLoadRect (harg8.unread x8) = wkH x8 3 := (readAt_unread arg8 harg8 x8 _).trans (funext fun y => (ld_cols x8 384 _ y).trans (by unfold wkH; congr 1))
  rw [e2, e3, e4, e6, e1, w0, w1, w2, w3]
  exact read_cols arg11 f _ _ _ _ _ rfl rfl rfl rfl

set_option maxHeartbeats 1000000 in
/-- The values' scratch after the four stores of whole heads. -/
theorem read_H12 (f : BufTy.Contents (Elt F) arg12.view.ty) : arg12.view.read (Elt F) (arg12.view.writes (Elt F) f (kernelRun.sl.H12_4 c arg1 harg1 arg6 harg6 arg8 harg8 x1 x6 x8)) = packed (vB x1 x6 x8) := by
  unfold kernelRun.sl.H12_4
  have e6 : arg6.view.readAt (Elt F) (Rect.unit (s := S1x128) ![0, 0] S1x128.size inb_S1x128_S1x128_0_0).toLoadRect (harg6.unread x6) = x6 := (readAt_unread arg6 harg6 x6 _).trans (ld_whole x6 _ _)
  have e1 := readAt_unread arg1 harg1 x1 (Rect.unit (s := S1x2048x384) ![0, 0, 256] S1x2048x128.size inb_S1x2048x384_S1x2048x128_0_0_256)
  have w0 : arg8.view.readAt (Elt F) (Rect.unit (s := S128x1024) ![0, 512] S128x128.size inb_S128x1024_S128x128_0_512).toLoadRect (harg8.unread x8) = wvH x8 0 := (readAt_unread arg8 harg8 x8 _).trans (funext fun y => (ld_cols x8 512 _ y).trans (by unfold wvH; congr 1))
  have w1 : arg8.view.readAt (Elt F) (Rect.unit (s := S128x1024) ![0, 640] S128x128.size inb_S128x1024_S128x128_0_640).toLoadRect (harg8.unread x8) = wvH x8 1 := (readAt_unread arg8 harg8 x8 _).trans (funext fun y => (ld_cols x8 640 _ y).trans (by unfold wvH; congr 1))
  have w2 : arg8.view.readAt (Elt F) (Rect.unit (s := S128x1024) ![0, 768] S128x128.size inb_S128x1024_S128x128_0_768).toLoadRect (harg8.unread x8) = wvH x8 2 := (readAt_unread arg8 harg8 x8 _).trans (funext fun y => (ld_cols x8 768 _ y).trans (by unfold wvH; congr 1))
  have w3 : arg8.view.readAt (Elt F) (Rect.unit (s := S128x1024) ![0, 896] S128x128.size inb_S128x1024_S128x128_0_896).toLoadRect (harg8.unread x8) = wvH x8 3 := (readAt_unread arg8 harg8 x8 _).trans (funext fun y => (ld_cols x8 896 _ y).trans (by unfold wvH; congr 1))
  rw [e6, e1, w0, w1, w2, w3]
  exact read_cols arg12 f _ _ _ _ _ rfl rfl rfl rfl

set_option maxHeartbeats 4000000 in
/-- What the body leaves in the result block is `outB` of the blocks it read, whatever the result and the slots held before. -/
theorem read_kernelRun (f9 : BufTy.Contents (Elt F) arg9.view.ty) (f13 : BufTy.Contents (Elt F) arg13.view.ty) (f14 : BufTy.Contents (Elt F) arg14.view.ty) :
    arg9.view.read (Elt F) ((kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 x8).1 f9 f13 f14) = outB x1 x2 x3 x4 x5 x6 x7 x8 := by
  have hQ := read_H10 c arg1 harg1 arg3 harg3 arg4 harg4 arg5 harg5 arg7 harg7 arg10 x1 x3 x4 x5 x7 arg10.view.junk
  have hK := read_H11 c arg1 harg1 arg2 harg2 arg3 harg3 arg4 harg4 arg6 harg6 arg8 harg8 arg11 x1 x2 x3 x4 x6 x8 arg11.view.junk
  have hV := read_H12 c arg1 harg1 arg6 harg6 arg8 harg8 arg12 x1 x6 x8 arg12.view.junk
  have v0 : arg12.view.readCov (kernelRun.sl.H12_4 c arg1 harg1 arg6 harg6 arg8 harg8 x1 x6 x8) (Rect.unit (s := S2048x512) ![0, 0] ![2048, 128] inb_S2048x512_S2048x128_0_0).toLoadRect = _ := readAt_Kh arg12 _ _ hV 0 ![0, 0] inb_S2048x512_S2048x128_0_0 rfl
  have v1 : arg12.view.readCov (kernelRun.sl.H12_4 c arg1 harg1 arg6 harg6 arg8 harg8 x1 x6 x8) (Rect.unit (s := S2048x512) ![0, 128] ![2048, 128] inb_S2048x512_S2048x128_0_128).toLoadRect = _ := readAt_Kh arg12 _ _ hV 1 ![0, 128] inb_S2048x512_S2048x128_0_128 rfl
  have v2 : arg12.view.readCov (kernelRun.sl.H12_4 c arg1 harg1 arg6 harg6 arg8 harg8 x1 x6 x8) (Rect.unit (s := S2048x512) ![0, 256] ![2048, 128] inb_S2048x512_S2048x128_0_256).toLoadRect = _ := readAt_Kh arg12 _ _ hV 2 ![0, 256] inb_S2048x512_S2048x128_0_256 rfl
  have v3 : arg12.view.readCov (kernelRun.sl.H12_4 c arg1 harg1 arg6 harg6 arg8 harg8 x1 x6 x8) (Rect.unit (s := S2048x512) ![0, 384] ![2048, 128] inb_S2048x512_S2048x128_0_384).toLoadRect = _ := readAt_Kh arg12 _ _ hV 3 ![0, 384] inb_S2048x512_S2048x128_0_384 rfl
  have k0 : arg11.view.readCov (kernelRun.sl.H11_4 c arg1 harg1 arg2 harg2 arg3 harg3 arg4 harg4 arg6 harg6 arg8 harg8 x1 x2 x3 x4 x6 x8) (Rect.unit (s := S2048x512) ![0, 0] ![2048, 128] inb_S2048x512_S2048x128_0_0).toLoadRect = _ := readAt_Kh arg11 _ _ hK 0 ![0, 0] inb_S2048x512_S2048x128_0_0 rfl
  have k1 : arg11.view.readCov (kernelRun.sl.H11_4 c arg1 harg1 arg2 harg2 arg3 harg3 arg4 harg4 arg6 harg6 arg8 harg8 x1 x2 x3 x4 x6 x8) (Rect.unit (s := S2048x512) ![0, 128] ![2048, 128] inb_S2048x512_S2048x128_0_128).toLoadRect = _ := readAt_Kh arg11 _ _ hK 1 ![0, 128] inb_S2048x512_S2048x128_0_128 rfl
  have k2 : arg11.view.readCov (kernelRun.sl.H11_4 c arg1 harg1 arg2 harg2 arg3 harg3 arg4 harg4 arg6 harg6 arg8 harg8 x1 x2 x3 x4 x6 x8) (Rect.unit (s := S2048x512) ![0, 256] ![2048, 128] inb_S2048x512_S2048x128_0_256).toLoadRect = _ := readAt_Kh arg11 _ _ hK 2 ![0, 256] inb_S2048x512_S2048x128_0_256 rfl
  have k3 : arg11.view.readCov (kernelRun.sl.H11_4 c arg1 harg1 arg2 harg2 arg3 harg3 arg4 harg4 arg6 harg6 arg8 harg8 x1 x2 x3 x4 x6 x8) (Rect.unit (s := S2048x512) ![0, 384] ![2048, 128] inb_S2048x512_S2048x128_0_384).toLoadRect = _ := readAt_Kh arg11 _ _ hK 3 ![0, 384] inb_S2048x512_S2048x128_0_384 rfl
  have q0 : arg10.view.readCov (kernelRun.sl.H10_4 c arg1 harg1 arg3 harg3 arg4 harg4 arg5 harg5 arg7 harg7 x1 x3 x4 x5 x7) (Rect.unit (s := S2048x512) ![0, 0] ![512, 128] inb_S2048x512_S512x128_0_0).toLoadRect = _ := readAt_Qt arg10 _ _ hQ 0 0 ![0, 0] inb_S2048x512_S512x128_0_0 rfl
  have q1 : arg10.view.readCov (kernelRun.sl.H10_4 c arg1 harg1 arg3 harg3 arg4 harg4 arg5 harg5 arg7 harg7 x1 x3 x4 x5 x7) (Rect.unit (s := S2048x512) ![1536, 128] ![512, 128] inb_S2048x512_S512x128_1536_128).toLoadRect = _ := readAt_Qt arg10 _ _ hQ 3 1 ![1536, 128] inb_S2048x512_S512x128_1536_128 rfl
  have q2 : arg10.view.readCov (kernelRun.sl.H10_4 c arg1 harg1 arg3 harg3 arg4 harg4 arg5 harg5 arg7 harg7 x1 x3 x4 x5 x7) (Rect.unit (s := S2048x512) ![1536, 256] ![512, 128] inb_S2048x512_S512x128_1536_256).toLoadRect = _ := readAt_Qt arg10 _ _ hQ 3 2 ![1536, 256] inb_S2048x512_S512x128_1536_256 rfl
  have q3 : arg10.view.readCov (kernelRun.sl.H10_4 c arg1 harg1 arg3 harg3 arg4 harg4 arg5 harg5 arg7 harg7 x1 x3 x4 x5 x7) (Rect.unit (s := S2048x512) ![1536, 384] ![512, 128] inb_S2048x512_S512x128_1536_384).toLoadRect = _ := readAt_Qt arg10 _ _ hQ 3 3 ![1536, 384] inb_S2048x512_S512x128_1536_384 rfl
  unfold outB
  unfold kernelRun
  dsimp only
  unfold kernelRun.sl.v271 kernelRun.sl.H13_3 kernelRun.sl.v275 kernelRun.sl.H14_3 kernelRun.sl.v279 kernelRun.sl.H9_3 kernelRun.sl.x_14 kernelRun.sl.x_15 kernelRun.sl.x_11 kernelRun.sl.x_12 kernelRun.sl.x_13 kernelRun.sl.H13_2 kernelRun.sl.H14_2 kernelRun.sl.x_9 kernelRun.sl.x_10 kernelRun.sl.x_5 kernelRun.sl.x_6 kernelRun.sl.x_7 kernelRun.sl.x_8 kernelRun.sl.H13_1 kernelRun.sl.H14_1 kernelRun.sl.H9_1 kernelRun.sl.x_3 kernelRun.sl.x_4 kernelRun.sl.x kernelRun.sl.x_1 kernelRun.sl.x_2 kernelRun.sl.v166 kernelRun.sl.v167 kernelRun.sl.v273
  simp only [readCov_cons_same]
  rw [q0, q1, q2, q3, k0, k1, k2, k3, v0, v1, v2, v3]
  generalize hX10 : arg10.view.writes (Elt F) arg10.view.junk (kernelRun.sl.H10_4 c arg1 harg1 arg3 harg3 arg4 harg4 arg5 harg5 arg7 harg7 x1 x3 x4 x5 x7) = X10 at *
  generalize hX11 : arg11.view.writes (Elt F) arg11.view.junk (kernelRun.sl.H11_4 c arg1 harg1 arg2 harg2 arg3 harg3 arg4 harg4 arg6 harg6 arg8 harg8 x1 x2 x3 x4 x6 x8) = X11 at *
  generalize hX12 : arg12.view.writes (Elt F) arg12.view.junk (kernelRun.sl.H12_4 c arg1 harg1 arg6 harg6 arg8 harg8 x1 x6 x8) = X12 at *
  generalize packed (qB x1 x3 x4 x5 x7) = Q at *
  generalize packed (kB x1 x2 x3 x4 x6 x8) = K at *
  generalize packed (vB x1 x6 x8) = V at *
  have spec := fun (G13 : BufTy.Contents (Elt F) arg13.view.ty) (G14 : BufTy.Contents (Elt F) arg14.view.ty) h13 h14 =>
    pb_spec arg9 arg10 arg11 arg12 arg13 arg14 X10 X11 X12 Q K V f9 G13 G14 Variants.none c none i arg1 harg1 arg2 harg2 arg3 harg3 arg4 harg4 arg5 harg5 arg6 harg6 arg7 harg7 arg8 harg8 harg9 harg10 harg11 harg12 harg13 harg14 (k0_pay40 (Qt Q 0 0) (Kh K 0)) hQ hK hV h13 h14 3 le_rfl
  have s13 : ∀ B : BufTy.Contents (Elt F) arg13.view.ty, eSlot0 arg13 (arg13.view.writes (Elt F) B [⟨Rect.unit (s := S2x512x2048) ![0, 0, 0] ![1, 512, 2048] inb_S2x512x2048_S1x512x2048_0_0_0, k0_pay41 (k0_pay40 (Qt Q 0 0) (Kh K 0))⟩]) = eS (Qt Q 0 0) (Kh K 0) :=
    fun B => slot_cons arg13.view B _ _ _ _ _
  have s14 : ∀ B : BufTy.Contents (Elt F) arg14.view.ty, lSlot0 arg14 (arg14.view.writes (Elt F) B [⟨Rect.unit (s := S2x512x1) ![0, 0, 0] ![1, 512, 1] inb_S2x512x1_S1x512x1_0_0_0, k0_pay39 (Qt Q 0 0) (Kh K 0)⟩]) = lS (Qt Q 0 0) (Kh K 0) :=
    fun B => slot_cons arg14.view B _ _ _ _ _
  obtain ⟨c1, c2, c3⟩ := spec _ _ (s13 f13) (s14 f14)
  have d2 := c2 _ (s13 arg13.view.junk)
  have d3 := c3 _ (s14 arg14.view.junk)
  rw [← View.writes_append] at d2 d3
  funext y
  by_cases hy : (y 1).val < 512 * 3
  · exact (read_tile_of_not_mem arg9 f9 3 ![0, 1536, 0] ![0, 1536, 128] _ _ rfl rfl _ _ _ _ _ y hy).trans (c1 y hy)
  · have h1 : (y 1).val < 2048 := (y 1).isLt
    refine read_tile arg9 Q K V f9 3 ![0, 1536, 0] ![0, 1536, 128] _ _ rfl rfl _ _ _ _ rfl ?_ _ y ⟨Nat.le_of_not_lt hy, by show _ < 512 * 3 + 512; omega⟩
    unfold outPair outOne
    exact congrArg (addS _ _ _) (congrArg₂ (fun e l => avS e (Kh V 0) l) d2 d3)

end Whole

end Cert.KernelIdeal.Hand
end
-- ==== Proof.KI.Run.lean ====
module

public import proofs.«01_k».proof.Proof.Gen.KernelIdeal.Frame
public import proofs.«01_k».proof.Proof.Gen.KernelIdeal.Loops
public import proofs.«01_k».proof.Proof.Gen.KernelIdeal.Skeleton
public import Idealize.ShloMosaic.Lib.Tactic
public import proofs.«01_k».proof.Proof.KI.Last
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-! ## The run of one grid point on whole buffers -/

abbrev 𝒱₀ : Variants := Variants.none

section Own

variable (c : Dev nD) {sp : Space} {s : Shape} {e : EltTy} (a : Memref sig .tc sp s e)

/-- A buffer owned at some value is the buffer's place at some contents. -/
theorem any_open : iprop(∃ d, owns (c : Thread nD τ) a fullShare d) ⊢ (iprop(∃ f, (a.view.loc (c : Thread nD τ) ↦[a.view.set]{fullShare} f)) : sProp 𝕄) := by
  unfold owns
  iintro ⟨%d, %f, %hf, H⟩
  iexists f; iexact H

/-- A place at some contents is the buffer owned at some value. -/
theorem any_close : (iprop(∃ f, (a.view.loc (c : Thread nD τ) ↦[a.view.set]{fullShare} f)) : sProp 𝕄) ⊢ iprop(∃ d, owns (c : Thread nD τ) a fullShare d) := by
  unfold owns
  iintro ⟨%f, H⟩
  iexists _; iexists f; isplitr; · ipureintro; rfl
  iexact H

/-- A place whose contents read as `X` is the buffer owned at `X`. -/
theorem own_close (f : BufTy.Contents (Elt F) a.view.ty) (X : s.Idx → Elt F e) (h : a.view.read (Elt F) f = X) :
    (iprop(a.view.loc (c : Thread nD τ) ↦[a.view.set]{fullShare} f) : sProp 𝕄) ⊢ owns (c : Thread nD τ) a fullShare X := by
  unfold owns
  iintro H
  iexists f; isplitr; · ipureintro; exact h
  iexact H

theorem any_eq : (iprop(∃ d, owns (c : Thread nD τ) a fullShare d) : sProp 𝕄) = iprop(∃ f, (a.view.loc (c : Thread nD τ) ↦[a.view.set]{fullShare} f)) :=
  Idealize.SL.BI.equiv_iff.mp ⟨any_open c a, any_close c a⟩

end Own

/-- The body on whole buffers: the eight blocks stay, the result holds `outB` of them, the scratch holds something. -/
theorem kernel_triple (c : Dev nD) (i : grid0.Coords) (arg1 : Memref sig .tc .vmem S1x2048x384 .f32) (harg1 : arg1.IsWhole) (arg2 : Memref sig .tc .vmem S1x2048x128 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S1x256 .f32) (harg5 : arg5.IsWhole) (arg6 : Memref sig .tc .vmem S1x128 .f32) (harg6 : arg6.IsWhole) (arg7 : Memref sig .tc .vmem S256x512 .bf16) (harg7 : arg7.IsWhole) (arg8 : Memref sig .tc .vmem S128x1024 .bf16) (harg8 : arg8.IsWhole) (arg9 : Memref sig .tc .vmem S1x2048x256 .f32) (harg9 : arg9.IsWhole) (arg10 : Memref sig .tc .vmem S2048x512 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S2x512x2048 .bf16) (harg13 : arg13.IsWhole) (arg14 : Memref sig .tc .vmem S2x512x1 .f32) (harg14 : arg14.IsWhole) (x1 : Vec F S1x2048x384 .f32) (x2 : Vec F S1x2048x128 .f32) (x3 : Vec F S2048x128 .f32) (x4 : Vec F S2048x128 .f32) (x5 : Vec F S1x256 .f32) (x6 : Vec F S1x128 .f32) (x7 : Vec F S256x512 .bf16) (x8 : Vec F S128x1024 .bf16) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (outB x1 x2 x3 x4 x5 x6 x7 x8) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) 𝒱₀ c none) E (cc0_mla i arg1 harg1 arg2 harg2 arg3 harg3 arg4 harg4 arg5 harg5 arg6 harg6 arg7 harg7 arg8 harg8 arg9 harg9 arg10 harg10 arg11 harg11 arg12 harg12 arg13 harg13 arg14 harg14) K := by
  simp only [any_eq]
  iintro ⟨H1, H2, H3, H4, H5, H6, H7, H8, ⟨%f9, H9⟩, ⟨%f10, H10⟩, ⟨%f11, H11⟩, ⟨%f12, H12⟩, ⟨%f13, H13⟩, ⟨%f14, H14⟩, Hk⟩
  iapply ((kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 x8).2 E f9 f10 f11 f12 f13 f14 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H1, H2, H3, H4, H5, H6, H7, H8, H9, H10, H11, H12, H13, H14⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (own_close c arg9 _ _ (read_kernelRun c i arg1 harg1 arg2 harg2 arg3 harg3 arg4 harg4 arg5 harg5 arg6 harg6 arg7 harg7 arg8 harg8 arg9 harg9 arg10 harg10 arg11 harg11 arg12 harg12 arg13 harg13 arg14 harg14 x1 x2 x3 x4 x5 x6 x7 x8 f9 f13 f14)); iexact H9
  isplitl [H10]; · iexact H10
  isplitl [H11]; · iexact H11
  isplitl [H12]; · iexact H12
  isplitl [H13]; · iexact H13
  iexact H14

variable (m : (ℓ : Loc nD τ sig) → Buf (Elt F) ℓ) (ρ : Dev nD → PrngReg)

/-! ## The staging buffers at a point -/

abbrev ms0_0 (t : Fin cfg0.N) : Memref sig .tc .vmem S1x2048x384 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x2048x256 .f32 := win0_8.stage (cfg0.slots t 8)
abbrev hs0_8 (t : Fin cfg0.N) : (ms0_8 t).IsWhole := hstage0_8 ((cfg0.slots t 8).cast nbuf0_8)

/-- The result's block at a point. -/
def outsAt (c : Dev nD) (t : Fin cfg0.N) : Vec F S1x2048x256 .f32 := outB (iblk m c 0 t) (iblk m c 1 t) (iblk m c 2 t) (iblk m c 3 t) (iblk m c 4 t) (iblk m c 5 t) (iblk m c 6 t) (iblk m c 7 t)

/-! ## The pipeline's proof data, the body's obligation, the run -/

/-- Each input's buffer stays at its block, the result's ends at `outsAt`; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outsAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outsAt m c t := by dsimp only [dats]
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d

/-- The invariant between points: each scratch buffer owned at some value, and the generator's register. -/
theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ ∃ r, prngReg c r) := by
  unfold Pipeline.ΦA
  rw [scopedRest0_eq]
  simp only [owns_whole]
  try rfl

set_option maxHeartbeats 2000000 in
/-- The body at a point, as the pipeline asks for it. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA_eq, after0_0, after0_1, after0_2, after0_3, after0_4, after0_5, after0_6, after0_7, after0_8]
  unfold outsAt
  iintro ⟨⟨⟨S0, S1, S2, S3, S4⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (kernel_triple c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexact S0
  isplitl [S1]; · iexact S1
  isplitl [S2]; · iexact S2
  isplitl [S3]; · iexact S3
  isplitl [S4]; · iexact S4
  iintro ⟨H0, H1, H2, H3, H4, H5, H6, H7, H8, S0, S1, S2, S3, S4⟩
  isplitl [S0 S1 S2 S3 S4 Hr]
  · isplitr [Hr]
    · isplitl [S0]; · iexact S0
      isplitl [S1]; · iexact S1
      isplitl [S2]; · iexact S2
      isplitl [S3]; · iexact S3
      iexact S4
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

-- the theorem's implicit arguments are found by unifying its conclusion with this one, which takes unfolding plain definitions
set_option backward.isDefEq.respectTransparency.types false in
/-- From any memory with zero counters every fair run of the program ends with every array at what the proof data say and every counter zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

end Cert.KernelIdeal.Hand
end
-- ==== Proof.Math.Real.lean ====
module

public import Idealize.ShloMosaic.Lib.Pointwise

@[expose] public section

noncomputable section

namespace Cert.Mla

open Idealize.ShloMosaic

/-- An extended real that is a real. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩
theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.neg {x : EReal} : IsR x → IsR (-x) := by
  rintro ⟨a, rfl⟩; exact ⟨-a, (EReal.coe_neg a).symm⟩

/-- A sum of reals, taken in the extended reals, is their sum. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsR.sum {ι : Type*} (s : Finset ι) {f : ι → EReal} (h : ∀ i, IsR (f i)) : IsR (∑ i ∈ s, f i) := by
  choose g hg using h
  exact ⟨∑ i ∈ s, g i, by simp only [hg, coe_sum]⟩

/-- A square is at least zero. -/
theorem mul_self_nonneg' (x : EReal) : 0 ≤ x * x := by
  induction x using EReal.rec with
  | bot => simp
  | top => simp
  | coe r => rw [← EReal.coe_mul]; exact_mod_cast mul_self_nonneg r

/-- A sum of squares one of which is infinite is infinite. -/
theorem sum_sq_top {n : ℕ} (x : Fin n → EReal) (j : Fin n) (hj : x j * x j = ⊤) : ∑ i, x i * x i = ⊤ := by
  rw [← Finset.add_sum_erase _ _ (Finset.mem_univ j), hj]
  exact EReal.top_add_of_ne_bot (ne_of_gt (lt_of_lt_of_le EReal.bot_lt_zero (Finset.sum_nonneg fun i _ => mul_self_nonneg' (x i))))

/-- A row normalised by the root of its mean square, and scaled. -/
def nrm {n : ℕ} (x : Fin n → EReal) (g : Fin n → EReal) (c e : EReal) (k : Fin n) : EReal :=
  x k * Ideal.rsqrt (Ideal.div (∑ i, x i * x i) c + e) * g k

/-- A normalised row is real where its gain is. A row with an infinite entry has an infinite mean square, and the reciprocal root is then zero. -/
theorem nrm_isR {n : ℕ} (x g : Fin n → EReal) (hg : ∀ k, IsR (g k)) (c e : ℝ) (hc : 0 < c) (he : 0 < e) (k : Fin n) : IsR (nrm x g (c : EReal) (e : EReal) k) := by
  unfold nrm
  by_cases hx : ∀ i, IsR (x i)
  · choose y hy using hx
    have hs : ∑ i, x i * x i = ((∑ i, y i * y i : ℝ) : EReal) := by
      simp only [hy, ← EReal.coe_mul, coe_sum]
    have h0 : 0 ≤ ∑ i, y i * y i := Finset.sum_nonneg fun i _ => mul_self_nonneg (y i)
    have hp : 0 < (∑ i, y i * y i) * (1 / c) + e := by positivity
    rw [hs, Ideal.div_coe hc.ne', ← EReal.coe_mul, ← EReal.coe_add, Ideal.rsqrt_coe, if_neg (not_lt.mpr hp.le), if_neg hp.ne']
    exact ((hy k ▸ IsR.coe (y k)).mul (IsR.coe _)).mul (hg k)
  · obtain ⟨j, hj⟩ := not_forall.mp hx
    have hjj : x j * x j = ⊤ := by
      induction h : x j using EReal.rec with
      | bot => simp
      | top => simp
      | coe r => exact absurd ⟨r, h⟩ hj
    rw [sum_sq_top x j hjj, Ideal.div_coe hc.ne', EReal.top_mul_coe_of_pos (by positivity), EReal.top_add_coe, Ideal.rsqrt_top, mul_zero, zero_mul]
    exact IsR.zero

/-- The greatest of finitely many reals is one of them. -/
theorem fold_max {n : ℕ} (f : Fin (n + 1) → ℝ) :
    ∃ j, Finset.fold max (⊥ : EReal) (fun i => (f i : EReal)) Finset.univ = (f j : EReal) ∧ ∀ i, f i ≤ f j := by
  obtain ⟨j, -, hj⟩ := Finset.exists_max_image Finset.univ f ⟨0, Finset.mem_univ 0⟩
  refine ⟨j, le_antisymm ?_ ?_, fun i => hj i (Finset.mem_univ i)⟩
  · exact (Finset.fold_max_le _).mpr ⟨bot_le, fun i hi => EReal.coe_le_coe_iff.mpr (hj i hi)⟩
  · exact (Finset.le_fold_max _).mpr (Or.inr ⟨j, Finset.mem_univ j, le_rfl⟩)

/-- The mean of the values by powers of two of scores scaled for it, divided last. -/
def meanTwo {n : ℕ} (s v : Fin n → EReal) : EReal :=
  Ideal.div (∑ j, Ideal.exp2 (s j - Finset.fold max ⊥ s Finset.univ) * v j) (∑ j, Ideal.exp2 (s j - Finset.fold max ⊥ s Finset.univ))

/-- The mean of the values by the softmax of the scores. -/
def meanSoft {n : ℕ} (s v : Fin n → EReal) : EReal :=
  ∑ j, v j * Ideal.div (Ideal.exp (s j - max ⊥ (Finset.fold max ⊥ s Finset.univ))) (∑ i, Ideal.exp (s i - max ⊥ (Finset.fold max ⊥ s Finset.univ)))

/-- The two means agree when the first's scores are the second's times the logarithm of e to base two. -/
theorem mean_eq {n : ℕ} (u v : Fin (n + 1) → ℝ) (σ : ℝ) (hσ : 0 < σ) :
    meanTwo (fun j => ((u j * (σ * (Real.log 2)⁻¹) : ℝ) : EReal)) (fun j => (v j : EReal))
      = meanSoft (fun j => ((u j * σ : ℝ) : EReal)) (fun j => (v j : EReal)) := by
  have hl : 0 < Real.log 2 := Real.log_pos (by norm_num)
  obtain ⟨a, ha, ha'⟩ := fold_max fun j => u j * (σ * (Real.log 2)⁻¹)
  obtain ⟨b, hb, hb'⟩ := fold_max fun j => u j * σ
  have hab : u a = u b := le_antisymm (le_of_mul_le_mul_right (hb' a) hσ) (le_of_mul_le_mul_right (ha' b) (by positivity))
  have hL : 0 < ∑ j, Real.exp (u j * σ - u b * σ) := Finset.sum_pos (fun j _ => Real.exp_pos _) ⟨0, Finset.mem_univ 0⟩
  have h2 : ∀ j, Ideal.exp2 ((u j * (σ * (Real.log 2)⁻¹) - u a * (σ * (Real.log 2)⁻¹) : ℝ) : EReal) = ((Real.exp (u j * σ - u b * σ) : ℝ) : EReal) := fun j => by
    rw [Ideal.exp2_coe, EReal.coe_eq_coe_iff, Real.rpow_eq_pow, Real.rpow_def_of_pos (by norm_num), hab]
    congr 1
    field_simp
  unfold meanTwo meanSoft
  simp only [ha, hb, bot_le, max_eq_right, h2, ← EReal.coe_sub, Ideal.exp_coe, coe_sum, ← EReal.coe_mul, Ideal.div_coe hL.ne']
  rw [EReal.coe_eq_coe_iff, Finset.sum_mul]
  exact Finset.sum_congr rfl fun j _ => by ring

/-- The mean of zeros is zero. -/
theorem meanSoft_zero {n : ℕ} (s : Fin n → EReal) : meanSoft s (fun _ => 0) = 0 := by
  simp only [meanSoft, zero_mul, Finset.sum_const_zero]

end Cert.Mla

end

end
-- ==== Proof.Math.Lanes.lean ====
module

public import proofs.«01_k».proof.Proof.Math.Real

@[expose] public section

noncomputable section

namespace Cert.Mla

open Idealize.ShloMosaic

/-- Thirty-two lanes turned as sixteen pairs. -/
def rot (x : Fin 32 → EReal) (C S : Fin 16 → EReal) (k : Fin 32) : EReal :=
  if h : k.val < 16 then x k * C ⟨k.val, h⟩ - x ⟨16 + k.val, by omega⟩ * S ⟨k.val, h⟩
  else x ⟨16 + (k.val - 16), by omega⟩ * C ⟨k.val - 16, by omega⟩ + x ⟨k.val - 16, by omega⟩ * S ⟨k.val - 16, by omega⟩

/-- A turned lane is real when the lanes and the tables are. -/
theorem rot_isR {x : Fin 32 → EReal} {C S : Fin 16 → EReal} (hx : ∀ k, IsR (x k)) (hC : ∀ k, IsR (C k)) (hS : ∀ k, IsR (S k)) (k : Fin 32) : IsR (rot x C S k) := by
  unfold rot
  split
  · exact ((hx _).mul (hC _)).sub ((hx _).mul (hS _))
  · exact ((hx _).mul (hC _)).add ((hx _).mul (hS _))

/-- A sum over 128 lanes, in the four parts that the lanes are used in. -/
theorem sum128 {M : Type*} [AddCommMonoid M] (f : Fin 128 → M) :
    ∑ l, f l = ∑ d : Fin 64, f ⟨d.val, by omega⟩ + (∑ d : Fin 16, f ⟨64 + d.val, by omega⟩ + (∑ d : Fin 16, f ⟨80 + d.val, by omega⟩ + ∑ d : Fin 32, f ⟨96 + d.val, by omega⟩)) := by
  rw [show (∑ l, f l) = ∑ l : Fin (64 + (16 + (16 + 32))), f l from rfl, Fin.sum_univ_add, Fin.sum_univ_add, Fin.sum_univ_add]
  refine congrArg₂ _ rfl (congrArg₂ _ rfl (congrArg₂ _ (Finset.sum_congr rfl fun d _ => ?_) (Finset.sum_congr rfl fun d _ => ?_)))
  · exact congrArg f (Fin.ext (by simp [Fin.natAdd, Fin.castAdd]; omega))
  · exact congrArg f (Fin.ext (by simp [Fin.natAdd]; omega))

/-- A sum over 32 lanes in two halves. -/
theorem sum32 {M : Type*} [AddCommMonoid M] (f : Fin 32 → M) :
    ∑ l, f l = ∑ d : Fin 16, f ⟨d.val, by omega⟩ + ∑ d : Fin 16, f ⟨16 + d.val, by omega⟩ := by
  rw [show (∑ l, f l) = ∑ l : Fin (16 + 16), f l from rfl, Fin.sum_univ_add]
  rfl

/-- The product of a query's packed lanes, turned by the lane tables and scaled, with a key's packed lanes, is the score of the two parts, scaled. -/
theorem score_eq (A : Fin 96 → EReal) (B : Fin 64 → EReal) (kr : Fin 32 → EReal) (C S : Fin 16 → EReal) (κ : ℝ)
    (hA : ∀ d, IsR (A d)) (hB : ∀ d, IsR (B d)) (hkr : ∀ d, IsR (kr d)) (hC : ∀ d, IsR (C d)) (hS : ∀ d, IsR (S d))
    (E ct st K : Fin 128 → EReal)
    (hE : ∀ l : Fin 128, E l = if h : l.val < 96 then A ⟨l.val, h⟩ else if h : l.val < 112 then A ⟨64 + (l.val - 96), by omega⟩ else 0)
    (hct : ∀ l : Fin 128, ct l = if h : l.val < 64 then 1 else if h : l.val - 64 < 16 then C ⟨l.val - 64, h⟩ else if h : l.val - 64 - 16 < 16 then C ⟨l.val - 64 - 16, h⟩ else 0)
    (hst : ∀ l : Fin 128, st l = if h : l.val < 64 then 0 else if h : l.val - 64 < 16 then -S ⟨l.val - 64, h⟩ else if h : l.val - 64 - 16 < 16 then S ⟨l.val - 64 - 16, h⟩ else 0)
    (hK : ∀ l : Fin 128, K l = if h : l.val < 64 then B ⟨l.val, h⟩ else if h : l.val < 96 then kr ⟨l.val - 64, by omega⟩ else 0) :
    ∑ l : Fin 128, ((E l * ct l + E ⟨(l.val + 128 - 112) % 128, by omega⟩ * st l) * (κ : EReal)) * K l
      = (∑ d : Fin 64, A ⟨d.val, by omega⟩ * B d + ∑ r : Fin 32, kr r * rot (fun d => A ⟨64 + d.val, by omega⟩) C S r) * (κ : EReal) := by
  choose A' hA using hA
  choose B' hB using hB
  choose kr' hkr using hkr
  choose C' hC using hC
  choose S' hS using hS
  have h1 : ∀ d : Fin 64, ((E ⟨d.val, by omega⟩ * ct ⟨d.val, by omega⟩ + E ⟨(d.val + 128 - 112) % 128, by omega⟩ * st ⟨d.val, by omega⟩) * (κ : EReal)) * K ⟨d.val, by omega⟩
      = ((A' ⟨d.val, by omega⟩ * B' d * κ : ℝ) : EReal) := fun d => by
    have e1 : E ⟨d.val, by omega⟩ = A ⟨d.val, by omega⟩ := by rw [hE, dif_pos (show d.val < 96 by omega)]
    have e2 : ct ⟨d.val, by omega⟩ = 1 := by rw [hct, dif_pos (show d.val < 64 by omega)]
    have e3 : st ⟨d.val, by omega⟩ = 0 := by rw [hst, dif_pos (show d.val < 64 by omega)]
    have e4 : K ⟨d.val, by omega⟩ = B d := by rw [hK, dif_pos (show d.val < 64 by omega)]
    rw [e1, e2, e3, e4, mul_one, mul_zero, add_zero, hA, hB, ← EReal.coe_mul, ← EReal.coe_mul, EReal.coe_eq_coe_iff]
    ring
  have h2 : ∀ d : Fin 16, ((E ⟨64 + d.val, by omega⟩ * ct ⟨64 + d.val, by omega⟩ + E ⟨(64 + d.val + 128 - 112) % 128, by omega⟩ * st ⟨64 + d.val, by omega⟩) * (κ : EReal)) * K ⟨64 + d.val, by omega⟩
      = ((kr' ⟨d.val, by omega⟩ * (A' ⟨64 + d.val, by omega⟩ * C' d - A' ⟨64 + (16 + d.val), by omega⟩ * S' d) * κ : ℝ) : EReal) := fun d => by
    have e1 : E ⟨64 + d.val, by omega⟩ = A ⟨64 + d.val, by omega⟩ := by rw [hE, dif_pos (show 64 + d.val < 96 by omega)]
    have e5 : E ⟨(64 + d.val + 128 - 112) % 128, by omega⟩ = A ⟨64 + (16 + d.val), by omega⟩ := by
      rw [hE, dif_pos (show (64 + d.val + 128 - 112) % 128 < 96 by omega)]
      exact congrArg A (Fin.ext (by show (64 + d.val + 128 - 112) % 128 = 64 + (16 + d.val); omega))
    have e2 : ct ⟨64 + d.val, by omega⟩ = C d := by
      rw [hct, dif_neg (show ¬ 64 + d.val < 64 by omega), dif_pos (show 64 + d.val - 64 < 16 by omega)]
      exact congrArg C (Fin.ext (by show 64 + d.val - 64 = d.val; omega))
    have e3 : st ⟨64 + d.val, by omega⟩ = -S d := by
      rw [hst, dif_neg (show ¬ 64 + d.val < 64 by omega), dif_pos (show 64 + d.val - 64 < 16 by omega)]
      exact congrArg (fun x => -S x) (Fin.ext (by show 64 + d.val - 64 = d.val; omega))
    have e4 : K ⟨64 + d.val, by omega⟩ = kr ⟨d.val, by omega⟩ := by
      rw [hK, dif_neg (show ¬ 64 + d.val < 64 by omega), dif_pos (show 64 + d.val < 96 by omega)]
      exact congrArg kr (Fin.ext (by show 64 + d.val - 64 = d.val; omega))
    rw [e1, e2, e3, e4, e5, hA, hA, hC, hS, hkr, ← EReal.coe_neg, ← EReal.coe_mul, ← EReal.coe_mul, ← EReal.coe_add, ← EReal.coe_mul, ← EReal.coe_mul, EReal.coe_eq_coe_iff]
    ring
  have h3 : ∀ d : Fin 16, ((E ⟨80 + d.val, by omega⟩ * ct ⟨80 + d.val, by omega⟩ + E ⟨(80 + d.val + 128 - 112) % 128, by omega⟩ * st ⟨80 + d.val, by omega⟩) * (κ : EReal)) * K ⟨80 + d.val, by omega⟩
      = ((kr' ⟨16 + d.val, by omega⟩ * (A' ⟨64 + (16 + d.val), by omega⟩ * C' d + A' ⟨64 + d.val, by omega⟩ * S' d) * κ : ℝ) : EReal) := fun d => by
    have e1 : E ⟨80 + d.val, by omega⟩ = A ⟨64 + (16 + d.val), by omega⟩ := by
      rw [hE, dif_pos (show 80 + d.val < 96 by omega)]
      exact congrArg A (Fin.ext (by show 80 + d.val = 64 + (16 + d.val); omega))
    have e5 : E ⟨(80 + d.val + 128 - 112) % 128, by omega⟩ = A ⟨64 + d.val, by omega⟩ := by
      rw [hE, dif_neg (show ¬ (80 + d.val + 128 - 112) % 128 < 96 by omega), dif_pos (show (80 + d.val + 128 - 112) % 128 < 112 by omega)]
      exact congrArg A (Fin.ext (by show 64 + ((80 + d.val + 128 - 112) % 128 - 96) = 64 + d.val; omega))
    have e2 : ct ⟨80 + d.val, by omega⟩ = C d := by
      rw [hct, dif_neg (show ¬ 80 + d.val < 64 by omega), dif_neg (show ¬ 80 + d.val - 64 < 16 by omega), dif_pos (show 80 + d.val - 64 - 16 < 16 by omega)]
      exact congrArg C (Fin.ext (by show 80 + d.val - 64 - 16 = d.val; omega))
    have e3 : st ⟨80 + d.val, by omega⟩ = S d := by
      rw [hst, dif_neg (show ¬ 80 + d.val < 64 by omega), dif_neg (show ¬ 80 + d.val - 64 < 16 by omega), dif_pos (show 80 + d.val - 64 - 16 < 16 by omega)]
      exact congrArg S (Fin.ext (by show 80 + d.val - 64 - 16 = d.val; omega))
    have e4 : K ⟨80 + d.val, by omega⟩ = kr ⟨16 + d.val, by omega⟩ := by
      rw [hK, dif_neg (show ¬ 80 + d.val < 64 by omega), dif_pos (show 80 + d.val < 96 by omega)]
      exact congrArg kr (Fin.ext (by show 80 + d.val - 64 = 16 + d.val; omega))
    rw [e1, e2, e3, e4, e5, hA, hA, hC, hS, hkr, ← EReal.coe_mul, ← EReal.coe_mul, ← EReal.coe_add, ← EReal.coe_mul, ← EReal.coe_mul, EReal.coe_eq_coe_iff]
    ring
  have h4 : ∀ d : Fin 32, ((E ⟨96 + d.val, by omega⟩ * ct ⟨96 + d.val, by omega⟩ + E ⟨(96 + d.val + 128 - 112) % 128, by omega⟩ * st ⟨96 + d.val, by omega⟩) * (κ : EReal)) * K ⟨96 + d.val, by omega⟩
      = 0 := fun d => by
    have e2 : ct ⟨96 + d.val, by omega⟩ = 0 := by
      rw [hct, dif_neg (show ¬ 96 + d.val < 64 by omega), dif_neg (show ¬ 96 + d.val - 64 < 16 by omega), dif_neg (show ¬ 96 + d.val - 64 - 16 < 16 by omega)]
    have e3 : st ⟨96 + d.val, by omega⟩ = 0 := by
      rw [hst, dif_neg (show ¬ 96 + d.val < 64 by omega), dif_neg (show ¬ 96 + d.val - 64 < 16 by omega), dif_neg (show ¬ 96 + d.val - 64 - 16 < 16 by omega)]
    rw [e2, e3, mul_zero, mul_zero, add_zero, zero_mul, zero_mul]
  have r1 : ∀ d : Fin 16, rot (fun d => A ⟨64 + d.val, by omega⟩) C S ⟨d.val, by omega⟩
      = ((A' ⟨64 + d.val, by omega⟩ * C' d - A' ⟨64 + (16 + d.val), by omega⟩ * S' d : ℝ) : EReal) := fun d => by
    rw [rot, dif_pos (show d.val < 16 by omega), hA, hA, hC, hS, ← EReal.coe_mul, ← EReal.coe_mul, ← EReal.coe_sub]
  have r2 : ∀ d : Fin 16, rot (fun d => A ⟨64 + d.val, by omega⟩) C S ⟨16 + d.val, by omega⟩
      = ((A' ⟨64 + (16 + d.val), by omega⟩ * C' d + A' ⟨64 + d.val, by omega⟩ * S' d : ℝ) : EReal) := fun d => by
    rw [rot, dif_neg (show ¬ 16 + d.val < 16 by omega)]
    simp only [Nat.add_sub_cancel_left]
    rw [hA, hA, hC, hS, ← EReal.coe_mul, ← EReal.coe_mul, ← EReal.coe_add]
  rw [sum128, sum32 fun r => kr r * rot (fun d => A ⟨64 + d.val, by omega⟩) C S r]
  simp only [h1, h2, h3, h4, r1, r2, Finset.sum_const_zero, add_zero]
  simp only [hA, hB, hkr, ← EReal.coe_mul, coe_sum, ← EReal.coe_add]
  rw [EReal.coe_eq_coe_iff, add_mul, add_mul, Finset.sum_mul, Finset.sum_mul, Finset.sum_mul]

end Cert.Mla

end

end
-- ==== Proof.KI.Val.lean ====
module

public import proofs.«01_k».proof.Proof.KI.Run
public import Idealize.ShloMosaic.Lib.Pointwise
public import Idealize.ShloMosaic.Lib.MatmulPlain
public import proofs.«01_k».proof.Proof.Math.Lanes

@[expose] public section

set_option maxRecDepth 16384

noncomputable section

namespace Cert.KernelIdeal.Hand

open Cert.KernelIdeal Cert.KernelIdeal.Gen
open Idealize.ShloMosaic
/-- The word of negative infinity. -/
theorem ofBits_ninf : Ideal.ofBits FTy.f32 4286578688#32 = ⊥ := by
  simp [Ideal.ofBits, Ideal.ieee, -EReal.coe_mul]

/-- The normalised latents. -/
theorem cqB_apply (x1 : Vec Ideal S1x2048x384 .f32) (x5 : Vec Ideal S1x256 .f32) (r : Fin 2048) (k : Fin 256) :
    cqB x1 x5 (ix2 r k) = x1 (ix3 0 r ⟨k.val, by omega⟩) * Ideal.rsqrt (Ideal.div (∑ x : Fin 256, x1 (ix3 0 r ⟨x.val, by omega⟩) * x1 (ix3 0 r ⟨x.val, by omega⟩)) (Ideal.ofBits .f32 1132462080#32)
      + Ideal.ofBits .f32 897988541#32) * x5 (ix2 0 k) := by
  pointwise [cqB, k0_pay22]

theorem ckvB_apply (x1 : Vec Ideal S1x2048x384 .f32) (x6 : Vec Ideal S1x128 .f32) (r : Fin 2048) (k : Fin 128) :
    ckvB x1 x6 (ix2 r k) = x1 (ix3 0 r ⟨256 + k.val, by omega⟩) * Ideal.rsqrt (Ideal.div (∑ x : Fin 128, x1 (ix3 0 r ⟨256 + x.val, by omega⟩) * x1 (ix3 0 r ⟨256 + x.val, by omega⟩)) (Ideal.ofBits .f32 1124073472#32)
      + Ideal.ofBits .f32 897988541#32) * x6 (ix2 0 k) := by
  pointwise [ckvB, k0_pay23]

/-- The shared key lanes, turned, in the lanes that hold them. -/
theorem krB_apply (x2 : Vec Ideal S1x2048x128 .f32) (x3 x4 : Vec Ideal S2048x128 .f32) (r : Fin 2048) (l : Fin 128) :
    krB x2 x3 x4 (ix2 r l) = Scalar.select (IntOp.andi (IntOp.cmpi .sge (BitVec.ofNat 32 l.val) 64#32) (IntOp.cmpi .slt (BitVec.ofNat 32 l.val) 96#32))
      (x2 (ix3 0 r l) * x3 (ix2 r l) + x2 (ix3 0 r ⟨(l.val + 128 - 112) % 128, by omega⟩) * x4 (ix2 r l)) 0 := by
  pointwise [krB, k0_pay24, k0_pay20, k0_pay21]

/-- Which lanes hold the shared key. -/
theorem mask_eq : ∀ l : Fin 128, IntOp.andi (IntOp.cmpi .sge (BitVec.ofNat 32 l.val) 64#32) (IntOp.cmpi .slt (BitVec.ofNat 32 l.val) 96#32) = if 64 ≤ l.val ∧ l.val < 96 then 1#1 else 0#1 := by
  decide +kernel

/-- One head's queries, keys and values, lane by lane. -/
theorem qB_apply (x1 : Vec Ideal S1x2048x384 .f32) (x3 x4 : Vec Ideal S2048x128 .f32) (x5 : Vec Ideal S1x256 .f32) (x7 : Vec Ideal S256x512 .bf16) (h : Fin 4) (r : Fin 2048) (l : Fin 128) :
    qB x1 x3 x4 x5 x7 h (ix2 r l) = ((∑ k : Fin 256, cqB x1 x5 (ix2 r k) * wqH x7 h (ix2 k l)) * x3 (ix2 r l)
      + (∑ k : Fin 256, cqB x1 x5 (ix2 r k) * wqH x7 h (ix2 k ⟨(l.val + 128 - 112) % 128, by omega⟩)) * x4 (ix2 r l)) * (Named.named (F := Ideal) (φ := FTy.f32) κ "qscale" 1041680192#32 : EReal) := by
  pointwise [qB, k0_pay25, k0_pay20, k0_pay21]

theorem kB_apply (x1 : Vec Ideal S1x2048x384 .f32) (x2 : Vec Ideal S1x2048x128 .f32) (x3 x4 : Vec Ideal S2048x128 .f32) (x6 : Vec Ideal S1x128 .f32) (x8 : Vec Ideal S128x1024 .bf16) (h : Fin 4) (r : Fin 2048) (l : Fin 128) :
    kB x1 x2 x3 x4 x6 x8 h (ix2 r l) = ∑ x : Fin 128, ckvB x1 x6 (ix2 r x) * wkH x8 h (ix2 x l) + krB x2 x3 x4 (ix2 r l) := by
  pointwise [kB, k0_pay29]

theorem vB_apply (x1 : Vec Ideal S1x2048x384 .f32) (x6 : Vec Ideal S1x128 .f32) (x8 : Vec Ideal S128x1024 .bf16) (h : Fin 4) (r : Fin 2048) (l : Fin 128) :
    vB x1 x6 x8 h (ix2 r l) = ∑ x : Fin 128, ckvB x1 x6 (ix2 r x) * wvH x8 h (ix2 x l) := by
  pointwise [vB, k0_pay27]

/-- A head's mean in a tile, and another head's added to it. -/
theorem outOne_apply (Q K V : Vec Ideal S2048x512 .bf16) (T h : Fin 4) (r : Fin 512) (l : Fin 128) :
    outOne Q K V T h (ix3 0 r l) = Cert.Mla.meanTwo (fun j : Fin 2048 => ∑ x : Fin 128, Qt Q T h (ix2 r x) * Kh K h (ix2 j x)) (fun j => Kh V h (ix2 j l)) := by
  pointwise [outOne, avS, eS, lS, k0_pay3, k0_pay19, k0_pay42, k0_pay43, k0_pay44]
  rw [ofBits_ninf]
  rfl

theorem outPair_apply (Q K V : Vec Ideal S2048x512 .bf16) (T h h' : Fin 4) (r : Fin 512) (l : Fin 128) :
    outPair Q K V T h h' (ix3 0 r l) = Cert.Mla.meanTwo (fun j : Fin 2048 => ∑ x : Fin 128, Qt Q T h (ix2 r x) * Kh K h (ix2 j x)) (fun j => Kh V h (ix2 j l))
      + Cert.Mla.meanTwo (fun j : Fin 2048 => ∑ x : Fin 128, Qt Q T h' (ix2 r x) * Kh K h' (ix2 j x)) (fun j => Kh V h' (ix2 j l)) := by
  rw [← outOne_apply, ← outOne_apply]
  pointwise [outPair, addS, outOne, avS, k0_pay8, k0_pay3]
  done

/-- A packed head's columns are the head. -/
theorem Kh_packed (p : Fin 4 → Vec Ideal S2048x128 .bf16) (h : Fin 4) (j : Fin 2048) (l : Fin 128) : Kh (packed p) h (ix2 j l) = p h (ix2 j l) := by
  show p ⟨(128 * h.val + l.val) / 128, _⟩ (ValueIdx.ix2 j ⟨(128 * h.val + l.val) % 128, _⟩) = _
  rw [← ix2_eq_valueIdx]
  exact congrArg₂ (fun a b => p a (ix2 j b)) (Fin.ext (by show (128 * h.val + l.val) / 128 = h.val; omega)) (Fin.ext (by show (128 * h.val + l.val) % 128 = l.val; omega))

/-- A packed head's tile is the head's rows. -/
theorem Qt_packed (p : Fin 4 → Vec Ideal S2048x128 .bf16) (T h : Fin 4) (r : Fin 512) (l : Fin 128) :
    Qt (packed p) T h (ix2 r l) = p h (ix2 ⟨512 * T.val + r.val, by omega⟩ l) := by
  show p ⟨(128 * h.val + l.val) / 128, _⟩ (ValueIdx.ix2 ⟨512 * T.val + r.val, _⟩ ⟨(128 * h.val + l.val) % 128, _⟩) = _
  exact congrArg₂ (fun a b => p a b) (Fin.ext (by show (128 * h.val + l.val) / 128 = h.val; omega)) ((ix2_eq_valueIdx _ _).symm.trans (congrArg (ix2 _) (Fin.ext (by show (128 * h.val + l.val) % 128 = l.val; omega))))

/-- The result block at a row and a lane: the sum of the means of the lane's two heads. -/
theorem outB_apply (x1 : Vec Ideal S1x2048x384 .f32) (x2 : Vec Ideal S1x2048x128 .f32) (x3 x4 : Vec Ideal S2048x128 .f32) (x5 : Vec Ideal S1x256 .f32) (x6 : Vec Ideal S1x128 .f32) (x7 : Vec Ideal S256x512 .bf16) (x8 : Vec Ideal S128x1024 .bf16)
    (p : Fin 2) (r : Fin 2048) (l : Fin 128) :
    outB x1 x2 x3 x4 x5 x6 x7 x8 (ix3 0 r ⟨128 * p.val + l.val, by omega⟩)
      = Cert.Mla.meanTwo (fun j : Fin 2048 => ∑ x : Fin 128, qB x1 x3 x4 x5 x7 ⟨2 * p.val, by omega⟩ (ix2 r x) * kB x1 x2 x3 x4 x6 x8 ⟨2 * p.val, by omega⟩ (ix2 j x)) (fun j => vB x1 x6 x8 ⟨2 * p.val, by omega⟩ (ix2 j l))
        + Cert.Mla.meanTwo (fun j : Fin 2048 => ∑ x : Fin 128, qB x1 x3 x4 x5 x7 ⟨2 * p.val + 1, by omega⟩ (ix2 r x) * kB x1 x2 x3 x4 x6 x8 ⟨2 * p.val + 1, by omega⟩ (ix2 j x)) (fun j => vB x1 x6 x8 ⟨2 * p.val + 1, by omega⟩ (ix2 j l)) := by
  have hr : (⟨512 * (r.val / 512) + r.val % 512, by omega⟩ : Fin 2048) = r := Fin.ext (by show 512 * (r.val / 512) + r.val % 512 = r.val; omega)
  have key : ∀ h h' : Fin 4, outPair (packed (qB x1 x3 x4 x5 x7)) (packed (kB x1 x2 x3 x4 x6 x8)) (packed (vB x1 x6 x8)) ⟨r.val / 512, by omega⟩ h h' (ix3 0 ⟨r.val % 512, by omega⟩ l)
      = Cert.Mla.meanTwo (fun j : Fin 2048 => ∑ x : Fin 128, qB x1 x3 x4 x5 x7 h (ix2 r x) * kB x1 x2 x3 x4 x6 x8 h (ix2 j x)) (fun j => vB x1 x6 x8 h (ix2 j l))
        + Cert.Mla.meanTwo (fun j : Fin 2048 => ∑ x : Fin 128, qB x1 x3 x4 x5 x7 h' (ix2 r x) * kB x1 x2 x3 x4 x6 x8 h' (ix2 j x)) (fun j => vB x1 x6 x8 h' (ix2 j l)) := fun h h' => by
    rw [outPair_apply]
    simp only [Kh_packed, Qt_packed, hr]
  obtain ⟨p, hp⟩ := p
  obtain rfl | rfl : p = 0 ∨ p = 1 := by omega
  · refine Eq.trans ?_ (key 0 1)
    refine (dif_pos (show 128 * 0 + l.val < 128 by omega)).trans ?_
    exact congrArg (outPair _ _ _ _ _ _) ((ix3_eq_valueIdx _ _ _).symm.trans (congrArg (ix3 0 _) (Fin.ext (by show 128 * 0 + l.val = l.val; omega))))
  · refine Eq.trans ?_ (key 2 3)
    refine (dif_neg (show ¬ 128 * 1 + l.val < 128 by omega)).trans ?_
    exact congrArg (outPair _ _ _ _ _ _) ((ix3_eq_valueIdx _ _ _).symm.trans (congrArg (ix3 0 _) (Fin.ext (by show 128 * 1 + l.val - 128 = l.val; omega))))

end Cert.KernelIdeal.Hand

end

end
-- ==== Proof.KI.Arrays.lean ====
module

public import proofs.«01_k».proof.Proof.Gen.KernelIdeal.Frame
public import Idealize.ShloMosaic.Lib.Pointwise
public import Idealize.ShloMosaic.Lib.MatmulPlain

@[expose] public section

set_option maxRecDepth 16384

noncomputable section

namespace Cert.KernelIdeal.Hand

open Cert.KernelIdeal Cert.KernelIdeal.Gen
open Idealize.ShloMosaic
open Idealize.ShloMosaic.StableHlo Idealize.ShloMosaic.TcCoe

/-- The angle of each position and frequency. -/
def hANG : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

/-- The cosine and the sine of each angle. -/
def hCOS : FVec Ideal S2048x16 .f32 := Host.cos hANG
def hSIN : FVec Ideal S2048x16 .f32 := Host.sin hANG

/-- The lane table of factors of a lane itself. -/
def hCT (C : FVec Ideal S2048x16 .f32) : FVec Ideal S2048x128 .f32 :=
  concatenate S2048x128 1 [⟨S2048x64, broadcastInDim S2048x64 ![] bcast_S_S2048x64 (constant S_ .f32 0x3F800000#32)⟩, ⟨S2048x16, C⟩, ⟨S2048x16, C⟩, ⟨S2048x32, broadcastInDim S2048x32 ![] bcast_S_S2048x32 (constant S_ .f32 0x00000000#32)⟩] concatenates_S2048x64_S2048x16_S2048x16_S2048x32_S2048x128_d1

/-- The lane table of factors of the lane sixteen further on. -/
def hST (S : FVec Ideal S2048x16 .f32) : FVec Ideal S2048x128 .f32 :=
  concatenate S2048x128 1 [⟨S2048x64, broadcastInDim S2048x64 ![] bcast_S_S2048x64 (constant S_ .f32 0x00000000#32)⟩, ⟨S2048x16, Host.negf S⟩, ⟨S2048x16, S⟩, ⟨S2048x32, broadcastInDim S2048x32 ![] bcast_S_S2048x32 (constant S_ .f32 0x00000000#32)⟩] concatenates_S2048x64_S2048x16_S2048x16_S2048x32_S2048x128_d1

/-- The two latents side by side. -/
def hX (a0 : FVec Ideal S32x2048x256 .f32) (a1 : FVec Ideal S32x2048x128 .f32) : FVec Ideal S32x2048x384 .f32 :=
  concatenate S32x2048x384 2 [⟨S32x2048x256, a0⟩, ⟨S32x2048x128, a1⟩] concatenates_S32x2048x256_S32x2048x128_S32x2048x384_d2

/-- The block of lanes that holds the shared key. -/
def hM (a2 : FVec Ideal S32x2048x32 .f32) (a3 : FVec Ideal S32x2048x8 .f32) : FVec Ideal S32x2048x128 .f32 :=
  concatenate S32x2048x128 2 [⟨S32x2048x8, a3⟩, ⟨S32x2048x56, broadcastInDim S32x2048x56 ![] bcast_S_S32x2048x56 (constant S_ .f32 0x00000000#32)⟩, ⟨S32x2048x32, a2⟩, ⟨S32x2048x16, extractStridedSlice S32x2048x16 ![0, 0, 0] a2 slices_S32x2048x32_S32x2048x16_0_0_0⟩, ⟨S32x2048x16, broadcastInDim S32x2048x16 ![] bcast_S_S32x2048x16 (constant S_ .f32 0x00000000#32)⟩] concatenates_S32x2048x8_S32x2048x56_S32x2048x32_S32x2048x16_S32x2048x16_S32x2048x128_d2

/-- The query weights of the heads, each in lanes of its own. -/
def hWQ (a6 : FVec Ideal S256x384 .f32) : FVec Ideal S256x512 .bf16 :=
  truncf .bf16 (shapeCast S256x512 (concatenate S256x4x128 2 [⟨S256x4x96, shapeCast S256x4x96 a6 shapeCasts_S256x384_S256x4x96⟩, ⟨S256x4x16, extractStridedSlice S256x4x16 ![0, 0, 64] (shapeCast S256x4x96 a6 shapeCasts_S256x384_S256x4x96) slices_S256x4x96_S256x4x16_0_0_64⟩, ⟨S256x4x16, broadcastInDim S256x4x16 ![] bcast_S_S256x4x16 (constant S_ .f32 0x00000000#32)⟩] concatenates_S256x4x96_S256x4x16_S256x4x16_S256x4x128_d2) shapeCasts_S256x4x128_S256x512) bitsLt_bf16_f32

/-- The key half and the value half of one head's columns. -/
def hKV (a7 : FVec Ideal S128x512 .f32) : FVec Ideal S128x4x128 .f32 := shapeCast S128x4x128 a7 shapeCasts_S128x512_S128x4x128

def hK (a7 : FVec Ideal S128x512 .f32) : FVec Ideal S128x4x128 .f32 :=
  concatenate S128x4x128 2 [⟨S128x4x64, extractStridedSlice S128x4x64 ![0, 0, 0] (hKV a7) slices_S128x4x128_S128x4x64_0_0_0⟩, ⟨S128x4x64, broadcastInDim S128x4x64 ![] bcast_S_S128x4x64 (constant S_ .f32 0x00000000#32)⟩] concatenates_S128x4x64_S128x4x64_S128x4x128_d2

/-- Two, as the remainder's divisor. -/
def hTwo : IVec S_ 32 := select (cmpi .eq (constantI S_ 32 2#32) (constantI S_ 32 0#32)) (constantI S_ 32 1#32) (constantI S_ 32 2#32)

/-- The remainder of a head's number by two, before its sign is mended. -/
def hRem : IVec S4 32 := Host.remsi (iotaInDim S4 32 0) (broadcastInDim S4 ![] bcast_S_S4 hTwo)

/-- Whether a head's number is odd. -/
def hOdd : IVec S1x4x1 1 :=
  broadcastInDim S1x4x1 ![1] bcast_S4_S1x4x1_1 (cmpi .eq
    (select (andi (cmpi .ne (cmpi .slt hRem (broadcastInDim S4 ![] bcast_S_S4 (constantI S_ 32 0#32))) (broadcastInDim S4 ![] bcast_S_S4 (cmpi .slt hTwo (constantI S_ 32 0#32))))
        (cmpi .ne hRem (broadcastInDim S4 ![] bcast_S_S4 (constantI S_ 32 0#32))))
      (addi hRem (broadcastInDim S4 ![] bcast_S_S4 hTwo)) hRem)
    (broadcastInDim S4 ![] bcast_S_S4 (constantI S_ 32 1#32)))

theorem hOdd_apply (h : Fin 4) : hOdd (ix3 0 h 0) = if h.val % 2 = 1 then 1#1 else 0#1 := by
  revert h
  decide +kernel

/-- The value columns of a head, in the half of the lanes that its number's parity names. -/
def hV (o : IVec S1x4x1 1) (a7 : FVec Ideal S128x512 .f32) : FVec Ideal S128x4x128 .f32 :=
  concatenate S128x4x128 2 [
    ⟨S128x4x64, select (broadcastInDim S128x4x64 ![0, 1, 2] bcast_S1x4x1_S128x4x64_0_1_2 o) (broadcastInDim S128x4x64 ![] bcast_S_S128x4x64 (constant S_ .f32 0x00000000#32)) (extractStridedSlice S128x4x64 ![0, 0, 64] (hKV a7) slices_S128x4x128_S128x4x64_0_0_64)⟩,
    ⟨S128x4x64, select (broadcastInDim S128x4x64 ![0, 1, 2] bcast_S1x4x1_S128x4x64_0_1_2 o) (extractStridedSlice S128x4x64 ![0, 0, 64] (hKV a7) slices_S128x4x128_S128x4x64_0_0_64) (broadcastInDim S128x4x64 ![] bcast_S_S128x4x64 (constant S_ .f32 0x00000000#32))⟩] concatenates_S128x4x64_S128x4x64_S128x4x128_d2

/-- The key and the value weights, each head in lanes of its own. -/
def hWKV (o : IVec S1x4x1 1) (a7 : FVec Ideal S128x512 .f32) : FVec Ideal S128x1024 .bf16 :=
  truncf .bf16 (concatenate S128x1024 1 [⟨S128x512, shapeCast S128x512 (hK a7) shapeCasts_S128x4x128_S128x512⟩, ⟨S128x512, shapeCast S128x512 (hV o a7) shapeCasts_S128x4x128_S128x512⟩] concatenates_S128x512_S128x512_S128x1024_d1) bitsLt_bf16_f32

/-- The host arrays at an index. -/
theorem hCT_apply (C : FVec Ideal S2048x16 .f32) (r : Fin 2048) (l : Fin 128) : hCT C (ix2 r l) =
    if h : l.val < 64 then 1 else if h : l.val - 64 < 16 then C (ix2 r ⟨l.val - 64, h⟩) else if h : l.val - 64 - 16 < 16 then C (ix2 r ⟨l.val - 64 - 16, h⟩) else 0 := by
  pointwise [hCT]
theorem hST_apply (C : FVec Ideal S2048x16 .f32) (r : Fin 2048) (l : Fin 128) : hST C (ix2 r l) =
    if h : l.val < 64 then 0 else if h : l.val - 64 < 16 then -C (ix2 r ⟨l.val - 64, h⟩) else if h : l.val - 64 - 16 < 16 then C (ix2 r ⟨l.val - 64 - 16, h⟩) else 0 := by
  pointwise [hST]
theorem hX_apply (a : FVec Ideal S32x2048x256 .f32) (b : FVec Ideal S32x2048x128 .f32) (n : Fin 32) (r : Fin 2048) (l : Fin 384) : hX a b (ix3 n r l) =
    if h : l.val < 256 then a (ix3 n r ⟨l.val, h⟩) else b (ix3 n r ⟨l.val - 256, by omega⟩) := by
  pointwise [hX]
theorem hM_apply (a : FVec Ideal S32x2048x32 .f32) (b : FVec Ideal S32x2048x8 .f32) (n : Fin 32) (r : Fin 2048) (l : Fin 128) : hM a b (ix3 n r l) =
    if h : l.val < 8 then b (ix3 n r ⟨l.val, h⟩) else if h : l.val - 8 < 56 then 0 else if h : l.val - 8 - 56 < 32 then a (ix3 n r ⟨l.val - 8 - 56, h⟩)
      else if h : l.val - 8 - 56 - 32 < 16 then a (ix3 n r ⟨l.val - 8 - 56 - 32, by omega⟩) else 0 := by
  pointwise [hM]
theorem hWQ_apply (a : FVec Ideal S256x384 .f32) (r : Fin 256) (l : Fin 512) : hWQ a (ix2 r l) =
    if h : l.val % 128 < 96 then a (ix2 r ⟨l.val / 128 * 96 + l.val % 128, by omega⟩)
    else if h : l.val % 128 - 96 < 16 then a (ix2 r ⟨l.val / 128 * 96 + (64 + (l.val % 128 - 96)), by omega⟩) else 0 := by
  pointwise [hWQ]
theorem hKV_apply (a : FVec Ideal S128x512 .f32) (r : Fin 128) (h : Fin 4) (l : Fin 128) : hKV a (ix3 r h l) = a (ix2 r ⟨h.val * 128 + l.val, by omega⟩) := by
  pointwise [hKV]
theorem hK_apply (a : FVec Ideal S128x512 .f32) (r : Fin 128) (h : Fin 4) (l : Fin 128) : hK a (ix3 r h l) = if _ : l.val < 64 then hKV a (ix3 r h l) else 0 := by
  pointwise [hK]
theorem hV_apply (o : IVec S1x4x1 1) (a : FVec Ideal S128x512 .f32) (r : Fin 128) (h : Fin 4) (l : Fin 128) : hV o a (ix3 r h l) =
    if _ : l.val < 64 then Scalar.select (o (ix3 0 h 0)) 0 (hKV a (ix3 r h ⟨64 + l.val, by omega⟩))
    else Scalar.select (o (ix3 0 h 0)) (hKV a (ix3 r h ⟨64 + (l.val - 64), by omega⟩)) 0 := by
  pointwise [hV]
theorem hWKV_apply (o : IVec S1x4x1 1) (a : FVec Ideal S128x512 .f32) (r : Fin 128) (l : Fin 1024) : hWKV o a (ix2 r l) =
    if h : l.val < 512 then hK a (ix3 r ⟨l.val / 128, by omega⟩ ⟨l.val % 128, by omega⟩)
    else hV o a (ix3 r ⟨(l.val - 512) / 128, by omega⟩ ⟨(l.val - 512) % 128, by omega⟩) := by
  pointwise [hWKV]

end Cert.KernelIdeal.Hand

end

end
-- ==== Proof.Ref.Term.lean ====
module

public import proofs.«01_k».proof.Proof.Gen.ReferenceIdeal.Run
public import Idealize.ShloMosaic.Lib.Pointwise
public import Idealize.ShloMosaic.Lib.MatmulPlain

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

/-- The angle of each position and frequency. -/
def rANG : FVec Ideal S2048x16 .f32 :=
  mulf (broadcastInDim S2048x16 ![0, 1] bcast_S2048x1_S2048x16_0_1 (broadcastInDim S2048x1 ![0] bcast_S2048_S2048x1_0 (sitofp .f32 (iotaInDim S2048 32 0)))) (broadcastInDim S2048x16 ![0, 1] bcast_S1x16_S2048x16_0_1 (broadcastInDim S1x16 ![1] bcast_S16_S1x16_1 (Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32))))))

/-- The cosine of each angle. -/
def rCOS : FVec Ideal S2048x16 .f32 :=
  Host.cos rANG

/-- The sine of each angle. -/
def rSIN : FVec Ideal S2048x16 .f32 :=
  Host.sin rANG

/-- The query latents normalised. -/
def rCQ (a0 : FVec Ideal S32x2048x256 .f32) (a4 : FVec Ideal S256 .f32) : FVec Ideal S32x2048x256 .f32 :=
  mulf (mulf a0 (broadcastInDim S32x2048x256 ![0, 1, 2] bcast_S32x2048x1_S32x2048x256_0_1_2 (Host.rsqrt (addf (Host.divf (broadcastInDim S32x2048x1 ![0, 1] bcast_S32x2048_S32x2048x1_0_1 (Host.reduceAdd (mulf a0 a0) (constant S_ .f32 0x00000000#32) reducesTo_S32x2048x256_S32x2048_d2 h_S_)) (broadcastInDim S32x2048x1 ![] bcast_S_S32x2048x1 (constant S_ .f32 0x43800000#32))) (broadcastInDim S32x2048x1 ![] bcast_S_S32x2048x1 (constant S_ .f32 0x358637BD#32)))))) (broadcastInDim S32x2048x256 ![0, 1, 2] bcast_S1x1x256_S32x2048x256_0_1_2 (broadcastInDim S1x1x256 ![2] bcast_S256_S1x1x256_2 a4))

/-- The key and value latents normalised. -/
def rCK (a1 : FVec Ideal S32x2048x128 .f32) (a5 : FVec Ideal S128 .f32) : FVec Ideal S32x2048x128 .f32 :=
  mulf (mulf a1 (broadcastInDim S32x2048x128 ![0, 1, 2] bcast_S32x2048x1_S32x2048x128_0_1_2 (Host.rsqrt (addf (Host.divf (broadcastInDim S32x2048x1 ![0, 1] bcast_S32x2048_S32x2048x1_0_1 (Host.reduceAdd (mulf a1 a1) (constant S_ .f32 0x00000000#32) reducesTo_S32x2048x128_S32x2048_d2 h_S_)) (broadcastInDim S32x2048x1 ![] bcast_S_S32x2048x1 (constant S_ .f32 0x43000000#32))) (broadcastInDim S32x2048x1 ![] bcast_S_S32x2048x1 (constant S_ .f32 0x358637BD#32)))))) (broadcastInDim S32x2048x128 ![0, 1, 2] bcast_S1x1x128_S32x2048x128_0_1_2 (broadcastInDim S1x1x128 ![2] bcast_S128_S1x1x128_2 a5))

/-- The queries of every head before the rotation. -/
def rUQ (CQ : FVec Ideal S32x2048x256 .f32) (a6 : FVec Ideal S256x384 .f32) : FVec Ideal S32x2048x4x96 .f32 :=
  shapeCast _ (Host.dotGeneral dot_S32x2048x256_S256x384_S32x2048x384_2_0_01_1_n_n none CQ a6) shapeCasts_S32x2048x384_S32x2048x4x96

/-- The keys and the values of every head. -/
def rUK (CK : FVec Ideal S32x2048x128 .f32) (a7 : FVec Ideal S128x512 .f32) : FVec Ideal S32x2048x4x128 .f32 :=
  shapeCast _ (Host.dotGeneral dot_S32x2048x128_S128x512_S32x2048x512_2_0_01_1_n_n none CK a7) shapeCasts_S32x2048x512_S32x2048x4x128

/-- The shared key lanes rotated. -/
def rKR (a2 : FVec Ideal S32x2048x32 .f32) (COS SIN : FVec Ideal S2048x16 .f32) : FVec Ideal S32x2048x32 .f32 :=
  concatenate S32x2048x32 2 [⟨S32x2048x16, (subf (mulf (extractStridedSlice S32x2048x16 ![0, 0, 0] a2 slices_S32x2048x32_S32x2048x16_0_0_0) (broadcastInDim S32x2048x16 ![0, 1, 2] bcast_S1x2048x16_S32x2048x16_0_1_2 (broadcastInDim S1x2048x16 ![1, 2] bcast_S2048x16_S1x2048x16_1_2 COS))) (mulf (extractStridedSlice S32x2048x16 ![0, 0, 16] a2 slices_S32x2048x32_S32x2048x16_0_0_16) (broadcastInDim S32x2048x16 ![0, 1, 2] bcast_S1x2048x16_S32x2048x16_0_1_2 (broadcastInDim S1x2048x16 ![1, 2] bcast_S2048x16_S1x2048x16_1_2 SIN))))⟩, ⟨S32x2048x16, (addf (mulf (extractStridedSlice S32x2048x16 ![0, 0, 16] a2 slices_S32x2048x32_S32x2048x16_0_0_16) (broadcastInDim S32x2048x16 ![0, 1, 2] bcast_S1x2048x16_S32x2048x16_0_1_2 (broadcastInDim S1x2048x16 ![1, 2] bcast_S2048x16_S1x2048x16_1_2 COS))) (mulf (extractStridedSlice S32x2048x16 ![0, 0, 0] a2 slices_S32x2048x32_S32x2048x16_0_0_0) (broadcastInDim S32x2048x16 ![0, 1, 2] bcast_S1x2048x16_S32x2048x16_0_1_2 (broadcastInDim S1x2048x16 ![1, 2] bcast_S2048x16_S1x2048x16_1_2 SIN))))⟩] concatenates_S32x2048x16_S32x2048x16_S32x2048x32_d2

/-- The rotary lanes of the queries rotated. -/
def rQR (UQ : FVec Ideal S32x2048x4x96 .f32) (COS SIN : FVec Ideal S2048x16 .f32) : FVec Ideal S32x2048x4x32 .f32 :=
  concatenate S32x2048x4x32 3 [⟨S32x2048x4x16, (subf (mulf (extractStridedSlice S32x2048x4x16 ![0, 0, 0, 0] (extractStridedSlice S32x2048x4x32 ![0, 0, 0, 64] UQ slices_S32x2048x4x96_S32x2048x4x32_0_0_0_64) slices_S32x2048x4x32_S32x2048x4x16_0_0_0_0) (broadcastInDim S32x2048x4x16 ![0, 1, 2, 3] bcast_S1x2048x1x16_S32x2048x4x16_0_1_2_3 (broadcastInDim S1x2048x1x16 ![1, 2, 3] bcast_S2048x1x16_S1x2048x1x16_1_2_3 (shapeCast _ COS shapeCasts_S2048x16_S2048x1x16)))) (mulf (extractStridedSlice S32x2048x4x16 ![0, 0, 0, 16] (extractStridedSlice S32x2048x4x32 ![0, 0, 0, 64] UQ slices_S32x2048x4x96_S32x2048x4x32_0_0_0_64) slices_S32x2048x4x32_S32x2048x4x16_0_0_0_16) (broadcastInDim S32x2048x4x16 ![0, 1, 2, 3] bcast_S1x2048x1x16_S32x2048x4x16_0_1_2_3 (broadcastInDim S1x2048x1x16 ![1, 2, 3] bcast_S2048x1x16_S1x2048x1x16_1_2_3 (shapeCast _ SIN shapeCasts_S2048x16_S2048x1x16)))))⟩, ⟨S32x2048x4x16, (addf (mulf (extractStridedSlice S32x2048x4x16 ![0, 0, 0, 16] (extractStridedSlice S32x2048x4x32 ![0, 0, 0, 64] UQ slices_S32x2048x4x96_S32x2048x4x32_0_0_0_64) slices_S32x2048x4x32_S32x2048x4x16_0_0_0_16) (broadcastInDim S32x2048x4x16 ![0, 1, 2, 3] bcast_S1x2048x1x16_S32x2048x4x16_0_1_2_3 (broadcastInDim S1x2048x1x16 ![1, 2, 3] bcast_S2048x1x16_S1x2048x1x16_1_2_3 (shapeCast _ COS shapeCasts_S2048x16_S2048x1x16)))) (mulf (extractStridedSlice S32x2048x4x16 ![0, 0, 0, 0] (extractStridedSlice S32x2048x4x32 ![0, 0, 0, 64] UQ slices_S32x2048x4x96_S32x2048x4x32_0_0_0_64) slices_S32x2048x4x32_S32x2048x4x16_0_0_0_0) (broadcastInDim S32x2048x4x16 ![0, 1, 2, 3] bcast_S1x2048x1x16_S32x2048x4x16_0_1_2_3 (broadcastInDim S1x2048x1x16 ![1, 2, 3] bcast_S2048x1x16_S1x2048x1x16_1_2_3 (shapeCast _ SIN shapeCasts_S2048x16_S2048x1x16)))))⟩] concatenates_S32x2048x4x16_S32x2048x4x16_S32x2048x4x32_d3

/-- The scaled scores. -/
def rSC (UQ : FVec Ideal S32x2048x4x96 .f32) (UK : FVec Ideal S32x2048x4x128 .f32) (KR : FVec Ideal S32x2048x32 .f32) (QR : FVec Ideal S32x2048x4x32 .f32) : FVec Ideal S32x4x2048x2048 .f32 :=
  mulf (addf (Host.dotGeneral dot_S32x2048x4x64_S32x2048x4x64_S32x4x2048x2048_3_3_1_1_02_02 none (extractStridedSlice S32x2048x4x64 ![0, 0, 0, 0] UQ slices_S32x2048x4x96_S32x2048x4x64_0_0_0_0) (extractStridedSlice S32x2048x4x64 ![0, 0, 0, 0] UK slices_S32x2048x4x128_S32x2048x4x64_0_0_0_0)) (transpose S32x4x2048x2048 [0, 3, 2, 1] (Host.dotGeneral dot_S32x2048x32_S32x2048x4x32_S32x2048x2048x4_2_3_1_12_0_0 none KR QR) transposes_S32x2048x2048x4_S32x4x2048x2048_0_3_2_1)) (broadcastInDim S32x4x2048x2048 ![] bcast_S_S32x4x2048x2048 (Host.divf (constant S_ .f32 0x3F800000#32) (Host.sqrt (constant S_ .f32 0x42C00000#32))))

/-- The exponentials of the scores less their row's greatest. -/
def rEX (SC : FVec Ideal S32x4x2048x2048 .f32) : FVec Ideal S32x4x2048x2048 .f32 :=
  Host.exp (subf SC (broadcastInDim S32x4x2048x2048 ![0, 1, 2, 3] bcast_S32x4x2048x1_S32x4x2048x2048_0_1_2_3 (broadcastInDim S32x4x2048x1 ![0, 1, 2] bcast_S32x4x2048_S32x4x2048x1_0_1_2 (maximumf (broadcastInDim S32x4x2048 ![] bcast_S_S32x4x2048 (constant S_ .f32 0xFF800000#32)) (Host.reduce FloatOps.maximumf SC (constant S_ .f32 0xFF800000#32) reducesTo_S32x4x2048x2048_S32x4x2048_d3 h_S_)))))

/-- The attention weights. -/
def rPR (EX : FVec Ideal S32x4x2048x2048 .f32) : FVec Ideal S32x4x2048x2048 .f32 :=
  Host.divf EX (broadcastInDim S32x4x2048x2048 ![0, 1, 2, 3] bcast_S32x4x2048x1_S32x4x2048x2048_0_1_2_3 (broadcastInDim S32x4x2048x1 ![0, 1, 2] bcast_S32x4x2048_S32x4x2048x1_0_1_2 (Host.reduceAdd EX (constant S_ .f32 0x00000000#32) reducesTo_S32x4x2048x2048_S32x4x2048_d3 h_S_)))

/-- The result from values and weights. -/
def rOUT (UK : FVec Ideal S32x2048x4x128 .f32) (PR : FVec Ideal S32x4x2048x2048 .f32) : FVec Ideal S32x2048x256 .f32 :=
  shapeCast _ (transpose S32x2048x4x64 [0, 3, 1, 2] (Host.dotGeneral dot_S32x2048x4x64_S32x4x2048x2048_S32x4x64x2048_1_3_3_2_02_01 none (extractStridedSlice S32x2048x4x64 ![0, 0, 0, 64] UK slices_S32x2048x4x128_S32x2048x4x64_0_0_0_64) PR) transposes_S32x4x64x2048_S32x2048x4x64_0_3_1_2) shapeCasts_S32x2048x4x64_S32x2048x256

/-- The reference's result is made by these steps. -/
theorem res_eq (m : (ℓ : Loc nD τ sig) → Buf (Elt Ideal) ℓ) (c : Dev nD) :
    res_main_v109 m c =
      rOUT (rUK (rCK (m ((c.tc : Thread nD τ).loc main_arg1)) (m ((c.tc : Thread nD τ).loc main_arg5))) (m ((c.tc : Thread nD τ).loc main_arg7)))
        (rPR (rEX (rSC (rUQ (rCQ (m ((c.tc : Thread nD τ).loc main_arg0)) (m ((c.tc : Thread nD τ).loc main_arg4))) (m ((c.tc : Thread nD τ).loc main_arg6)))
          (rUK (rCK (m ((c.tc : Thread nD τ).loc main_arg1)) (m ((c.tc : Thread nD τ).loc main_arg5))) (m ((c.tc : Thread nD τ).loc main_arg7)))
          (rKR (m ((c.tc : Thread nD τ).loc main_arg2)) rCOS rSIN)
          (rQR (rUQ (rCQ (m ((c.tc : Thread nD τ).loc main_arg0)) (m ((c.tc : Thread nD τ).loc main_arg4))) (m ((c.tc : Thread nD τ).loc main_arg6))) rCOS rSIN)))) := by
  unfold res_main_v109
  rfl

end Cert.ReferenceIdeal.Hand

end

end
-- ==== Proof.Ref.Read.lean ====
module

public import proofs.«01_k».proof.Proof.Ref.Term
public import proofs.«01_k».proof.Proof.Math.Lanes
public import Idealize.ShloMosaic.Lib.Pointwise
public import Idealize.ShloMosaic.Lib.MatmulPlain

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

/-- The reference's operations, entry by entry. -/
theorem rCQ_apply (a0 a4) (b : Fin 32) (r : Fin 2048) (k : Fin 256) :
    rCQ a0 a4 (ix3 b r k) = a0 (ix3 b r k) * Ideal.rsqrt (Ideal.div (∑ x : Fin 256, a0 (ix3 b r x) * a0 (ix3 b r x)) (Ideal.ofBits .f32 1132462080#32) + Ideal.ofBits .f32 897988541#32) * a4 (ix1 k) := by
  pointwise [rCQ]

theorem rCK_apply (a1 a5) (b : Fin 32) (r : Fin 2048) (k : Fin 128) :
    rCK a1 a5 (ix3 b r k) = a1 (ix3 b r k) * Ideal.rsqrt (Ideal.div (∑ x : Fin 128, a1 (ix3 b r x) * a1 (ix3 b r x)) (Ideal.ofBits .f32 1124073472#32) + Ideal.ofBits .f32 897988541#32) * a5 (ix1 k) := by
  pointwise [rCK]

theorem rUQ_apply (CQ a6) (b : Fin 32) (r : Fin 2048) (h : Fin 4) (k : Fin 96) :
    rUQ CQ a6 (ix4 b r h k) = ∑ x : Fin 256, CQ (ix3 b r x) * a6 (ix2 x ⟨h.val * 96 + k.val, by omega⟩) := by
  pointwise [rUQ]

theorem rUK_apply (CK a7) (b : Fin 32) (r : Fin 2048) (h : Fin 4) (k : Fin 128) :
    rUK CK a7 (ix4 b r h k) = ∑ x : Fin 128, CK (ix3 b r x) * a7 (ix2 x ⟨h.val * 128 + k.val, by omega⟩) := by
  pointwise [rUK]

theorem rKR_apply (a C S) (b : Fin 32) (r : Fin 2048) (k : Fin 32) :
    rKR a C S (ix3 b r k) = Cert.Mla.rot (fun d => a (ix3 b r d)) (fun d => C (ix2 r d)) (fun d => S (ix2 r d)) k := by
  simp only [Cert.Mla.rot]
  pointwise [rKR]

theorem rQR_apply (a C S) (b : Fin 32) (r : Fin 2048) (h : Fin 4) (k : Fin 32) :
    rQR a C S (ix4 b r h k) = Cert.Mla.rot (fun d => a (ix4 b r h ⟨64 + d.val, by omega⟩)) (fun d => C (ix2 r d)) (fun d => S (ix2 r d)) k := by
  simp only [Cert.Mla.rot]
  pointwise [rQR]

theorem rSC_apply (a C S D) (b : Fin 32) (h : Fin 4) (r j : Fin 2048) :
    rSC a C S D (ix4 b h r j) = (∑ x : Fin 64, a (ix4 b r h ⟨x.val, by omega⟩) * C (ix4 b j h ⟨x.val, by omega⟩) + ∑ x : Fin 32, S (ix3 b j x) * D (ix4 b r h x)) * Ideal.div 1 (Ideal.sqrt (Ideal.ofBits .f32 1119879168#32)) := by
  pointwise [rSC]

/-- The largest score of a row. -/
def rM (SC : FVec Ideal S32x4x2048x2048 .f32) : FVec Ideal S32x4x2048 .f32 :=
  Host.reduce FloatOps.maximumf SC (constant S_ .f32 0xFF800000#32) reducesTo_S32x4x2048x2048_S32x4x2048_d3 h_S_

theorem rM_apply (a) (b : Fin 32) (h : Fin 4) (r : Fin 2048) :
    rM a (ix3 b h r) = Finset.fold max (Ideal.ofBits FTy.f32 4286578688#32) (fun x : Fin 2048 => a (ix4 b h r x)) Finset.univ := by
  pointwise [rM]

/-- The exponentials of the scores less a row's largest. -/
def rX (SC : FVec Ideal S32x4x2048x2048 .f32) (M : FVec Ideal S32x4x2048 .f32) : FVec Ideal S32x4x2048x2048 .f32 :=
  Host.exp (subf SC (broadcastInDim S32x4x2048x2048 ![0, 1, 2, 3] bcast_S32x4x2048x1_S32x4x2048x2048_0_1_2_3
    (broadcastInDim S32x4x2048x1 ![0, 1, 2] bcast_S32x4x2048_S32x4x2048x1_0_1_2
      (maximumf (broadcastInDim S32x4x2048 ![] bcast_S_S32x4x2048 (constant S_ .f32 0xFF800000#32)) M))))

theorem rX_apply (a M) (b : Fin 32) (h : Fin 4) (r j : Fin 2048) :
    rX a M (ix4 b h r j) = Ideal.exp (a (ix4 b h r j) - max (Ideal.ofBits FTy.f32 4286578688#32) (M (ix3 b h r))) := by
  pointwise [rX]

theorem rEX_eq (a) : rEX a = rX a (rM a) := rfl

theorem ninf : Ideal.ofBits FTy.f32 4286578688#32 = ⊥ := by
  simp [Ideal.ofBits, Ideal.ieee, -EReal.coe_mul]

theorem rEX_apply (a) (b : Fin 32) (h : Fin 4) (r j : Fin 2048) :
    rEX a (ix4 b h r j) = Ideal.exp (a (ix4 b h r j) - max ⊥ (Finset.fold max ⊥ (fun x : Fin 2048 => a (ix4 b h r x)) Finset.univ)) := by
  rw [rEX_eq, rX_apply, rM_apply, ninf]

theorem rPR_apply (a) (b : Fin 32) (h : Fin 4) (r j : Fin 2048) :
    rPR a (ix4 b h r j) = Ideal.div (a (ix4 b h r j)) (∑ x : Fin 2048, a (ix4 b h r x)) := by
  pointwise [rPR]

theorem rOUT_apply (a P) (b : Fin 32) (r : Fin 2048) (k : Fin 256) :
    rOUT a P (ix3 b r k) = ∑ x : Fin 2048, a (ix4 b x ⟨k.val / 64, by omega⟩ ⟨64 + k.val % 64, by omega⟩) * P (ix4 b ⟨k.val / 64, by omega⟩ r x) := by
  pointwise [rOUT]

/-- The result at a row and a lane: the mean of the lane's head's values by the softmax of the row's scores. -/
theorem rOUT_mean (a SC) (b : Fin 32) (r : Fin 2048) (k : Fin 256) :
    rOUT a (rPR (rEX SC)) (ix3 b r k) = Cert.Mla.meanSoft (fun j : Fin 2048 => SC (ix4 b ⟨k.val / 64, by omega⟩ r j)) (fun j => a (ix4 b j ⟨k.val / 64, by omega⟩ ⟨64 + k.val % 64, by omega⟩)) := by
  rw [rOUT_apply]
  simp only [rPR_apply, rEX_apply]
  rfl

theorem rANG_apply (r : Fin 2048) (k : Fin 16) :
    rANG (ix2 r k) = FloatOps.sitofp (F := Ideal) .f32 (BitVec.ofNat 32 r.val) * Ideal.pow (Ideal.ofBits .f32 1176256512#32)
      (Ideal.div (-(Ideal.ofBits .f32 1073741824#32 * FloatOps.sitofp (F := Ideal) .f32 (BitVec.ofNat 32 k.val))) (Ideal.ofBits .f32 1107296256#32)) := by
  pointwise [rANG]

theorem rCOS_apply (r : Fin 2048) (k : Fin 16) : rCOS (ix2 r k) = Ideal.cos (rANG (ix2 r k)) := by
  pointwise [rCOS]

theorem rSIN_apply (r : Fin 2048) (k : Fin 16) : rSIN (ix2 r k) = Ideal.sin (rANG (ix2 r k)) := by
  pointwise [rSIN]

/-- The constants. -/
theorem c256 : Ideal.ofBits FTy.f32 1132462080#32 = ((256 : ℝ) : EReal) := by
  simp [Ideal.ofBits, Ideal.ieee, -EReal.coe_mul]; norm_num
theorem c128 : Ideal.ofBits FTy.f32 1124073472#32 = ((128 : ℝ) : EReal) := by
  simp [Ideal.ofBits, Ideal.ieee, -EReal.coe_mul]; norm_num
theorem c96 : Ideal.ofBits FTy.f32 1119879168#32 = ((96 : ℝ) : EReal) := by
  simp [Ideal.ofBits, Ideal.ieee, -EReal.coe_mul]; norm_num
theorem c32 : Ideal.ofBits FTy.f32 1107296256#32 = ((32 : ℝ) : EReal) := by
  simp [Ideal.ofBits, Ideal.ieee, -EReal.coe_mul]; norm_num
theorem c2 : Ideal.ofBits FTy.f32 1073741824#32 = ((2 : ℝ) : EReal) := by
  simp [Ideal.ofBits, Ideal.ieee, -EReal.coe_mul]; norm_num
theorem c1e4 : Ideal.ofBits FTy.f32 1176256512#32 = ((10000 : ℝ) : EReal) := by
  simp [Ideal.ofBits, Ideal.ieee, -EReal.coe_mul]; norm_num
theorem cEps : ∃ e : ℝ, 0 < e ∧ Ideal.ofBits FTy.f32 897988541#32 = (e : EReal) := by
  refine ⟨_, ?_, by simp [Ideal.ofBits, Ideal.ieee, -EReal.coe_mul]; rfl⟩
  norm_num

/-- The angles, their cosines and their sines are real. -/
theorem rANG_isR (r : Fin 2048) (k : Fin 16) : Cert.Mla.IsR (rANG (ix2 r k)) := by
  rw [rANG_apply, c1e4, c2, c32]
  refine Cert.Mla.IsR.mul ⟨_, rfl⟩ ?_
  show Cert.Mla.IsR (Ideal.pow _ (Ideal.div (-(((2 : ℝ) : EReal) * ((_ : ℝ) : EReal))) _))
  rw [← EReal.coe_mul, ← EReal.coe_neg, Ideal.div_coe (by norm_num), ← EReal.coe_mul, Ideal.pow_coe_coe]
  exact ⟨_, rfl⟩

theorem rCOS_isR (r : Fin 2048) (k : Fin 16) : Cert.Mla.IsR (rCOS (ix2 r k)) := by
  obtain ⟨x, hx⟩ := rANG_isR r k
  rw [rCOS_apply, hx]
  exact ⟨_, rfl⟩

theorem rSIN_isR (r : Fin 2048) (k : Fin 16) : Cert.Mla.IsR (rSIN (ix2 r k)) := by
  obtain ⟨x, hx⟩ := rANG_isR r k
  rw [rSIN_apply, hx]
  exact ⟨_, rfl⟩

/-- The scale is the reciprocal root of 96. -/
theorem scale_eq : Ideal.div 1 (Ideal.sqrt (Ideal.ofBits FTy.f32 1119879168#32)) = (((Real.sqrt 96)⁻¹ : ℝ) : EReal) := by
  rw [c96, Ideal.sqrt_coe, if_neg (by norm_num), Ideal.div_coe (by positivity), one_mul, one_div]

/-- The normalised latents. -/
theorem rCQ_nrm (a0 a4) (b : Fin 32) (r : Fin 2048) (k : Fin 256) :
    rCQ a0 a4 (ix3 b r k) = Cert.Mla.nrm (fun x : Fin 256 => a0 (ix3 b r x)) (fun x => a4 (ix1 x)) (Ideal.ofBits .f32 1132462080#32) (Ideal.ofBits .f32 897988541#32) k := rCQ_apply a0 a4 b r k

theorem rCK_nrm (a1 a5) (b : Fin 32) (r : Fin 2048) (k : Fin 128) :
    rCK a1 a5 (ix3 b r k) = Cert.Mla.nrm (fun x : Fin 128 => a1 (ix3 b r x)) (fun x => a5 (ix1 x)) (Ideal.ofBits .f32 1124073472#32) (Ideal.ofBits .f32 897988541#32) k := rCK_apply a1 a5 b r k

theorem rCQ_isR (a0) {a4} (h4 : ∀ k : Fin 256, Cert.Mla.IsR (a4 (ix1 k))) (b : Fin 32) (r : Fin 2048) (k : Fin 256) : Cert.Mla.IsR (rCQ a0 a4 (ix3 b r k)) := by
  obtain ⟨e, he, hb⟩ := cEps
  rw [rCQ_nrm, c256, hb]
  exact Cert.Mla.nrm_isR _ _ h4 _ _ (by norm_num) he k

theorem rCK_isR (a1) {a5} (h5 : ∀ k : Fin 128, Cert.Mla.IsR (a5 (ix1 k))) (b : Fin 32) (r : Fin 2048) (k : Fin 128) : Cert.Mla.IsR (rCK a1 a5 (ix3 b r k)) := by
  obtain ⟨e, he, hb⟩ := cEps
  rw [rCK_nrm, c128, hb]
  exact Cert.Mla.nrm_isR _ _ h5 _ _ (by norm_num) he k

/-- The expanded lanes are real where the latents and the weights are. -/
theorem rUQ_isR {CQ a6} (hC : ∀ (b : Fin 32) (r : Fin 2048) (k : Fin 256), Cert.Mla.IsR (CQ (ix3 b r k))) (h6 : ∀ (x : Fin 256) (y : Fin 384), Cert.Mla.IsR (a6 (ix2 x y)))
    (b : Fin 32) (r : Fin 2048) (h : Fin 4) (k : Fin 96) : Cert.Mla.IsR (rUQ CQ a6 (ix4 b r h k)) := by
  rw [rUQ_apply]
  exact Cert.Mla.IsR.sum _ fun x => (hC _ _ _).mul (h6 _ _)

theorem rUK_isR {CK a7} (hC : ∀ (b : Fin 32) (r : Fin 2048) (k : Fin 128), Cert.Mla.IsR (CK (ix3 b r k))) (h7 : ∀ (x : Fin 128) (y : Fin 512), Cert.Mla.IsR (a7 (ix2 x y)))
    (b : Fin 32) (r : Fin 2048) (h : Fin 4) (k : Fin 128) : Cert.Mla.IsR (rUK CK a7 (ix4 b r h k)) := by
  rw [rUK_apply]
  exact Cert.Mla.IsR.sum _ fun x => (hC _ _ _).mul (h7 _ _)

end Cert.ReferenceIdeal.Hand

end

end
-- ==== Proof.KI.Bridge.lean ====
module

public import proofs.«01_k».proof.Proof.KI.Val
public import proofs.«01_k».proof.Proof.KI.Arrays
public import proofs.«01_k».proof.Proof.Ref.Read
public import Idealize.ShloMosaic.Lib.Pointwise
public import Idealize.ShloMosaic.Lib.MatmulPlain

@[expose] public section

set_option maxRecDepth 16384

noncomputable section

namespace Cert.KernelIdeal.Hand

open Cert.KernelIdeal Cert.KernelIdeal.Gen
open Idealize.ShloMosaic

open Cert.ReferenceIdeal.Hand (rANG rCOS rSIN rCQ rCK rUQ rUK rKR rQR rSC rEX rPR rOUT rCQ_apply rCK_apply rUQ_apply rUK_apply rKR_apply rQR_apply rSC_apply rOUT_mean
  rCOS_isR rSIN_isR rCQ_isR rCK_isR rUQ_isR rUK_isR scale_eq)
open Cert.Mla (IsR rot)

/-- The blocks that the kernel is given at batch entry `b`, and the arguments that are to be finite. -/
structure Given (b : Fin 32) (a0 : FVec Ideal S32x2048x256 .f32) (a1 : FVec Ideal S32x2048x128 .f32) (a2 : FVec Ideal S32x2048x32 .f32) (a3 : FVec Ideal S32x2048x8 .f32)
    (a4 : FVec Ideal S256 .f32) (a5 : FVec Ideal S128 .f32) (a6 : FVec Ideal S256x384 .f32) (a7 : FVec Ideal S128x512 .f32)
    (x1 : Vec Ideal S1x2048x384 .f32) (x2 : Vec Ideal S1x2048x128 .f32) (x3 x4 : Vec Ideal S2048x128 .f32) (x5 : Vec Ideal S1x256 .f32) (x6 : Vec Ideal S1x128 .f32)
    (x7 : Vec Ideal S256x512 .bf16) (x8 : Vec Ideal S128x1024 .bf16) : Prop where
  e1 : ∀ (r : Fin 2048) (l : Fin 384), x1 (ix3 0 r l) = hX a0 a1 (ix3 b r l)
  e2 : ∀ (r : Fin 2048) (l : Fin 128), x2 (ix3 0 r l) = hM a2 a3 (ix3 b r l)
  e3 : x3 = hCT hCOS
  e4 : x4 = hST hSIN
  e5 : x5 = shapeCast S1x256 a4 shapeCasts_S256_S1x256
  e6 : x6 = shapeCast S1x128 a5 shapeCasts_S128_S1x128
  e7 : x7 = hWQ a6
  e8 : x8 = hWKV hOdd a7
  f2 : ∀ (n : Fin 32) (r : Fin 2048) (l : Fin 32), IsR (a2 (ix3 n r l))
  f4 : ∀ k : Fin 256, IsR (a4 (ix1 k))
  f5 : ∀ k : Fin 128, IsR (a5 (ix1 k))
  f6 : ∀ (x : Fin 256) (y : Fin 384), IsR (a6 (ix2 x y))
  f7 : ∀ (x : Fin 128) (y : Fin 512), IsR (a7 (ix2 x y))

theorem row256 (a4 : FVec Ideal S256 .f32) (k : Fin 256) : (shapeCast S1x256 a4 shapeCasts_S256_S1x256 : FVec Ideal S1x256 .f32) (ix2 0 k) = a4 (ix1 k) := by
  pointwise []
theorem row128 (a5 : FVec Ideal S128 .f32) (k : Fin 128) : (shapeCast S1x128 a5 shapeCasts_S128_S1x128 : FVec Ideal S1x128 .f32) (ix2 0 k) = a5 (ix1 k) := by
  pointwise []

/-- The tables of angles are the reference's. -/
theorem hCOS_eq : hCOS = rCOS := rfl
theorem hSIN_eq : hSIN = rSIN := rfl

section
variable {b : Fin 32} {a0 : FVec Ideal S32x2048x256 .f32} {a1 : FVec Ideal S32x2048x128 .f32} {a2 : FVec Ideal S32x2048x32 .f32} {a3 : FVec Ideal S32x2048x8 .f32}
    {a4 : FVec Ideal S256 .f32} {a5 : FVec Ideal S128 .f32} {a6 : FVec Ideal S256x384 .f32} {a7 : FVec Ideal S128x512 .f32}
    {x1 : Vec Ideal S1x2048x384 .f32} {x2 : Vec Ideal S1x2048x128 .f32} {x3 x4 : Vec Ideal S2048x128 .f32} {x5 : Vec Ideal S1x256 .f32} {x6 : Vec Ideal S1x128 .f32}
    {x7 : Vec Ideal S256x512 .bf16} {x8 : Vec Ideal S128x1024 .bf16} (G : Given b a0 a1 a2 a3 a4 a5 a6 a7 x1 x2 x3 x4 x5 x6 x7 x8)
include G

/-- The normalised latents are the reference's. -/
theorem cq_eq (r : Fin 2048) (k : Fin 256) : cqB x1 x5 (ix2 r k) = rCQ a0 a4 (ix3 b r k) := by
  have e : ∀ k : Fin 256, x1 (ix3 0 r ⟨k.val, by omega⟩) = a0 (ix3 b r k) := fun k => by
    rw [G.e1, hX_apply, dif_pos k.isLt]
  rw [cqB_apply, rCQ_apply, G.e5, row256]
  simp only [e]

theorem ck_eq (r : Fin 2048) (k : Fin 128) : ckvB x1 x6 (ix2 r k) = rCK a1 a5 (ix3 b r k) := by
  have e : ∀ k : Fin 128, x1 (ix3 0 r ⟨256 + k.val, by omega⟩) = a1 (ix3 b r k) := fun k => by
    rw [G.e1, hX_apply, dif_neg (show ¬ 256 + k.val < 256 by omega)]
    exact congrArg (fun l => a1 (ix3 b r l)) (Fin.ext (by show 256 + k.val - 256 = k.val; omega))
  rw [ckvB_apply, rCK_apply, G.e6, row128]
  simp only [e]

/-- A head's columns of the packed query weight. -/
theorem wq_eq (h : Fin 4) (k : Fin 256) (l : Fin 128) : wqH x7 h (ix2 k l)
    = if _ : l.val < 96 then a6 (ix2 k ⟨h.val * 96 + l.val, by omega⟩) else if _ : l.val < 112 then a6 (ix2 k ⟨h.val * 96 + (64 + (l.val - 96)), by omega⟩) else 0 := by
  have e : wqH x7 h (ix2 k l) = hWQ a6 (ix2 k ⟨128 * h.val + l.val, by omega⟩) := by
    rw [G.e7]
    exact congrArg (hWQ a6) (ix2_eq_valueIdx _ _).symm
  have q1 : (128 * h.val + l.val) % 128 = l.val := by omega
  have q2 : (128 * h.val + l.val) / 128 = h.val := by omega
  rw [e, hWQ_apply]
  simp only [q1, q2]
  by_cases c : l.val < 96
  · rw [dif_pos c, dif_pos c]
  · rw [dif_neg c, dif_neg c]
    by_cases c' : l.val < 112
    · rw [dif_pos (show l.val - 96 < 16 by omega), dif_pos c']
    · rw [dif_neg (show ¬ l.val - 96 < 16 by omega), dif_neg c']

/-- A head's queries, before they are turned. -/
theorem e_eq (h : Fin 4) (r : Fin 2048) (l : Fin 128) : ∑ k : Fin 256, cqB x1 x5 (ix2 r k) * wqH x7 h (ix2 k l)
    = if c : l.val < 96 then rUQ (rCQ a0 a4) a6 (ix4 b r h ⟨l.val, c⟩) else if c : l.val < 112 then rUQ (rCQ a0 a4) a6 (ix4 b r h ⟨64 + (l.val - 96), by omega⟩) else 0 := by
  simp only [cq_eq G, wq_eq G]
  by_cases c : l.val < 96
  · simp only [dif_pos c, rUQ_apply]
  · by_cases c' : l.val < 112
    · simp only [dif_neg c, dif_pos c', rUQ_apply]
    · simp only [dif_neg c, dif_neg c', mul_zero, Finset.sum_const_zero]

/-- The shared key lanes. -/
theorem kr_eq (r : Fin 2048) (l : Fin 128) : krB x2 x3 x4 (ix2 r l)
    = if c : 64 ≤ l.val ∧ l.val < 96 then rKR a2 rCOS rSIN (ix3 b r ⟨l.val - 64, by omega⟩) else 0 := by
  rw [krB_apply, mask_eq]
  by_cases c : 64 ≤ l.val ∧ l.val < 96
  · obtain ⟨d, rfl⟩ : ∃ d : Fin 32, l = ⟨64 + d.val, Nat.lt_of_lt_of_le (Nat.add_lt_add_left d.isLt 64) (by decide)⟩ := ⟨⟨l.val - 64, by omega⟩, Fin.ext (by show l.val = 64 + (l.val - 64); omega)⟩
    have cd : (⟨64 + d.val - 64, by omega⟩ : Fin 32) = d := Fin.ext (by show 64 + d.val - 64 = d.val; omega)
    rw [if_pos c, dif_pos c]
    show x2 _ * _ + x2 _ * _ = rKR a2 rCOS rSIN (ix3 b r ⟨64 + d.val - 64, _⟩)
    rw [cd, rKR_apply, G.e2, G.e2, hM_apply, hM_apply, G.e3, G.e4, hCT_apply, hST_apply, hCOS_eq, hSIN_eq]
    unfold rot
    by_cases q : d.val < 16
    · rw [dif_neg (show ¬ 64 + d.val < 8 by omega), dif_neg (show ¬ 64 + d.val - 8 < 56 by omega), dif_pos (show 64 + d.val - 8 - 56 < 32 by omega),
        dif_neg (show ¬ (64 + d.val + 128 - 112) % 128 < 8 by omega), dif_neg (show ¬ (64 + d.val + 128 - 112) % 128 - 8 < 56 by omega), dif_pos (show (64 + d.val + 128 - 112) % 128 - 8 - 56 < 32 by omega),
        dif_neg (show ¬ 64 + d.val < 64 by omega), dif_pos (show 64 + d.val - 64 < 16 by omega), dif_neg (show ¬ 64 + d.val < 64 by omega), dif_pos (show 64 + d.val - 64 < 16 by omega), dif_pos q,
        mul_neg, ← sub_eq_add_neg]
      have i1 : (⟨64 + d.val - 8 - 56, by omega⟩ : Fin 32) = d := Fin.ext (by show 64 + d.val - 8 - 56 = d.val; omega)
      have i2 : (⟨(64 + d.val + 128 - 112) % 128 - 8 - 56, by omega⟩ : Fin 32) = ⟨16 + d.val, by omega⟩ := Fin.ext (by show (64 + d.val + 128 - 112) % 128 - 8 - 56 = 16 + d.val; omega)
      have i3 : (⟨64 + d.val - 64, by omega⟩ : Fin 16) = ⟨d.val, q⟩ := Fin.ext (by show 64 + d.val - 64 = d.val; omega)
      simp only [i1, i2, i3]
    · rw [dif_neg (show ¬ 64 + d.val < 8 by omega), dif_neg (show ¬ 64 + d.val - 8 < 56 by omega), dif_pos (show 64 + d.val - 8 - 56 < 32 by omega),
        dif_neg (show ¬ (64 + d.val + 128 - 112) % 128 < 8 by omega), dif_neg (show ¬ (64 + d.val + 128 - 112) % 128 - 8 < 56 by omega), dif_neg (show ¬ (64 + d.val + 128 - 112) % 128 - 8 - 56 < 32 by omega),
        dif_pos (show (64 + d.val + 128 - 112) % 128 - 8 - 56 - 32 < 16 by omega),
        dif_neg (show ¬ 64 + d.val < 64 by omega), dif_neg (show ¬ 64 + d.val - 64 < 16 by omega), dif_pos (show 64 + d.val - 64 - 16 < 16 by omega),
        dif_neg (show ¬ 64 + d.val < 64 by omega), dif_neg (show ¬ 64 + d.val - 64 < 16 by omega), dif_pos (show 64 + d.val - 64 - 16 < 16 by omega), dif_neg q]
      have i1 : (⟨64 + d.val - 8 - 56, by omega⟩ : Fin 32) = ⟨16 + (d.val - 16), by omega⟩ := Fin.ext (by show 64 + d.val - 8 - 56 = 16 + (d.val - 16); omega)
      have i2 : (⟨(64 + d.val + 128 - 112) % 128 - 8 - 56 - 32, by omega⟩ : Fin 32) = ⟨d.val - 16, by omega⟩ := Fin.ext (by show (64 + d.val + 128 - 112) % 128 - 8 - 56 - 32 = d.val - 16; omega)
      have i3 : (⟨64 + d.val - 64 - 16, by omega⟩ : Fin 16) = ⟨d.val - 16, by omega⟩ := Fin.ext (by show 64 + d.val - 64 - 16 = d.val - 16; omega)
      simp only [i1, i2, i3]
  · rw [if_neg c, dif_neg c]
    rfl

/-- A head's columns of the packed key and value weight. -/
theorem wk_eq (h : Fin 4) (k : Fin 128) (l : Fin 128) : wkH x8 h (ix2 k l) = if _ : l.val < 64 then a7 (ix2 k ⟨h.val * 128 + l.val, by omega⟩) else 0 := by
  have e : wkH x8 h (ix2 k l) = hWKV hOdd a7 (ix2 k ⟨128 * h.val + l.val, by omega⟩) := by
    rw [G.e8]
    exact congrArg (hWKV hOdd a7) (ix2_eq_valueIdx _ _).symm
  have q1 : (128 * h.val + l.val) % 128 = l.val := by omega
  have q2 : (128 * h.val + l.val) / 128 = h.val := by omega
  rw [e, hWKV_apply, dif_pos (show 128 * h.val + l.val < 512 by omega)]
  simp only [q1, q2]
  rw [hK_apply, hKV_apply]

theorem wv_eq (h : Fin 4) (k : Fin 128) (l : Fin 128) : wvH x8 h (ix2 k l)
    = if _ : l.val < 64 then (if h.val % 2 = 1 then 0 else a7 (ix2 k ⟨h.val * 128 + (64 + l.val), by omega⟩))
      else (if h.val % 2 = 1 then a7 (ix2 k ⟨h.val * 128 + (64 + (l.val - 64)), by omega⟩) else 0) := by
  have e : wvH x8 h (ix2 k l) = hWKV hOdd a7 (ix2 k ⟨512 + 128 * h.val + l.val, by omega⟩) := by
    rw [G.e8]
    exact congrArg (hWKV hOdd a7) (ix2_eq_valueIdx _ _).symm
  have q1 : (512 + 128 * h.val + l.val - 512) % 128 = l.val := by omega
  have q2 : (512 + 128 * h.val + l.val - 512) / 128 = h.val := by omega
  rw [e, hWKV_apply, dif_neg (show ¬ 512 + 128 * h.val + l.val < 512 by omega)]
  simp only [q1, q2]
  rw [hV_apply, hOdd_apply]
  simp only [hKV_apply]
  by_cases c : h.val % 2 = 1
  · simp only [if_pos c]; rfl
  · simp only [if_neg c]; rfl

/-- A head's keys. -/
theorem k_eq (h : Fin 4) (j : Fin 2048) (l : Fin 128) : kB x1 x2 x3 x4 x6 x8 h (ix2 j l)
    = if c : l.val < 64 then rUK (rCK a1 a5) a7 (ix4 b j h ⟨l.val, by omega⟩) else if c : l.val < 96 then rKR a2 rCOS rSIN (ix3 b j ⟨l.val - 64, by omega⟩) else 0 := by
  rw [kB_apply, kr_eq G]
  simp only [ck_eq G, wk_eq G]
  by_cases c : l.val < 64
  · simp only [dif_pos c, rUK_apply, dif_neg (show ¬ (64 ≤ l.val ∧ l.val < 96) by omega), add_zero]
  · by_cases c' : l.val < 96
    · simp only [dif_neg c, dif_pos c', dif_pos (show 64 ≤ l.val ∧ l.val < 96 by omega), mul_zero, Finset.sum_const_zero, zero_add]
    · simp only [dif_neg c, dif_neg c', dif_neg (show ¬ (64 ≤ l.val ∧ l.val < 96) by omega), mul_zero, Finset.sum_const_zero, zero_add]

/-- A head's values. -/
theorem v_eq (h : Fin 4) (j : Fin 2048) (l : Fin 128) : vB x1 x6 x8 h (ix2 j l)
    = if _ : l.val < 64 then (if h.val % 2 = 1 then 0 else rUK (rCK a1 a5) a7 (ix4 b j h ⟨64 + l.val, by omega⟩))
      else (if h.val % 2 = 1 then rUK (rCK a1 a5) a7 (ix4 b j h ⟨64 + (l.val - 64), by omega⟩) else 0) := by
  rw [vB_apply]
  simp only [ck_eq G, wv_eq G]
  by_cases c : l.val < 64 <;> by_cases c' : h.val % 2 = 1
  · simp only [dif_pos c, if_pos c', mul_zero, Finset.sum_const_zero]
  · simp only [dif_pos c, if_neg c', rUK_apply]
  · simp only [dif_neg c, if_pos c', rUK_apply]
  · simp only [dif_neg c, if_neg c', mul_zero, Finset.sum_const_zero]

/-- The score of the reference before its scale. -/
theorem rawIsR (h : Fin 4) (r j : Fin 2048) : IsR (∑ d : Fin 64, rUQ (rCQ a0 a4) a6 (ix4 b r h ⟨d.val, by omega⟩) * rUK (rCK a1 a5) a7 (ix4 b j h ⟨d.val, by omega⟩)
    + ∑ x : Fin 32, rKR a2 rCOS rSIN (ix3 b j x) * rot (fun d => rUQ (rCQ a0 a4) a6 (ix4 b r h ⟨64 + d.val, by omega⟩)) (fun d => rCOS (ix2 r d)) (fun d => rSIN (ix2 r d)) x) := by
  refine (IsR.sum _ fun d => (rUQ_isR (rCQ_isR a0 G.f4) G.f6 _ _ _ _).mul (rUK_isR (rCK_isR a1 G.f5) G.f7 _ _ _ _)).add (IsR.sum _ fun x => IsR.mul ?_ ?_)
  · rw [rKR_apply]
    exact Cert.Mla.rot_isR (fun _ => G.f2 _ _ _) (fun _ => rCOS_isR _ _) (fun _ => rSIN_isR _ _) _
  · exact Cert.Mla.rot_isR (fun _ => rUQ_isR (rCQ_isR a0 G.f4) G.f6 _ _ _ _) (fun _ => rCOS_isR _ _) (fun _ => rSIN_isR _ _) _

/-- The kernel's score. -/
theorem s_eq (h : Fin 4) (r j : Fin 2048) : ∑ x : Fin 128, qB x1 x3 x4 x5 x7 h (ix2 r x) * kB x1 x2 x3 x4 x6 x8 h (ix2 j x)
    = (∑ d : Fin 64, rUQ (rCQ a0 a4) a6 (ix4 b r h ⟨d.val, by omega⟩) * rUK (rCK a1 a5) a7 (ix4 b j h ⟨d.val, by omega⟩)
      + ∑ x : Fin 32, rKR a2 rCOS rSIN (ix3 b j x) * rot (fun d => rUQ (rCQ a0 a4) a6 (ix4 b r h ⟨64 + d.val, by omega⟩)) (fun d => rCOS (ix2 r d)) (fun d => rSIN (ix2 r d)) x)
      * (((Real.sqrt 96)⁻¹ * (Real.log 2)⁻¹ : ℝ) : EReal) := by
  have n : (Named.named (F := Ideal) (φ := FTy.f32) κ "qscale" 1041680192#32 : EReal) = (((Real.sqrt 96)⁻¹ * (Real.log 2)⁻¹ : ℝ) : EReal) :=
    IdealRules.named_const.ideal_named_scalar _ _ _ _ rfl
  simp only [qB_apply, n]
  refine Cert.Mla.score_eq (fun d => rUQ (rCQ a0 a4) a6 (ix4 b r h d)) (fun d => rUK (rCK a1 a5) a7 (ix4 b j h ⟨d.val, by omega⟩)) (fun d => rKR a2 rCOS rSIN (ix3 b j d))
    (fun d => rCOS (ix2 r d)) (fun d => rSIN (ix2 r d)) _ (fun d => rUQ_isR (rCQ_isR a0 G.f4) G.f6 _ _ _ _) (fun d => rUK_isR (rCK_isR a1 G.f5) G.f7 _ _ _ _) (fun d => ?_)
    (fun _ => rCOS_isR _ _) (fun _ => rSIN_isR _ _)
    (fun l => ∑ k : Fin 256, cqB x1 x5 (ix2 r k) * wqH x7 h (ix2 k l)) (fun l => x3 (ix2 r l)) (fun l => x4 (ix2 r l)) (fun l => kB x1 x2 x3 x4 x6 x8 h (ix2 j l))
    (fun l => e_eq G h r l) (fun l => ?_) (fun l => ?_) (fun l => k_eq G h j l)
  · rw [rKR_apply]
    exact Cert.Mla.rot_isR (fun _ => G.f2 _ _ _) (fun _ => rCOS_isR _ _) (fun _ => rSIN_isR _ _) _
  · exact (congrFun G.e3 _).trans (hCT_apply _ r l)
  · exact (congrFun G.e4 _).trans (hST_apply _ r l)

/-- A head's mean of real values is the reference's. -/
theorem head_eq (h : Fin 4) (r : Fin 2048) (w : Fin 2048 → EReal) (hw : ∀ j, IsR (w j)) :
    Cert.Mla.meanTwo (fun j : Fin 2048 => ∑ x : Fin 128, qB x1 x3 x4 x5 x7 h (ix2 r x) * kB x1 x2 x3 x4 x6 x8 h (ix2 j x)) w
      = Cert.Mla.meanSoft (fun j : Fin 2048 => rSC (rUQ (rCQ a0 a4) a6) (rUK (rCK a1 a5) a7) (rKR a2 rCOS rSIN) (rQR (rUQ (rCQ a0 a4) a6) rCOS rSIN) (ix4 b h r j)) w := by
  choose u hu using fun j => rawIsR G h r j
  choose v hv using hw
  have hs : (fun j : Fin 2048 => ∑ x : Fin 128, qB x1 x3 x4 x5 x7 h (ix2 r x) * kB x1 x2 x3 x4 x6 x8 h (ix2 j x)) = fun j => ((u j * ((Real.sqrt 96)⁻¹ * (Real.log 2)⁻¹) : ℝ) : EReal) :=
    funext fun j => by rw [s_eq G, hu, ← EReal.coe_mul]
  have ht : (fun j : Fin 2048 => rSC (rUQ (rCQ a0 a4) a6) (rUK (rCK a1 a5) a7) (rKR a2 rCOS rSIN) (rQR (rUQ (rCQ a0 a4) a6) rCOS rSIN) (ix4 b h r j)) = fun j => ((u j * (Real.sqrt 96)⁻¹ : ℝ) : EReal) :=
    funext fun j => by
      rw [rSC_apply, scale_eq]
      simp only [rQR_apply]
      rw [hu, ← EReal.coe_mul]
  rw [hs, ht, funext hv]
  exact Cert.Mla.mean_eq (n := 2047) u v _ (by positivity)

/-- The kernel's block at batch entry `b` is the reference's result there. -/
theorem block_eq (r : Fin 2048) (k : Fin 256) : outB x1 x2 x3 x4 x5 x6 x7 x8 (ix3 0 r k)
    = rOUT (rUK (rCK a1 a5) a7) (rPR (rEX (rSC (rUQ (rCQ a0 a4) a6) (rUK (rCK a1 a5) a7) (rKR a2 rCOS rSIN) (rQR (rUQ (rCQ a0 a4) a6) rCOS rSIN)))) (ix3 b r k) := by
  have hV : ∀ (h : Fin 4) (d : Fin 128) (j : Fin 2048), IsR (rUK (rCK a1 a5) a7 (ix4 b j h d)) := fun h d j => rUK_isR (rCK_isR a1 G.f5) G.f7 _ _ _ _
  obtain ⟨p, l, rfl⟩ : ∃ (p : Fin 2) (l : Fin 128), k = ⟨128 * p.val + l.val, by omega⟩ :=
    ⟨⟨k.val / 128, by omega⟩, ⟨k.val % 128, by omega⟩, Fin.ext (by show k.val = 128 * (k.val / 128) + k.val % 128; omega)⟩
  rw [outB_apply, rOUT_mean]
  simp only [v_eq G]
  by_cases c : l.val < 64
  · have i1 : (⟨(128 * p.val + l.val) / 64, by omega⟩ : Fin 4) = ⟨2 * p.val, by omega⟩ := Fin.ext (by show (128 * p.val + l.val) / 64 = 2 * p.val; omega)
    have i2 : (⟨64 + (128 * p.val + l.val) % 64, by omega⟩ : Fin 128) = ⟨64 + l.val, by omega⟩ := Fin.ext (by show 64 + (128 * p.val + l.val) % 64 = 64 + l.val; omega)
    simp only [dif_pos c, if_neg (show ¬ 2 * p.val % 2 = 1 by omega), if_pos (show (2 * p.val + 1) % 2 = 1 by omega), i1, i2]
    rw [head_eq G _ _ _ (hV _ _), head_eq G _ _ _ (fun _ => IsR.zero), Cert.Mla.meanSoft_zero, add_zero]
  · have i1 : (⟨(128 * p.val + l.val) / 64, by omega⟩ : Fin 4) = ⟨2 * p.val + 1, by omega⟩ := Fin.ext (by show (128 * p.val + l.val) / 64 = 2 * p.val + 1; omega)
    have i2 : (⟨64 + (128 * p.val + l.val) % 64, by omega⟩ : Fin 128) = ⟨64 + (l.val - 64), by omega⟩ := Fin.ext (by show 64 + (128 * p.val + l.val) % 64 = 64 + (l.val - 64); omega)
    simp only [dif_neg c, if_neg (show ¬ 2 * p.val % 2 = 1 by omega), if_pos (show (2 * p.val + 1) % 2 = 1 by omega), i1, i2]
    rw [head_eq G _ _ _ (hV _ _), head_eq G _ _ _ (fun _ => IsR.zero), Cert.Mla.meanSoft_zero, zero_add]

end

end Cert.KernelIdeal.Hand

end

end
-- ==== Proof.KI.Host.lean ====
module

public import proofs.«01_k».proof.Proof.KI.Arrays
public import Idealize.ShloMosaic.Lib.Pointwise
public import Idealize.ShloMosaic.Lib.MatmulPlain

@[expose] public section

set_option maxRecDepth 16384

noncomputable section

namespace Cert.KernelIdeal.Hand

open Cert.KernelIdeal Cert.KernelIdeal.Gen
open Idealize.ShloMosaic
open Idealize.ShloMosaic.StableHlo Idealize.ShloMosaic.TcCoe

section
variable (m : (ℓ : Loc nD τ sig) → Buf (Elt Ideal) ℓ) (c : Dev nD)

theorem V_v20 : V m c main_v20 = hCT hCOS := by
  simp only [V, hostOps0, hostOps0_1, hostOps0_2, hostOps0_3, hostOps0_4, hostOps0_5, List.flatten_cons, List.flatten_nil, List.append_nil, List.cons_append, List.nil_append]
  after_results_simp <;> rfl

theorem V_v24 : V m c main_v24 = hST hSIN := by
  simp only [V, hostOps0, hostOps0_1, hostOps0_2, hostOps0_3, hostOps0_4, hostOps0_5, List.flatten_cons, List.flatten_nil, List.append_nil, List.cons_append, List.nil_append]
  after_results_simp <;> rfl

theorem V_v25 : V m c main_v25 = hX (m ((c.tc : Thread nD τ).loc main_arg0)) (m ((c.tc : Thread nD τ).loc main_arg1)) := by
  simp only [V, hostOps0, hostOps0_1, hostOps0_2, hostOps0_3, hostOps0_4, hostOps0_5, List.flatten_cons, List.flatten_nil, List.append_nil, List.cons_append, List.nil_append]
  after_results_simp <;> rfl

theorem V_v29 : V m c main_v29 = hM (m ((c.tc : Thread nD τ).loc main_arg2)) (m ((c.tc : Thread nD τ).loc main_arg3)) := by
  simp only [V, hostOps0, hostOps0_1, hostOps0_2, hostOps0_3, hostOps0_4, hostOps0_5, List.flatten_cons, List.flatten_nil, List.append_nil, List.cons_append, List.nil_append]
  after_results_simp <;> rfl

theorem V_v51 : V m c main_v51 = hWQ (m ((c.tc : Thread nD τ).loc main_arg6)) := by
  simp only [V, hostOps0, hostOps0_1, hostOps0_2, hostOps0_3, hostOps0_4, hostOps0_5, List.flatten_cons, List.flatten_nil, List.append_nil, List.cons_append, List.nil_append]
  after_results_simp <;> rfl

/-- Running two lists of host operations in turn is running them as one. -/
theorem after_app (a b : List (HloOp τ sig (Elt Ideal))) (W : Valuation τ sig (Elt Ideal)) :
    StableHlo.after (a ++ b) W = StableHlo.after b (StableHlo.after a W) := by
  induction a generalizing W with
  | nil => rfl
  | cons x a ih => exact ih _

/-- What the first three runs of host operations leave. -/
def W1 : Valuation τ sig (Elt Ideal) := StableHlo.after (List.flatten [hostOps0, hostOps0_1, hostOps0_2]) (fun b => m (c, b))

theorem W1_v46 : W1 m c (Proc.devRef .tc main_v46) = hOdd := by
  simp only [W1, hostOps0, hostOps0_1, hostOps0_2, List.flatten_cons, List.flatten_nil, List.append_nil, List.cons_append, List.nil_append]
  after_results_simp
  rfl

theorem W1_v39 : W1 m c (Proc.devRef .tc main_v39) = shapeCast S128x512 (hK (m ((c.tc : Thread nD τ).loc main_arg7))) shapeCasts_S128x4x128_S128x512 := by
  simp only [W1, hostOps0, hostOps0_1, hostOps0_2, List.flatten_cons, List.flatten_nil, List.append_nil, List.cons_append, List.nil_append]
  after_results_simp <;> rfl

theorem W1_v40 : W1 m c (Proc.devRef .tc main_v40) = extractStridedSlice S128x4x64 ![0, 0, 64] (hKV (m ((c.tc : Thread nD τ).loc main_arg7))) slices_S128x4x128_S128x4x64_0_0_64 := by
  simp only [W1, hostOps0, hostOps0_1, hostOps0_2, List.flatten_cons, List.flatten_nil, List.append_nil, List.cons_append, List.nil_append]
  after_results_simp <;> rfl

theorem W1_v41 : W1 m c (Proc.devRef .tc main_v41) = (broadcastInDim S128x4x64 ![] bcast_S_S128x4x64 (constant S_ .f32 0x00000000#32) : FVec Ideal S128x4x64 .f32) := by
  simp only [W1, hostOps0, hostOps0_1, hostOps0_2, List.flatten_cons, List.flatten_nil, List.append_nil, List.cons_append, List.nil_append]
  after_results_simp <;> rfl

theorem V_v53 : V m c main_v53 = hWKV hOdd (m ((c.tc : Thread nD τ).loc main_arg7)) := by
  have e : V m c main_v53 = StableHlo.after (List.flatten [hostOps0_3, hostOps0_4, hostOps0_5]) (W1 m c) (Proc.devRef .tc main_v53) := by
    rw [W1, ← after_app]
    rfl
  rw [e]
  have h46 := W1_v46 m c
  have h39 := W1_v39 m c
  have h40 := W1_v40 m c
  have h41 := W1_v41 m c
  generalize W1 m c = W at h46 h39 h40 h41
  simp only [hostOps0_3, hostOps0_4, hostOps0_5, List.flatten_cons, List.flatten_nil, List.append_nil, List.cons_append, List.nil_append]
  after_results_simp
  refine congrArg (fun x => truncf .bf16 x bitsLt_bf16_f32) (congrArg₂ (fun (a b : FVec Ideal S128x512 .f32) => concatenate S128x1024 1 [⟨S128x512, a⟩, ⟨S128x512, b⟩] concatenates_S128x512_S128x512_S128x1024_d1) ?_ ?_)
  · after_results_simp
    exact h39
  · after_results_simp
    refine congrArg (fun x => shapeCast S128x512 x shapeCasts_S128x4x128_S128x512) (congrArg₂ (fun (a b : FVec Ideal S128x4x64 .f32) => concatenate S128x4x128 2 [⟨S128x4x64, a⟩, ⟨S128x4x64, b⟩] concatenates_S128x4x64_S128x4x64_S128x4x128_d2) ?_ ?_)
    · after_results_simp
      rw [h46, h40, h41]
      rfl
    · after_results_simp
      rw [h46, h40, h41]
      rfl

theorem V_v54 : V m c main_v54 = shapeCast S1x256 (m ((c.tc : Thread nD τ).loc main_arg4)) shapeCasts_S256_S1x256 := by
  simp only [V, hostOps0, hostOps0_1, hostOps0_2, hostOps0_3, hostOps0_4, hostOps0_5, List.flatten_cons, List.flatten_nil, List.append_nil, List.cons_append, List.nil_append]
  after_results_simp <;> rfl

theorem V_v55 : V m c main_v55 = shapeCast S1x128 (m ((c.tc : Thread nD τ).loc main_arg5)) shapeCasts_S128_S1x128 := by
  simp only [V, hostOps0, hostOps0_1, hostOps0_2, hostOps0_3, hostOps0_4, hostOps0_5, List.flatten_cons, List.flatten_nil, List.append_nil, List.cons_append, List.nil_append]
  after_results_simp <;> rfl

end

end Cert.KernelIdeal.Hand

end

end
-- ==== Proof.KI.Value.lean ====
module

public import proofs.«01_k».proof.Proof.KI.Bridge
public import proofs.«01_k».proof.Proof.KI.Host
public import Idealize.ShloMosaic.Lib.Pipeline.ValueKit
public import Idealize.ShloMosaic.Lib.Pointwise
public import Idealize.ShloMosaic.Lib.MatmulPlain

@[expose] public section

set_option maxRecDepth 16384

noncomputable section

namespace Cert.KernelIdeal.Hand

open Cert.KernelIdeal Cert.KernelIdeal.Gen
open Idealize.ShloMosaic

open Cert.ReferenceIdeal.Hand (rCOS rSIN rCQ rCK rUQ rUK rKR rQR rSC rEX rPR rOUT)
open Cert.Mla (IsR)
open Idealize.ShloMosaic.TcCoe

/-- The reference's result as a function of the arguments. -/
def mlaOut (a0 : FVec Ideal S32x2048x256 .f32) (a1 : FVec Ideal S32x2048x128 .f32) (a2 : FVec Ideal S32x2048x32 .f32)
    (a4 : FVec Ideal S256 .f32) (a5 : FVec Ideal S128 .f32) (a6 : FVec Ideal S256x384 .f32) (a7 : FVec Ideal S128x512 .f32) : FVec Ideal S32x2048x256 .f32 :=
  rOUT (rUK (rCK a1 a5) a7) (rPR (rEX (rSC (rUQ (rCQ a0 a4) a6) (rUK (rCK a1 a5) a7) (rKR a2 rCOS rSIN) (rQR (rUQ (rCQ a0 a4) a6) rCOS rSIN))))

variable (m : (ℓ : Loc nD τ sig) → Buf (Elt Ideal) ℓ) (ρ : Dev nD → PrngReg) (c : Dev nD)

/-- The windows' block indices: the first two and the result's are the grid point, the others' the one block. -/
theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx8 : ∀ t : Fin cfg0.N, win0_8.index t = ![t.val, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)

theorem iblk2 (t : Fin cfg0.N) : iblk m c 2 t = V m c main_v20 := funext fun y => by
  blk_simp [iblk]
  refine congrArg (V m c main_v20) (funext fun a => Fin.ext ?_)
  match a with
  | ⟨0, _⟩ => blk_simp [idx2 t]
  | ⟨1, _⟩ => blk_simp [idx2 t]
theorem iblk3 (t : Fin cfg0.N) : iblk m c 3 t = V m c main_v24 := funext fun y => by
  blk_simp [iblk]
  refine congrArg (V m c main_v24) (funext fun a => Fin.ext ?_)
  match a with
  | ⟨0, _⟩ => blk_simp [idx3 t]
  | ⟨1, _⟩ => blk_simp [idx3 t]
theorem iblk4 (t : Fin cfg0.N) : iblk m c 4 t = V m c main_v54 := funext fun y => by
  blk_simp [iblk]
  refine congrArg (V m c main_v54) (funext fun a => Fin.ext ?_)
  match a with
  | ⟨0, _⟩ => blk_simp [idx4 t]
  | ⟨1, _⟩ => blk_simp [idx4 t]
theorem iblk5 (t : Fin cfg0.N) : iblk m c 5 t = V m c main_v55 := funext fun y => by
  blk_simp [iblk]
  refine congrArg (V m c main_v55) (funext fun a => Fin.ext ?_)
  match a with
  | ⟨0, _⟩ => blk_simp [idx5 t]
  | ⟨1, _⟩ => blk_simp [idx5 t]
theorem iblk6 (t : Fin cfg0.N) : iblk m c 6 t = V m c main_v51 := funext fun y => by
  blk_simp [iblk]
  refine congrArg (V m c main_v51) (funext fun a => Fin.ext ?_)
  match a with
  | ⟨0, _⟩ => blk_simp [idx6 t]
  | ⟨1, _⟩ => blk_simp [idx6 t]
theorem iblk7 (t : Fin cfg0.N) : iblk m c 7 t = V m c main_v53 := funext fun y => by
  blk_simp [iblk]
  refine congrArg (V m c main_v53) (funext fun a => Fin.ext ?_)
  match a with
  | ⟨0, _⟩ => blk_simp [idx7 t]
  | ⟨1, _⟩ => blk_simp [idx7 t]

/-- The batch entry of a grid point. -/
abbrev bt (t : Fin cfg0.N) : Fin 32 := ⟨t.val, t.isLt.trans_eq N_0⟩

theorem iblk0 (t : Fin cfg0.N) (r : Fin 2048) (l : Fin 384) : iblk m c 0 t (ix3 0 r l) = V m c main_v25 (ix3 (bt t) r l) := by
  blk_simp [iblk]
  refine congrArg (V m c main_v25) (funext fun a => Fin.ext ?_)
  match a with
  | ⟨0, _⟩ => blk_simp [idx0 t]; rfl
  | ⟨1, _⟩ => blk_simp [idx0 t]
  | ⟨2, _⟩ => blk_simp [idx0 t]

theorem iblk1 (t : Fin cfg0.N) (r : Fin 2048) (l : Fin 128) : iblk m c 1 t (ix3 0 r l) = V m c main_v29 (ix3 (bt t) r l) := by
  blk_simp [iblk]
  refine congrArg (V m c main_v29) (funext fun a => Fin.ext ?_)
  match a with
  | ⟨0, _⟩ => blk_simp [idx1 t]; rfl
  | ⟨1, _⟩ => blk_simp [idx1 t]
  | ⟨2, _⟩ => blk_simp [idx1 t]

/-- The arguments that are to be finite, entry by entry. -/
structure Fin' : Prop where
  f2 : ∀ (n : Fin 32) (r : Fin 2048) (l : Fin 32), IsR ((m ((c.tc : Thread nD τ).loc main_arg2) : FVec Ideal S32x2048x32 .f32) (ix3 n r l))
  f4 : ∀ k : Fin 256, IsR ((m ((c.tc : Thread nD τ).loc main_arg4) : FVec Ideal S256 .f32) (ix1 k))
  f5 : ∀ k : Fin 128, IsR ((m ((c.tc : Thread nD τ).loc main_arg5) : FVec Ideal S128 .f32) (ix1 k))
  f6 : ∀ (x : Fin 256) (y : Fin 384), IsR ((m ((c.tc : Thread nD τ).loc main_arg6) : FVec Ideal S256x384 .f32) (ix2 x y))
  f7 : ∀ (x : Fin 128) (y : Fin 512), IsR ((m ((c.tc : Thread nD τ).loc main_arg7) : FVec Ideal S128x512 .f32) (ix2 x y))

variable {m c}

/-- What the kernel is given at a point. -/
theorem given (f : Fin' m c) (t : Fin cfg0.N) : Given (bt t) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    (iblk m c 0 t) (iblk m c 1 t) (iblk m c 2 t) (iblk m c 3 t) (iblk m c 4 t) (iblk m c 5 t) (iblk m c 6 t) (iblk m c 7 t) where
  e1 r l := (iblk0 m c t r l).trans (congrFun (V_v25 m c) _)
  e2 r l := (iblk1 m c t r l).trans (congrFun (V_v29 m c) _)
  e3 := (iblk2 m c t).trans (V_v20 m c)
  e4 := (iblk3 m c t).trans (V_v24 m c)
  e5 := (iblk4 m c t).trans (V_v54 m c)
  e6 := (iblk5 m c t).trans (V_v55 m c)
  e7 := (iblk6 m c t).trans (V_v51 m c)
  e8 := (iblk7 m c t).trans (V_v53 m c)
  f2 := f.f2
  f4 := f.f4
  f5 := f.f5
  f6 := f.f6
  f7 := f.f7

/-- The result array after the run. -/
theorem final (f : Fin' m c) : (dats m 0 c).arrAt 8 cfg0.N = mlaOut (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6)) (m ((c.tc : Thread nD τ).loc main_arg7)) := by
  refine (dats m 0 c).arrAt_eq_of_covers 8 _ (by decide +kernel) fun t hf y => ?_
  blk_simp
  rw [after0_8]
  unfold outsAt
  have hy : y = ix3 (0 : Fin 1) (y 1) (y 2) := funext fun a => by
    match a with
    | ⟨0, _⟩ => exact Subsingleton.elim (α := Fin 1) _ _
    | ⟨1, _⟩ => rfl
    | ⟨2, _⟩ => rfl
  have he : ((cfg0.win 8).blk t).view.emb y = ix3 (bt t) (y 1) (y 2) := funext fun a => Fin.ext (by
    have h0 : (y 0).val = 0 := Nat.lt_one_iff.mp (y 0).isLt
    match a with
    | ⟨0, _⟩ => blk_simp [idx8 t]
    | ⟨1, _⟩ => blk_simp [idx8 t]; rfl
    | ⟨2, _⟩ => blk_simp [idx8 t]; rfl)
  rw [he]
  refine Eq.trans ?_ (block_eq (given f t) (y 1) (y 2))
  exact congrArg _ hy

/-- The run, with the result's value. -/
theorem run (f : ∀ c, Fin' m c) : θ_run defs (onTc (τ := τ) (main (F := Ideal))) ⟨m, fun _ => 0, ρ⟩ (fun r => ∀ c : Dev nD,
    r.2.mem ((c.tc : Thread nD τ).loc main_v56) = mlaOut (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) (m ((c.tc : Thread nD τ).loc main_arg6)) (m ((c.tc : Thread nD τ).loc main_arg7))) :=
  (θ_run defs _ _).mono (fun r h c => ((h.1 c).1 8).trans (final (f c))) (run_main m ρ)

end Cert.KernelIdeal.Hand

end

end
-- ==== Proof.KI.Pre.lean ====
module

public import proofs.«01_k».proof.Defs
public import proofs.«01_k».proof.Pre_finite
public import proofs.«01_k».proof.Proof.KI.Value
public import Idealize.ShloMosaic.Lib.ReduceAll

@[expose] public section

noncomputable section

namespace Cert.KernelIdeal.Hand

open Cert.KernelIdeal Idealize.ShloMosaic
open Cert.Mla (IsR)

/-- An extended real whose absolute value is below infinity is a real. -/
theorem isR_of_abs (x : EReal) (h : Ideal.cmp .olt (max x (-x)) (Ideal.ofBits FTy.f32 0x7F800000#32) = 1#1) : IsR x := by
  have t : Ideal.ofBits FTy.f32 0x7F800000#32 = ⊤ := by simp [Ideal.ofBits, Ideal.ieee, -EReal.coe_mul]
  rw [t] at h
  induction x using EReal.rec with
  | bot => simp [Ideal.cmp] at h
  | top => simp [Ideal.cmp] at h
  | coe r => exact ⟨r, rfl⟩

instance : Subsingleton Cert.Pre_finite.S_.Idx := ⟨fun _ _ => funext fun a => a.elim0⟩

/-- The precondition's arguments are real, entry by entry. -/
theorem fin_of_pre [Cert.Pre_finite.Facts] (m : (ℓ : Loc nD τ sig) → Buf (Elt Ideal) ℓ) (h : Cert.Pre_KernelIdeal_finite m) (c : Dev nD) : Fin' m c := by
  have e := congrFun (h c) (fun a => a.elim0)
  unfold Cert.Pre_finite.fn Cert.Pre_finite.fn_part1 at e
  obtain ⟨e, e7⟩ := IntOp.andi_eq_one.mp e
  obtain ⟨e, e6⟩ := IntOp.andi_eq_one.mp e
  obtain ⟨e, e5⟩ := IntOp.andi_eq_one.mp e
  obtain ⟨e2, e4⟩ := IntOp.andi_eq_one.mp e
  exact {
    f2 := fun n r l => isR_of_abs _ (Host.reduce_andi_all _ _ _ _ _ e2 (ix3 n r l))
    f4 := fun k => isR_of_abs _ (Host.reduce_andi_all _ _ _ _ _ e4 (ix1 k))
    f5 := fun k => isR_of_abs _ (Host.reduce_andi_all _ _ _ _ _ e5 (ix1 k))
    f6 := fun x y => isR_of_abs _ (Host.reduce_andi_all _ _ _ _ _ e6 (ix2 x y))
    f7 := fun x y => isR_of_abs _ (Host.reduce_andi_all _ _ _ _ _ e7 (ix2 x y)) }

end Cert.KernelIdeal.Hand

end

end
-- ==== Proof.lean ====
module

public import proofs.«01_k».proof.Proof.Tail.Value
public import proofs.«01_k».proof.Proof.Tail.Same
public import proofs.«01_k».proof.Proof.Tail.Ref
public import proofs.«01_k».proof.Proof.Gen.Tail
public import proofs.«01_k».proof.Proof.Gen.TailIdeal
public import proofs.«01_k».proof.Proof.Gen.TailReferenceIdeal
public import proofs.«01_k».proof.Proof.Gen.TailReferenceIdeal.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.K.Run
public import proofs.«01_k».proof.Proof.KI.Run
public import proofs.«01_k».proof.Proof.KI.Pre
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.ShloMosaic.StableHlo Idealize.SL.Sem

/-- The kernel's frame: it runs, its arguments stay, its counters end at zero. -/
theorem frame_kernel : Cert.quiescent_Kernel (hKernel := Cert.Kernel.Gen.facts) := fun m ρ _ =>
  θ_run_with_sems (Cert.Kernel.Gen.frame_of m ρ (Cert.Kernel.Hand.dats m) fun _ _ => rfl) (Cert.Kernel.Hand.run_main (F := Bits) m ρ)

/-- The idealized kernel's frame, from every memory. -/
theorem frame_kernelIdeal : Cert.quiescent_KernelIdeal (hKernelIdeal := Cert.KernelIdeal.Gen.facts) := fun m ρ _ =>
  θ_run_with_sems (Cert.KernelIdeal.Gen.frame_of m ρ (Cert.KernelIdeal.Hand.dats m) fun _ _ => rfl)
    (Cert.KernelIdeal.Hand.run_main (F := Ideal) m ρ)

/-- The reference's frame: its run, and it has no counter that could differ from zero. -/
theorem frame_referenceIdeal : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run (F := Ideal) m ρ)

/-- The same two frames under the precondition. -/
theorem frame_kernelIdeal_pre : Cert.quiescent_KernelIdeal_pre_finite (hKernelIdeal := Cert.KernelIdeal.Gen.facts) (hPre_finite := Cert.Pre_finite.Gen.facts) :=
  fun m ρ _ => frame_kernelIdeal m ρ trivial
theorem frame_referenceIdeal_pre : Cert.quiescent_ReferenceIdeal_pre_finite (hReferenceIdeal := Cert.ReferenceIdeal.Gen.facts) (hPre_finite := Cert.Pre_finite.Gen.facts) :=
  fun m ρ _ => frame_referenceIdeal m ρ trivial

/-- The named constant's ledger entry. -/
theorem preserves : Cert.preserves_Kernel_KernelIdeal :=
  IdealRules.named_const.statement Cert.KernelIdeal.κ "qscale" .f32 0x3E16C740#32
    (((Real.sqrt 96)⁻¹ * (Real.log 2)⁻¹ : ℝ) : EReal) rfl

/-- The idealized kernel and the reference end with the same result. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := fun m ρ m' ρ' hp ha =>
  letI := Cert.Pre_finite.Gen.facts
  ⟨fun c => Cert.KernelIdeal.Hand.mlaOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    (θ_run _ _ _).mono (fun r h c => ⟨h.1 c, h.2 c⟩)
      (θ_run_and (Cert.KernelIdeal.Hand.run ρ (Cert.KernelIdeal.Hand.fin_of_pre m hp))
        (Cert.KernelIdeal.Gen.frame_of m ρ (Cert.KernelIdeal.Hand.dats m) (fun _ _ => rfl)
          ((θ_run _ _ _).mono (fun _ h => h.1) (Cert.KernelIdeal.Hand.run_main (F := Ideal) m ρ)))),
    (θ_run _ _ _).mono (fun r h c => ⟨(h c).1.trans (by
        obtain ⟨e0, e1, e2, e3, e4, e5, e6, e7⟩ := ha c
        rw [Cert.ReferenceIdeal.Hand.res_eq, e0, e1, e2, e4, e5, e6, e7]
        rfl), (h c).2⟩) (Cert.ReferenceIdeal.Value.run (F := Ideal) m' ρ')⟩

/-! ## The tail -/

/-- Two families of arrays with equal members are equal. -/
theorem args_ext {A B : Cert.Rows.Args} (e0 : A.ya = B.ya) (e1 : A.yb = B.yb) (e2 : A.yc = B.yc) (e3 : A.yd = B.yd) (e4 : A.h = B.h) (e5 : A.p = B.p) (e6 : A.mg = B.mg) (e7 : A.wo = B.wo) (e8 : A.g1 = B.g1) (e9 : A.b1 = B.b1) (e10 : A.wg = B.wg) (e11 : A.wu = B.wu) (e12 : A.cw = B.cw) (e13 : A.cb = B.cb) (e14 : A.wd = B.wd) (e15 : A.g2 = B.g2) (e16 : A.b2 = B.b2) (e17 : A.pp = B.pp) (e18 : A.pg = B.pg) (e19 : A.pb = B.pb) (e20 : A.g3 = B.g3) (e21 : A.b3 = B.b3) : A = B := by
  cases A; cases B
  subst e0 e1 e2 e3 e4 e5 e6 e7 e8 e9 e10 e11 e12 e13 e14 e15 e16 e17 e18 e19 e20 e21
  rfl

/-- The idealized tail's frame: one run over any values serves it and the tail's own. -/
theorem frame_tailIdeal : Cert.quiescent_TailIdeal (hTailIdeal := Cert.TailIdeal.Gen.facts) := fun m ρ _ => Cert.TailIdeal.Hand.frame (F := Ideal) m ρ

/-- The tail's reference's frame. -/
theorem frame_tailReferenceIdeal : Cert.quiescent_TailReferenceIdeal (hTailReferenceIdeal := Cert.TailReferenceIdeal.Gen.facts) := fun m ρ _ =>
  (θ_run _ _ _).mono (fun r h => ⟨fun c => (h c).2, sem_eq_zero_of_no_sems rfl r.2⟩) (Cert.TailReferenceIdeal.Value.run (F := Ideal) m ρ)

/-- The pass rewrote nothing in the tail. -/
theorem preserves_tail : Cert.preserves_Tail_TailIdeal := trivial

/-- The tail and its reference end with the same rows. -/
theorem algebraic_tail : Cert.algebraic_TailIdeal_TailReferenceIdeal (hTailIdeal := Cert.TailIdeal.Gen.facts) (hTailReferenceIdeal := Cert.TailReferenceIdeal.Gen.facts) :=
  fun m ρ m' ρ' _ ha =>
  ⟨fun c => Cert.TailIdeal.Hand.result m c,
    (θ_run _ _ _).mono (fun r h c => ⟨h.1 c, h.2 c⟩) (θ_run_and (Cert.TailIdeal.Hand.run m ρ) (Cert.TailIdeal.Hand.unchanged (F := Ideal) m ρ)),
    (θ_run _ _ _).mono (fun r h c => ⟨(h c).1.trans (by
        obtain ⟨e0, e1, e2, e3, e4, e5, e6, e7, e8, e9, e10, e11, e12, e13, e14, e15, e16, e17, e18, e19, e20, e21⟩ := ha c
        have e : Cert.TailReferenceIdeal.Hand.args (launchContents m' c) = Cert.TailIdeal.Hand.args m c := args_ext
          (congrArg (fun x : FVec Ideal Cert.TailIdeal.S32x2048x256 .f32 => fun b s k => x (ix3 b s k)) e0)
          (congrArg (fun x : FVec Ideal Cert.TailIdeal.S32x2048x256 .f32 => fun b s k => x (ix3 b s k)) e1)
          (congrArg (fun x : FVec Ideal Cert.TailIdeal.S32x2048x256 .f32 => fun b s k => x (ix3 b s k)) e2)
          (congrArg (fun x : FVec Ideal Cert.TailIdeal.S32x2048x256 .f32 => fun b s k => x (ix3 b s k)) e3)
          (congrArg (fun x : FVec Ideal Cert.TailIdeal.S32x2048x1024 .f32 => fun b s k => x (ix3 b s k)) e4)
          (congrArg (fun x : FVec Ideal Cert.TailIdeal.S2x32x2048x256 .f32 => fun b s k => x (ix4 1 b s k)) e5)
          (congrArg (fun x : FVec Ideal Cert.TailIdeal.S1024 .f32 => fun k => x (ix1 k)) e6)
          (congrArg (fun x : FVec Ideal Cert.TailIdeal.S1024x1024 .f32 => fun k j => x (ix2 k j)) e7)
          (congrArg (fun x : FVec Ideal Cert.TailIdeal.S1024 .f32 => fun k => x (ix1 k)) e8)
          (congrArg (fun x : FVec Ideal Cert.TailIdeal.S1024 .f32 => fun k => x (ix1 k)) e9)
          (congrArg (fun x : FVec Ideal Cert.TailIdeal.S1024x2816 .f32 => fun k j => x (ix2 k j)) e10)
          (congrArg (fun x : FVec Ideal Cert.TailIdeal.S1024x2816 .f32 => fun k j => x (ix2 k j)) e11)
          (congrArg (fun x : FVec Ideal Cert.TailIdeal.S3x2816 .f32 => fun k j => x (ix2 k j)) e12)
          (congrArg (fun x : FVec Ideal Cert.TailIdeal.S2816 .f32 => fun k => x (ix1 k)) e13)
          (congrArg (fun x : FVec Ideal Cert.TailIdeal.S2816x1024 .f32 => fun k j => x (ix2 k j)) e14)
          (congrArg (fun x : FVec Ideal Cert.TailIdeal.S1024 .f32 => fun k => x (ix1 k)) e15)
          (congrArg (fun x : FVec Ideal Cert.TailIdeal.S1024 .f32 => fun k => x (ix1 k)) e16)
          (congrArg (fun x : FVec Ideal Cert.TailIdeal.S256x1024 .f32 => fun k j => x (ix2 k j)) e17)
          (congrArg (fun x : FVec Ideal Cert.TailIdeal.S1024x1024 .f32 => fun k j => x (ix2 k j)) e18)
          (congrArg (fun x : FVec Ideal Cert.TailIdeal.S1024 .f32 => fun k => x (ix1 k)) e19)
          (congrArg (fun x : FVec Ideal Cert.TailIdeal.S1024 .f32 => fun k => x (ix1 k)) e20)
          (congrArg (fun x : FVec Ideal Cert.TailIdeal.S1024 .f32 => fun k => x (ix1 k)) e21)
        refine funext fun y => ?_
        have hy : y = ix2 (y 0) (y 1) := funext fun a => by
          match a with
          | ⟨0, _⟩ => rfl
          | ⟨1, _⟩ => rfl
        refine (congrArg (Cert.TailReferenceIdeal.Hand.result (launchContents m' c)) hy).trans ((Cert.TailReferenceIdeal.Hand.result_apply _ (y 0) (y 1)).trans ?_)
        rw [e]
        rfl), (h c).2⟩) (Cert.TailReferenceIdeal.Value.run (F := Ideal) m' ρ')⟩

/-- Every claim. -/
theorem claim : Cert.Claim := ⟨Cert.Kernel.Gen.facts, Cert.KernelIdeal.Gen.facts, Cert.ReferenceIdeal.Gen.facts, Cert.Tail.Gen.facts, Cert.TailIdeal.Gen.facts,
  Cert.TailReferenceIdeal.Gen.facts, Cert.Pre_finite.Gen.facts,
  frame_kernel, frame_kernelIdeal, frame_kernelIdeal_pre, frame_referenceIdeal, frame_referenceIdeal_pre, frame_tail, frame_tailIdeal, frame_tailReferenceIdeal,
  preserves, algebraic, preserves_tail, algebraic_tail⟩

end Cert.Proof

end
